-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_rows_in_range : Cert.Pre_rows_in_range.Facts) (hPre_in_range_finite : Cert.Pre_in_range_finite.Facts),
    quiescent_Kernel (hKernel := hKernel) (hPre_rows_in_range := hPre_rows_in_range)
    ∧ quiescent_KernelIdeal (hKernelIdeal := hKernelIdeal) (hPre_rows_in_range := hPre_rows_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range_finite.lean ====
abbrev S16 : Shape := ⟨1, ![16]⟩
abbrev S16384 : Shape := ⟨1, ![16384]⟩
abbrev S100000x128 : Shape := ⟨2, ![100000, 128]⟩
abbrev S5x128 : Shape := ⟨2, ![5, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16384 : S_.BroadcastsInDim S16384 (![] : Fin 0 → Fin S16384.rank)
  reducesTo_S16384_S_d0 : S16384.ReducesTo [0] S_
  bcast_S_S100000x128 : S_.BroadcastsInDim S100000x128 (![] : Fin 0 → Fin S100000x128.rank)
  reducesTo_S100000x128_S_d0_1 : S100000x128.ReducesTo [0, 1] S_
  bcast_S_S5x128 : S_.BroadcastsInDim S5x128 (![] : Fin 0 → Fin S5x128.rank)
  reducesTo_S5x128_S_d0_1 : S5x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg16 : FVec F S1 .f32) (main_v81 : IVec S_ 1) (main_v84 : IVec S1x128 1) : IVec S_ 1 :=
  let main_c_33 : IVec S_ 1 := constantI S_ 1 1#1
  let main_v85 : IVec S_ 1 := (fun x v => Host.reduce IntOp.andi x v reducesTo_S1x128_S_d0_1 h_S_) main_v84 main_c_33
  let main_v86 : IVec S_ 1 := andi main_v81 main_v85
  let main_v87 : FVec F S1 .f32 := Host.absf main_arg16
  let main_cst_34 : FVec F S_ .f32 := constant S_ .f32 0x7F800000#32
  let main_v88 : FVec F S1 .f32 := broadcastInDim S1 ![] bcast_S_S1 main_cst_34
  let main_v89 : IVec S1 1 := cmpf .olt main_v87 main_v88
  let main_c_35 : IVec S_ 1 := constantI S_ 1 1#1
  let main_v90 : IVec S_ 1 := (fun x v => Host.reduce IntOp.andi x v reducesTo_S1_S_d0 h_S_) main_v89 main_c_35
  let main_v91 : IVec S_ 1 := andi main_v86 main_v90
  main_v91

def fn_part4 {F : FTy → Type} [FloatOps F] (main_arg13 : FVec F S128x128 .f32) (main_arg14 : FVec F S128 .f32) (main_arg15 : FVec F S1x128 .f32) (main_arg16 : FVec F S1 .f32) (main_v66 : IVec S_ 1) (main_v67 : FVec F S128 .f32) : IVec S_ 1 :=
  let main_cst_26 : FVec F S_ .f32 := constant S_ .f32 0x7F800000#32
  let main_v68 : FVec F S128 .f32 := broadcastInDim S128 ![] bcast_S_S128 main_cst_26
  let main_v69 : IVec S128 1 := cmpf .olt main_v67 main_v68
  let main_c_27 : IVec S_ 1 := constantI S_ 1 1#1
  let main_v70 : IVec S_ 1 := (fun x v => Host.reduce IntOp.andi x v reducesTo_S128_S_d0 h_S_) main_v69 main_c_27
  let main_v71 : IVec S_ 1 := andi main_v66 main_v70
  let main_v72 : FVec F S128x128 .f32 := Host.absf main_arg13
  let main_cst_28 : FVec F S_ .f32 := constant S_ .f32 0x7F800000#32
  let main_v73 : FVec F S128x128 .f32 := broadcastInDim S128x128 ![] bcast_S_S128x128 main_cst_28
  let main_v74 : IVec S128x128 1 := cmpf .olt main_v72 main_v73
  let main_c_29 : IVec S_ 1 := constantI S_ 1 1#1
  let main_v75 : IVec S_ 1 := (fun x v => Host.reduce IntOp.andi x v reducesTo_S128x128_S_d0_1 h_S_) main_v74 main_c_29
  let main_v76 : IVec S_ 1 := andi main_v71 main_v75
  let main_v77 : FVec F S128 .f32 := Host.absf main_arg14
  let main_cst_30 : FVec F S_ .f32 := constant S_ .f32 0x7F800000#32
  let main_v78 : FVec F S128 .f32 := broadcastInDim S128 ![] bcast_S_S128 main_cst_30
  let main_v79 : IVec S128 1 := cmpf .olt main_v77 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v76 main_v80
  let main_v82 : FVec F S1x128 .f32 := Host.absf main_arg15
  let main_cst_32 : FVec F S_ .f32 := constant S_ .f32 0x7F800000#32
  let main_v83 : FVec F S1x128 .f32 := broadcastInDim S1x128 ![] bcast_S_S1x128 main_cst_32
  let main_v84 : IVec S1x128 1 := cmpf .olt main_v82 main_v83
  fn_part5 (F := F) main_arg16 main_v81 main_v84

def fn_part3 {F : FTy → Type} [FloatOps F] (main_arg9 : FVec F S128x128 .f32) (main_arg10 : FVec F S128 .f32) (main_arg11 : FVec F S128x256 .f32) (main_arg12 : FVec F S128 .f32) (main_arg13 : FVec F S128x128 .f32) (main_arg14 : FVec F S128 .f32) (main_arg15 : FVec F S1x128 .f32) (main_arg16 : FVec F S1 .f32) (main_v46 : IVec S_ 1) (main_v49 : IVec S128 1) (main_c_19 : IVec S_ 1) : IVec S_ 1 :=
  let main_v50 : IVec S_ 1 := (fun x v => Host.reduce IntOp.andi x v reducesTo_S128_S_d0 h_S_) main_v49 main_c_19
  let main_v51 : IVec S_ 1 := andi main_v46 main_v50
  let main_v52 : FVec F S128x128 .f32 := Host.absf main_arg9
  let main_cst_20 : FVec F S_ .f32 := constant S_ .f32 0x7F800000#32
  let main_v53 : FVec F S128x128 .f32 := broadcastInDim S128x128 ![] bcast_S_S128x128 main_cst_20
  let main_v54 : IVec S128x128 1 := cmpf .olt main_v52 main_v53
  let main_c_21 : IVec S_ 1 := constantI S_ 1 1#1
  let main_v55 : IVec S_ 1 := (fun x v => Host.reduce IntOp.andi x v reducesTo_S128x128_S_d0_1 h_S_) main_v54 main_c_21
  let main_v56 : IVec S_ 1 := andi main_v51 main_v55
  let main_v57 : FVec F S128 .f32 := Host.absf main_arg10
  let main_cst_22 : FVec F S_ .f32 := constant S_ .f32 0x7F800000#32
  let main_v58 : FVec F S128 .f32 := broadcastInDim S128 ![] bcast_S_S128 main_cst_22
  let main_v59 : IVec S128 1 := cmpf .olt main_v57 main_v58
  let main_c_23 : IVec S_ 1 := constantI S_ 1 1#1
  let main_v60 : IVec S_ 1 := (fun x v => Host.reduce IntOp.andi x v reducesTo_S128_S_d0 h_S_) main_v59 main_c_23
  let main_v61 : IVec S_ 1 := andi main_v56 main_v60
  let main_v62 : FVec F S128x256 .f32 := Host.absf main_arg11
  let main_cst_24 : FVec F S_ .f32 := constant S_ .f32 0x7F800000#32
  let main_v63 : FVec F S128x256 .f32 := broadcastInDim S128x256 ![] bcast_S_S128x256 main_cst_24
  let main_v64 : IVec S128x256 1 := cmpf .olt main_v62 main_v63
  let main_c_25 : IVec S_ 1 := constantI S_ 1 1#1
  let main_v65 : IVec S_ 1 := (fun x v => Host.reduce IntOp.andi x v reducesTo_S128x256_S_d0_1 h_S_) main_v64 main_c_25
  let main_v66 : IVec S_ 1 := andi main_v61 main_v65
  let main_v67 : FVec F S128 .f32 := Host.absf main_arg12
  fn_part4 (F := F) main_arg13 main_arg14 main_arg15 main_arg16 main_v66 main_v67

def fn_part2 {F : FTy → Type} [FloatOps F] (main_arg6 : FVec F S5x128 .f32) (main_arg7 : FVec F S128x256 .f32) (main_arg8 : FVec F S128 .f32) (main_arg9 : FVec F S128x128 .f32) (main_arg10 : FVec F S128 .f32) (main_arg11 : FVec F S128x256 .f32) (main_arg12 : FVec F S128 .f32) (main_arg13 : FVec F S128x128 .f32) (main_arg14 : FVec F S128 .f32) (main_arg15 : FVec F S1x128 .f32) (main_arg16 : FVec F S1 .f32) (main_v31 : IVec S_ 1) (main_v32 : FVec F S100000x128 .f32) (main_cst_12 : FVec F S_ .f32) : IVec S_ 1 :=
  let main_v33 : FVec F S100000x128 .f32 := broadcastInDim S100000x128 ![] bcast_S_S100000x128 main_cst_12
  let main_v34 : IVec S100000x128 1 := cmpf .olt main_v32 main_v33
  let main_c_13 : IVec S_ 1 := constantI S_ 1 1#1
  let main_v35 : IVec S_ 1 := (fun x v => Host.reduce IntOp.andi x v reducesTo_S100000x128_S_d0_1 h_S_) main_v34 main_c_13
  let main_v36 : IVec S_ 1 := andi main_v31 main_v35
  let main_v37 : FVec F S5x128 .f32 := Host.absf main_arg6
  let main_cst_14 : FVec F S_ .f32 := constant S_ .f32 0x7F800000#32
  let main_v38 : FVec F S5x128 .f32 := broadcastInDim S5x128 ![] bcast_S_S5x128 main_cst_14
  let main_v39 : IVec S5x128 1 := cmpf .olt main_v37 main_v38
  let main_c_15 : IVec S_ 1 := constantI S_ 1 1#1
  let main_v40 : IVec S_ 1 := (fun x v => Host.reduce IntOp.andi x v reducesTo_S5x128_S_d0_1 h_S_) main_v39 main_c_15
  let main_v41 : IVec S_ 1 := andi main_v36 main_v40
  let main_v42 : FVec F S128x256 .f32 := Host.absf main_arg7
  let main_cst_16 : FVec F S_ .f32 := constant S_ .f32 0x7F800000#32
  let main_v43 : FVec F S128x256 .f32 := broadcastInDim S128x256 ![] bcast_S_S128x256 main_cst_16
  let main_v44 : IVec S128x256 1 := cmpf .olt main_v42 main_v43
  let main_c_17 : IVec S_ 1 := constantI S_ 1 1#1
  let main_v45 : IVec S_ 1 := (fun x v => Host.reduce IntOp.andi x v reducesTo_S128x256_S_d0_1 h_S_) main_v44 main_c_17
  let main_v46 : IVec S_ 1 := andi main_v41 main_v45
  let main_v47 : FVec F S128 .f32 := Host.absf main_arg8
  let main_cst_18 : FVec F S_ .f32 := constant S_ .f32 0x7F800000#32
  let main_v48 : FVec F S128 .f32 := broadcastInDim S128 ![] bcast_S_S128 main_cst_18
  let main_v49 : IVec S128 1 := cmpf .olt main_v47 main_v48
  let main_c_19 : IVec S_ 1 := constantI S_ 1 1#1
  fn_part3 (F := F) main_arg9 main_arg10 main_arg11 main_arg12 main_arg13 main_arg14 main_arg15 main_arg16 main_v46 main_v49 main_c_19

def fn_part1 {F : FTy → Type} [FloatOps F] (main_arg2 : IVec S16384 32) (main_arg3 : IVec S16384 32) (main_arg4 : FVec F S100000x128 .f32) (main_arg5 : FVec F S100000x128 .f32) (main_arg6 : FVec F S5x128 .f32) (main_arg7 : FVec F S128x256 .f32) (main_arg8 : FVec F S128 .f32) (main_arg9 : FVec F S128x128 .f32) (main_arg10 : FVec F S128 .f32) (main_arg11 : FVec F S128x256 .f32) (main_arg12 : FVec F S128 .f32) (main_arg13 : FVec F S128x128 .f32) (main_arg14 : FVec F S128 .f32) (main_arg15 : FVec F S1x128 .f32) (main_arg16 : FVec F S1 .f32) (main_v12 : IVec S_ 1) (main_v14 : IVec S16384 1) (main_v15 : IVec S16384 32) : IVec S_ 1 :=
  let main_v16 : IVec S16384 1 := cmpi .slt main_arg2 main_v15
  let main_v17 : IVec S16384 1 := andi main_v14 main_v16
  let main_c_7 : IVec S_ 1 := constantI S_ 1 1#1
  let main_v18 : IVec S_ 1 := (fun x v => Host.reduce IntOp.andi x v reducesTo_S16384_S_d0 h_S_) main_v17 main_c_7
  let main_v19 : IVec S_ 1 := andi main_v12 main_v18
  let main_c_8 : IVec S_ 32 := constantI S_ 32 0#32
  let main_v20 : IVec S16384 32 := broadcastInDim S16384 ![] bcast_S_S16384 main_c_8
  let main_v21 : IVec S16384 1 := cmpi .sge main_arg3 main_v20
  let main_c_9 : IVec S_ 32 := constantI S_ 32 16#32
  let main_v22 : IVec S16384 32 := broadcastInDim S16384 ![] bcast_S_S16384 main_c_9
  let main_v23 : IVec S16384 1 := cmpi .slt main_arg3 main_v22
  let main_v24 : IVec S16384 1 := andi main_v21 main_v23
  let main_c_10 : IVec S_ 1 := constantI S_ 1 1#1
  let main_v25 : IVec S_ 1 := (fun x v => Host.reduce IntOp.andi x v reducesTo_S16384_S_d0 h_S_) main_v24 main_c_10
  let main_v26 : IVec S_ 1 := andi main_v19 main_v25
  let main_v27 : FVec F S100000x128 .f32 := Host.absf main_arg4
  let main_cst : FVec F S_ .f32 := constant S_ .f32 0x7F800000#32
  let main_v28 : FVec F S100000x128 .f32 := broadcastInDim S100000x128 ![] bcast_S_S100000x128 main_cst
  let main_v29 : IVec S100000x128 1 := cmpf .olt main_v27 main_v28
  let main_c_11 : IVec S_ 1 := constantI S_ 1 1#1
  let main_v30 : IVec S_ 1 := (fun x v => Host.reduce IntOp.andi x v reducesTo_S100000x128_S_d0_1 h_S_) main_v29 main_c_11
  let main_v31 : IVec S_ 1 := andi main_v26 main_v30
  let main_v32 : FVec F S100000x128 .f32 := Host.absf main_arg5
  let main_cst_12 : FVec F S_ .f32 := constant S_ .f32 0x7F800000#32
  fn_part2 (F := F) main_arg6 main_arg7 main_arg8 main_arg9 main_arg10 main_arg11 main_arg12 main_arg13 main_arg14 main_arg15 main_arg16 main_v31 main_v32 main_cst_12

def fn {F : FTy → Type} [FloatOps F] (main_arg0 : IVec S16 32) (main_arg1 : IVec S16384 32) (main_arg2 : IVec S16384 32) (main_arg3 : IVec S16384 32) (main_arg4 : FVec F S100000x128 .f32) (main_arg5 : FVec F S100000x128 .f32) (main_arg6 : FVec F S5x128 .f32) (main_arg7 : FVec F S128x256 .f32) (main_arg8 : FVec F S128 .f32) (main_arg9 : FVec F S128x128 .f32) (main_arg10 : FVec F S128 .f32) (main_arg11 : FVec F S128x256 .f32) (main_arg12 : FVec F S128 .f32) (main_arg13 : FVec F S128x128 .f32) (main_arg14 : FVec F S128 .f32) (main_arg15 : FVec F S1x128 .f32) (main_arg16 : FVec F S1 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 100000#32
  let main_v2 : IVec S16 32 := broadcastInDim S16 ![] bcast_S_S16 main_c_0
  let main_v3 : IVec S16 1 := cmpi .slt main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 100000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384 32 := broadcastInDim S16384 ![] bcast_S_S16384 main_c_5
  let main_v14 : IVec S16384 1 := cmpi .sge main_arg2 main_v13
  let main_c_6 : IVec S_ 32 := constantI S_ 32 5#32
  let main_v15 : IVec S16384 32 := broadcastInDim S16384 ![] bcast_S_S16384 main_c_6
  fn_part1 (F := F) main_arg2 main_arg3 main_arg4 main_arg5 main_arg6 main_arg7 main_arg8 main_arg9 main_arg10 main_arg11 main_arg12 main_arg13 main_arg14 main_arg15 main_arg16 main_v12 main_v14 main_v15
-- ==== Pre_rows_in_range.lean ====
abbrev S16 : Shape := ⟨1, ![16]⟩
abbrev S16384 : Shape := ⟨1, ![16384]⟩
abbrev S100000x128 : Shape := ⟨2, ![100000, 128]⟩
abbrev S5x128 : Shape := ⟨2, ![5, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16 32) (main_arg1 : IVec S16384 32) (main_arg2 : IVec S16384 32) (main_arg3 : IVec S16384 32) (main_arg4 : FVec F S100000x128 .f32) (main_arg5 : FVec F S100000x128 .f32) (main_arg6 : FVec F S5x128 .f32) (main_arg7 : FVec F S128x256 .f32) (main_arg8 : FVec F S128 .f32) (main_arg9 : FVec F S128x128 .f32) (main_arg10 : FVec F S128 .f32) (main_arg11 : FVec F S128x256 .f32) (main_arg12 : FVec F S128 .f32) (main_arg13 : FVec F S128x128 .f32) (main_arg14 : FVec F S128 .f32) (main_arg15 : FVec F S1x128 .f32) (main_arg16 : FVec F S1 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 100000#32
  let main_v2 : IVec S16 32 := broadcastInDim S16 ![] bcast_S_S16 main_c_0
  let main_v3 : IVec S16 1 := cmpi .slt main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 100000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16 : Shape := ⟨1, ![16]⟩
abbrev S16384 : Shape := ⟨1, ![16384]⟩
abbrev S100000x128 : Shape := ⟨2, ![100000, 128]⟩
abbrev S5x128 : Shape := ⟨2, ![5, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S8192x128 : Shape := ⟨2, ![8192, 128]⟩
abbrev S16x128 : Shape := ⟨2, ![16, 128]⟩
abbrev S256 : Shape := ⟨1, ![256]⟩
abbrev S256x128 : Shape := ⟨2, ![256, 128]⟩
abbrev S_ : Shape := ⟨0, ![]⟩
abbrev S16x1 : Shape := ⟨2, ![16, 1]⟩
abbrev S8192 : Shape := ⟨1, ![8192]⟩
abbrev S8x128 : Shape := ⟨2, ![8, 128]⟩
abbrev S3x128 : Shape := ⟨2, ![3, 128]⟩
abbrev S1x8192 : Shape := ⟨2, ![1, 8192]⟩
abbrev S8x8192 : Shape := ⟨2, ![8, 8192]⟩
abbrev S16x8192 : Shape := ⟨2, ![16, 8192]⟩

abbrev nBuf : Table → Nat
  | .hbm => 24
  | .local .tc .vmem => 45
  | .local .scVector .vmem => 6
  | _ => 0

abbrev bufTy : (tb : Table) → Fin (nBuf tb) → BufTy
  | .hbm, ⟨0, _⟩ => ⟨S16, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S100000x128, .f32⟩
  | .hbm, ⟨5, _⟩ => ⟨S100000x128, .f32⟩
  | .hbm, ⟨6, _⟩ => ⟨S5x128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x256, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x128, .f32⟩
  | .hbm, ⟨16, _⟩ => ⟨S1, .f32⟩
  | .hbm, ⟨17, _⟩ => ⟨S8192x128, .f32⟩
  | .hbm, ⟨18, _⟩ => ⟨S16x128, .f32⟩
  | .hbm, ⟨19, _⟩ => ⟨S8192x128, .f32⟩
  | .hbm, ⟨20, _⟩ => ⟨S16x1, .f32⟩
  | .hbm, ⟨21, _⟩ => ⟨S16x1, .f32⟩
  | .hbm, ⟨22, _⟩ => ⟨S16x128, .f32⟩
  | .hbm, ⟨23, _⟩ => ⟨S16x128, .f32⟩
  | .local .tc .vmem, ⟨0, _⟩ => ⟨S8192, .i32⟩
  | .local .tc .vmem, ⟨1, _⟩ => ⟨S8192, .i32⟩
  | .local .tc .vmem, ⟨2, _⟩ => ⟨S8192x128, .f32⟩
  | .local .tc .vmem, ⟨3, _⟩ => ⟨S16x128, .f32⟩
  | .local .tc .vmem, ⟨4, _⟩ => ⟨S5x128, .f32⟩
  | .local .tc .vmem, ⟨5, _⟩ => ⟨S128x256, .f32⟩
  | .local .tc .vmem, ⟨6, _⟩ => ⟨S128, .f32⟩
  | .local .tc .vmem, ⟨7, _⟩ => ⟨S128x128, .f32⟩
  | .local .tc .vmem, ⟨8, _⟩ => ⟨S128, .f32⟩
  | .local .tc .vmem, ⟨9, _⟩ => ⟨S128x256, .f32⟩
  | .local .tc .vmem, ⟨10, _⟩ => ⟨S128, .f32⟩
  | .local .tc .vmem, ⟨11, _⟩ => ⟨S128x128, .f32⟩
  | .local .tc .vmem, ⟨12, _⟩ => ⟨S128, .f32⟩
  | .local .tc .vmem, ⟨13, _⟩ => ⟨S1x128, .f32⟩
  | .local .tc .vmem, ⟨14, _⟩ => ⟨S16x1, .f32⟩
  | .local .tc .vmem, ⟨15, _⟩ => ⟨S16x1, .f32⟩
  | .local .tc .vmem, ⟨16, _⟩ => ⟨S16x128, .f32⟩
  | .local .tc .vmem, ⟨17, _⟩ => ⟨S16x1, .f32⟩
  | .local .tc .vmem, ⟨18, _⟩ => ⟨S16x1, .f32⟩
  | .local .tc .vmem, ⟨19, _⟩ => ⟨S16x128, .f32⟩
  | .local .tc .vmem, ⟨20, _⟩ => ⟨S8x128, .f32⟩
  | .local .tc .vmem, ⟨21, _⟩ => ⟨S16x128, .f32⟩
  | .local .tc .vmem, ⟨22, _⟩ => ⟨S8192, .i32⟩
  | .local .tc .vmem, ⟨23, _⟩ => ⟨S8192, .i32⟩
  | .local .tc .vmem, ⟨24, _⟩ => ⟨S8192x128, .f32⟩
  | .local .tc .vmem, ⟨25, _⟩ => ⟨S16x128, .f32⟩
  | .local .tc .vmem, ⟨26, _⟩ => ⟨S5x128, .f32⟩
  | .local .tc .vmem, ⟨27, _⟩ => ⟨S128x256, .f32⟩
  | .local .tc .vmem, ⟨28, _⟩ => ⟨S128, .f32⟩
  | .local .tc .vmem, ⟨29, _⟩ => ⟨S128x128, .f32⟩
  | .local .tc .vmem, ⟨30, _⟩ => ⟨S128, .f32⟩
  | .local .tc .vmem, ⟨31, _⟩ => ⟨S128x256, .f32⟩
  | .local .tc .vmem, ⟨32, _⟩ => ⟨S128, .f32⟩
  | .local .tc .vmem, ⟨33, _⟩ => ⟨S128x128, .f32⟩
  | .local .tc .vmem, ⟨34, _⟩ => ⟨S128, .f32⟩
  | .local .tc .vmem, ⟨35, _⟩ => ⟨S1x128, .f32⟩
  | .local .tc .vmem, ⟨36, _⟩ => ⟨S16x1, .f32⟩
  | .local .tc .vmem, ⟨37, _⟩ => ⟨S16x1, .f32⟩
  | .local .tc .vmem, ⟨38, _⟩ => ⟨S16x128, .f32⟩
  | .local .tc .vmem, ⟨39, _⟩ => ⟨S16x128, .f32⟩
  | .local .tc .vmem, ⟨40, _⟩ => ⟨S16x1, .f32⟩
  | .local .tc .vmem, ⟨41, _⟩ => ⟨S16x1, .f32⟩
  | .local .tc .vmem, ⟨42, _⟩ => ⟨S16x128, .f32⟩
  | .local .tc .vmem, ⟨43, _⟩ => ⟨S8x128, .f32⟩
  | .local .tc .vmem, ⟨44, _⟩ => ⟨S16x128, .f32⟩
  | .local .scVector .vmem, ⟨0, _⟩ => ⟨S256, .i32⟩
  | .local .scVector .vmem, ⟨1, _⟩ => ⟨S256x128, .f32⟩
  | .local .scVector .vmem, ⟨2, _⟩ => ⟨S16, .i32⟩
  | .local .scVector .vmem, ⟨3, _⟩ => ⟨S16x128, .f32⟩
  | .local .scVector .vmem, ⟨4, _⟩ => ⟨S256, .i32⟩
  | .local .scVector .vmem, ⟨5, _⟩ => ⟨S256x128, .f32⟩
  | _, _ => ⟨S16, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v3 : Ref sig .tc := ⟨.hbm, 23, rfl⟩
abbrev main_arg1_scv : Ref sig .scVector := ⟨.hbm, 1, rfl⟩
abbrev main_arg0_scv : Ref sig .scVector := ⟨.hbm, 0, rfl⟩
abbrev main_arg4_scv : Ref sig .scVector := ⟨.hbm, 4, rfl⟩
abbrev main_arg5_scv : Ref sig .scVector := ⟨.hbm, 5, rfl⟩
abbrev main_v0_0_scv : Ref sig .scVector := ⟨.hbm, 17, rfl⟩
abbrev main_v0_1_scv : Ref sig .scVector := ⟨.hbm, 18, rfl⟩
abbrev main_v1_scv : Ref sig .scVector := ⟨.hbm, 19, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg3_0 : Ref sig .tc := ⟨.vmem, 3, rfl⟩
abbrev cc2_stg4_0 : Ref sig .tc := ⟨.vmem, 4, rfl⟩
abbrev cc2_stg5_0 : Ref sig .tc := ⟨.vmem, 5, rfl⟩
abbrev cc2_stg6_0 : Ref sig .tc := ⟨.vmem, 6, rfl⟩
abbrev cc2_stg7_0 : Ref sig .tc := ⟨.vmem, 7, rfl⟩
abbrev cc2_stg8_0 : Ref sig .tc := ⟨.vmem, 8, rfl⟩
abbrev cc2_stg9_0 : Ref sig .tc := ⟨.vmem, 9, rfl⟩
abbrev cc2_stg10_0 : Ref sig .tc := ⟨.vmem, 10, rfl⟩
abbrev cc2_stg11_0 : Ref sig .tc := ⟨.vmem, 11, rfl⟩
abbrev cc2_stg12_0 : Ref sig .tc := ⟨.vmem, 12, rfl⟩
abbrev cc2_stg13_0 : Ref sig .tc := ⟨.vmem, 13, rfl⟩
abbrev cc2_stg14_0 : Ref sig .tc := ⟨.vmem, 14, rfl⟩
abbrev cc2_stg15_0 : Ref sig .tc := ⟨.vmem, 15, rfl⟩
abbrev cc2_stg16_0 : Ref sig .tc := ⟨.vmem, 16, rfl⟩
abbrev cc2_scratch0 : Ref sig .tc := ⟨.vmem, 17, rfl⟩
abbrev cc2_scratch1 : Ref sig .tc := ⟨.vmem, 18, rfl⟩
abbrev cc2_scratch2 : Ref sig .tc := ⟨.vmem, 19, rfl⟩
abbrev cc2_scratch3 : Ref sig .tc := ⟨.vmem, 20, rfl⟩
abbrev cc2_scratch4 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg11_0 : Ref sig .tc := ⟨.vmem, 33, rfl⟩
abbrev cc3_stg12_0 : Ref sig .tc := ⟨.vmem, 34, rfl⟩
abbrev cc3_stg13_0 : Ref sig .tc := ⟨.vmem, 35, rfl⟩
abbrev cc3_stg14_0 : Ref sig .tc := ⟨.vmem, 36, rfl⟩
abbrev cc3_stg15_0 : Ref sig .tc := ⟨.vmem, 37, rfl⟩
abbrev cc3_stg16_0 : Ref sig .tc := ⟨.vmem, 38, rfl⟩
abbrev cc3_stg17_0 : Ref sig .tc := ⟨.vmem, 39, rfl⟩
abbrev cc3_scratch0 : Ref sig .tc := ⟨.vmem, 40, rfl⟩
abbrev cc3_scratch1 : Ref sig .tc := ⟨.vmem, 41, rfl⟩
abbrev cc3_scratch2 : Ref sig .tc := ⟨.vmem, 42, rfl⟩
abbrev cc3_scratch3 : Ref sig .tc := ⟨.vmem, 43, rfl⟩
abbrev cc3_scratch4 : Ref sig .tc := ⟨.vmem, 44, rfl⟩
abbrev cc0_scratch0 : Ref sig .scVector := ⟨.vmem, 0, rfl⟩
abbrev cc0_scratch1 : Ref sig .scVector := ⟨.vmem, 1, rfl⟩
abbrev cc0_scratch3 : Ref sig .scVector := ⟨.vmem, 2, rfl⟩
abbrev cc0_scratch4 : Ref sig .scVector := ⟨.vmem, 3, rfl⟩
abbrev cc1_scratch0 : Ref sig .scVector := ⟨.vmem, 4, rfl⟩
abbrev cc1_scratch1 : Ref sig .scVector := ⟨.vmem, 5, rfl⟩
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev cc2_sem8_0 : DmaSem sig := 17
abbrev cc2_sem9_0 : DmaSem sig := 18
abbrev cc2_sem10_0 : DmaSem sig := 19
abbrev cc2_sem11_0 : DmaSem sig := 20
abbrev cc2_sem12_0 : DmaSem sig := 21
abbrev cc2_sem13_0 : DmaSem sig := 22
abbrev cc2_sem14_0 : DmaSem sig := 23
abbrev cc2_sem15_0 : DmaSem sig := 24
abbrev cc2_sem16_0 : DmaSem sig := 25
abbrev cc3_sem0_0 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem10_0 : DmaSem sig := 36
abbrev cc3_sem11_0 : DmaSem sig := 37
abbrev cc3_sem12_0 : DmaSem sig := 38
abbrev cc3_sem13_0 : DmaSem sig := 39
abbrev cc3_sem14_0 : DmaSem sig := 40
abbrev cc3_sem15_0 : DmaSem sig := 41
abbrev cc3_sem16_0 : DmaSem sig := 42
abbrev cc3_sem17_0 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c0_i32 v2
  ![v3.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_21_r1 : BitVec 32 := 0#32
  ![v2.toNat, 0]
abbrev grid1 : Pipeline.Grid := ⟨2, ![2, 16], ![false, false]⟩

def k1_off1 (i : grid1.Coords) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c8192_i32 v2
  ![v3.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_18_r1 : BitVec 32 := 0#32
  ![v2.toNat, 0]
abbrev grid2 : Pipeline.Grid := ⟨1, ![1], ![false]⟩

def k2_cond2 (i : grid2.Coords) : BitVec 1 :=
  let arg0 : BitVec 32 := BitVec.ofNat 32 (i 0).val
  let c0_i32_49 : BitVec 32 := 0#32
  let v103 : BitVec 1 := Scalar.cmpi .eq arg0 c0_i32_49
  let v104 : BitVec 32 := Scalar.extui v103
  let c0_i32_50 : BitVec 32 := 0#32
  let v105 : BitVec 1 := Scalar.cmpi .ne v104 c0_i32_50
  v105

def cc2_transform_0 (i : grid2.Coords) : Fin 1 → Nat :=
  let arg0 : BitVec 32 := BitVec.ofNat 32 (i 0).val
  let c0_i32 : BitVec 32 := 0#32
  let v0 : BitVec 32 := Scalar.addi c0_i32 arg0
  let c0_i32_0 : BitVec 32 := 0#32
  ![v0.toNat]

def cc2_transform_1 (i : grid2.Coords) : Fin 1 → Nat :=
  let arg0 : BitVec 32 := BitVec.ofNat 32 (i 0).val
  let c0_i32 : BitVec 32 := 0#32
  let v0 : BitVec 32 := Scalar.addi c0_i32 arg0
  let c0_i32_0 : BitVec 32 := 0#32
  ![v0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8192 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S8192 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S8192x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S5x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S16x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S16x1 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S16x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev grid3 : Pipeline.Grid := ⟨1, ![1], ![false]⟩

def k3_cond2 (i : grid3.Coords) : BitVec 1 :=
  let arg0 : BitVec 32 := BitVec.ofNat 32 (i 0).val
  let c0_i32_49 : BitVec 32 := 0#32
  let v103 : BitVec 1 := Scalar.cmpi .eq arg0 c0_i32_49
  let v104 : BitVec 32 := Scalar.extui v103
  let c0_i32_50 : BitVec 32 := 0#32
  let v105 : BitVec 1 := Scalar.cmpi .ne v104 c0_i32_50
  v105

def cc3_transform_0 (i : grid3.Coords) : Fin 1 → Nat :=
  let arg0 : BitVec 32 := BitVec.ofNat 32 (i 0).val
  let c1_i32 : BitVec 32 := 1#32
  let v0 : BitVec 32 := Scalar.addi c1_i32 arg0
  let c0_i32 : BitVec 32 := 0#32
  ![v0.toNat]

def cc3_transform_1 (i : grid3.Coords) : Fin 1 → Nat :=
  let arg0 : BitVec 32 := BitVec.ofNat 32 (i 0).val
  let c1_i32 : BitVec 32 := 1#32
  let v0 : BitVec 32 := Scalar.addi c1_i32 arg0
  let c0_i32 : BitVec 32 := 0#32
  ![v0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S8192 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S8192 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S8192x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S16x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S5x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S16x1 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S16x1 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S16x128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S16x128 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16 : Shape := ⟨1, ![16]⟩
abbrev S16384 : Shape := ⟨1, ![16384]⟩
abbrev S100000x128 : Shape := ⟨2, ![100000, 128]⟩
abbrev S5x128 : Shape := ⟨2, ![5, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S256x128 : Shape := ⟨2, ![256, 128]⟩
abbrev S16x1 : Shape := ⟨2, ![16, 1]⟩
abbrev S16x128 : Shape := ⟨2, ![16, 128]⟩
abbrev S128x1 : Shape := ⟨2, ![128, 1]⟩
abbrev S1x16384 : Shape := ⟨2, ![1, 16384]⟩
abbrev S16x16384 : Shape := ⟨2, ![16, 16384]⟩

abbrev nBuf : Space → Nat
  | .hbm => 221
  | .vmem => 0
  | .smem => 0
  | _ => 0

abbrev hbmTy0_0 (i : Nat) : BufTy := match i % 128 with
  | 0 => ⟨S16, .i32⟩
  | 1 => ⟨S16384, .i32⟩
  | 2 => ⟨S16384, .i32⟩
  | 3 => ⟨S16384, .i32⟩
  | 4 => ⟨S100000x128, .f32⟩
  | 5 => ⟨S100000x128, .f32⟩
  | 6 => ⟨S5x128, .f32⟩
  | 7 => ⟨S128x256, .f32⟩
  | 8 => ⟨S128, .f32⟩
  | 9 => ⟨S128x128, .f32⟩
  | 10 => ⟨S128, .f32⟩
  | 11 => ⟨S128x256, .f32⟩
  | 12 => ⟨S128, .f32⟩
  | 13 => ⟨S128x128, .f32⟩
  | 14 => ⟨S128, .f32⟩
  | 15 => ⟨S1x128, .f32⟩
  | 16 => ⟨S1, .f32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x128, .f32⟩
  | 36 => ⟨S16384x128, .i1⟩
  | 37 => ⟨S_, .f32⟩
  | 38 => ⟨S16384x128, .f32⟩
  | 39 => ⟨S16384x128, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x128, .f32⟩
  | 59 => ⟨S16384x128, .i1⟩
  | 60 => ⟨S_, .f32⟩
  | 61 => ⟨S16384x128, .f32⟩
  | 62 => ⟨S16384x128, .f32⟩
  | 63 => ⟨S16384x256, .f32⟩
  | 64 => ⟨S256x128, .f32⟩
  | 65 => ⟨S16384x128, .f32⟩
  | 66 => ⟨S1x128, .f32⟩
  | 67 => ⟨S16384x128, .f32⟩
  | 68 => ⟨S16384x128, .f32⟩
  | 69 => ⟨S_, .f32⟩
  | 70 => ⟨S16384x128, .f32⟩
  | 71 => ⟨S16384x128, .f32⟩
  | 72 => ⟨S128x128, .f32⟩
  | 73 => ⟨S16384x128, .f32⟩
  | 74 => ⟨S1x128, .f32⟩
  | 75 => ⟨S16384x128, .f32⟩
  | 76 => ⟨S16384x128, .f32⟩
  | 77 => ⟨S_, .f32⟩
  | 78 => ⟨S16384x128, .f32⟩
  | 79 => ⟨S16384x128, .f32⟩
  | 80 => ⟨S_, .i32⟩
  | 81 => ⟨S16, .i32⟩
  | 82 => ⟨S16, .i1⟩
  | 83 => ⟨S_, .i32⟩
  | 84 => ⟨S16, .i32⟩
  | 85 => ⟨S16, .i32⟩
  | 86 => ⟨S16, .i32⟩
  | 87 => ⟨S16x1, .i32⟩
  | 88 => ⟨S1, .i32⟩
  | 89 => ⟨S_, .i32⟩
  | 90 => ⟨S16x1, .i32⟩
  | 91 => ⟨S16x1, .i1⟩
  | 92 => ⟨S1x1, .i32⟩
  | 93 => ⟨S16x1, .i32⟩
  | 94 => ⟨S16x1, .i1⟩
  | 95 => ⟨S16x1, .i1⟩
  | 96 => ⟨S_, .i1⟩
  | 97 => ⟨S16, .i1⟩
  | 98 => ⟨S16x128, .f32⟩
  | 99 => ⟨S16x128, .i1⟩
  | 100 => ⟨S_, .f32⟩
  | 101 => ⟨S16x128, .f32⟩
  | 102 => ⟨S16x128, .f32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S16384x1, .i32⟩
  | 111 => ⟨S1, .i32⟩
  | 112 => ⟨S_, .i32⟩
  | 113 => ⟨S16384x1, .i32⟩
  | 114 => ⟨S16384x1, .i1⟩
  | 115 => ⟨S1x1, .i32⟩
  | 116 => ⟨S16384x1, .i32⟩
  | 117 => ⟨S16384x1, .i1⟩
  | 118 => ⟨S16384x1, .i1⟩
  | 119 => ⟨S_, .i1⟩
  | 120 => ⟨S16384, .i1⟩
  | 121 => ⟨S16384x128, .f32⟩
  | 122 => ⟨S16384x128, .i1⟩
  | 123 => ⟨S_, .f32⟩
  | 124 => ⟨S16384x128, .f32⟩
  | 125 => ⟨S16384x128, .f32⟩
  | 126 => ⟨S16384x256, .f32⟩
  | 127 => ⟨S256x128, .f32⟩
  | _ => ⟨S16, .i32⟩

abbrev hbmTy0_1 (i : Nat) : BufTy := match i % 128 with
  | 0 => ⟨S16384x128, .f32⟩
  | 1 => ⟨S1x128, .f32⟩
  | 2 => ⟨S16384x128, .f32⟩
  | 3 => ⟨S16384x128, .f32⟩
  | 4 => ⟨S_, .f32⟩
  | 5 => ⟨S16384x128, .f32⟩
  | 6 => ⟨S16384x128, .f32⟩
  | 7 => ⟨S128x128, .f32⟩
  | 8 => ⟨S16384x128, .f32⟩
  | 9 => ⟨S1x128, .f32⟩
  | 10 => ⟨S16384x128, .f32⟩
  | 11 => ⟨S16384x128, .f32⟩
  | 12 => ⟨S_, .f32⟩
  | 13 => ⟨S16384x128, .f32⟩
  | 14 => ⟨S16384x128, .f32⟩
  | 15 => ⟨S128x1, .f32⟩
  | 16 => ⟨S16384x1, .f32⟩
  | 17 => ⟨S1x1, .f32⟩
  | 18 => ⟨S16384x1, .f32⟩
  | 19 => ⟨S16384x1, .f32⟩
  | 20 => ⟨S16384, .f32⟩
  | 21 => ⟨S1x16384, .i32⟩
  | 22 => ⟨S16, .i32⟩
  | 23 => ⟨S16x1, .i32⟩
  | 24 => ⟨S16x16384, .i32⟩
  | 25 => ⟨S16x16384, .i32⟩
  | 26 => ⟨S16x16384, .i1⟩
  | 27 => ⟨S1x16384, .f32⟩
  | 28 => ⟨S_, .f32⟩
  | 29 => ⟨S_, .f32⟩
  | 30 => ⟨S16x16384, .f32⟩
  | 31 => ⟨S16x16384, .f32⟩
  | 32 => ⟨S16x16384, .f32⟩
  | 33 => ⟨S_, .f32⟩
  | 34 => ⟨S16, .f32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S1, .i32⟩
  | 44 => ⟨S_, .i32⟩
  | 45 => ⟨S16384x1, .i32⟩
  | 46 => ⟨S16384x1, .i1⟩
  | 47 => ⟨S1x1, .i32⟩
  | 48 => ⟨S16384x1, .i32⟩
  | 49 => ⟨S16384x1, .i1⟩
  | 50 => ⟨S16384x1, .i1⟩
  | 51 => ⟨S_, .i1⟩
  | 52 => ⟨S16384, .i1⟩
  | 53 => ⟨S16384, .f32⟩
  | 54 => ⟨S_, .f32⟩
  | 55 => ⟨S16384, .f32⟩
  | 56 => ⟨S16384, .f32⟩
  | 57 => ⟨S16384, .f32⟩
  | 58 => ⟨S16384, .f32⟩
  | 59 => ⟨S_, .f32⟩
  | 60 => ⟨S16, .f32⟩
  | 61 => ⟨S16384x1, .i32⟩
  | 62 => ⟨S16, .f32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S1, .i32⟩
  | 72 => ⟨S_, .i32⟩
  | 73 => ⟨S16384x1, .i32⟩
  | 74 => ⟨S16384x1, .i1⟩
  | 75 => ⟨S1x1, .i32⟩
  | 76 => ⟨S16384x1, .i32⟩
  | 77 => ⟨S16384x1, .i1⟩
  | 78 => ⟨S16384x1, .i1⟩
  | 79 => ⟨S_, .i1⟩
  | 80 => ⟨S16384, .i1⟩
  | 81 => ⟨S16384, .f32⟩
  | 82 => ⟨S_, .f32⟩
  | 83 => ⟨S16384, .f32⟩
  | 84 => ⟨S16384, .f32⟩
  | 85 => ⟨S16384, .f32⟩
  | 86 => ⟨S16384x1, .f32⟩
  | 87 => ⟨S16384x128, .f32⟩
  | 88 => ⟨S16384x128, .f32⟩
  | 89 => ⟨S_, .f32⟩
  | 90 => ⟨S16x128, .f32⟩
  | 91 => ⟨S16384x1, .i32⟩
  | 92 => ⟨S16x128, .f32⟩
  | _ => ⟨S16, .i32⟩

abbrev hbmTy (i : Nat) : BufTy := match i / 128 with
  | 0 => hbmTy0_0 i
  | 1 => hbmTy0_1 i
  | _ => ⟨S16, .i32⟩

abbrev bufTy : (tb : Table) → Fin (tcTables nBuf tb) → BufTy
  | .hbm, ⟨i, _⟩ => hbmTy i
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v1 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_cst : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_cst_0 : Ref sig .tc := ⟨.hbm, 77, rfl⟩
abbrev main_v15 : Ref sig .tc := ⟨.hbm, 78, rfl⟩
abbrev main_v16 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v17 : Ref sig .tc := ⟨.hbm, 102, rfl⟩
abbrev main_call3_c : Ref sig .tc := ⟨.hbm, 103, rfl⟩
abbrev main_call3_v0 : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_c_1 : Ref sig .tc := ⟨.hbm, 111, rfl⟩
abbrev main_call3_c_2 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_3 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_call3_cst : Ref sig .tc := ⟨.hbm, 123, rfl⟩
abbrev main_call3_v15 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev main_cst_1 : Ref sig .tc := ⟨.hbm, 132, rfl⟩
abbrev main_v25 : Ref sig .tc := ⟨.hbm, 133, rfl⟩
abbrev main_v26 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_cst_2 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_cst_3 : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_v47 : Ref sig .tc := ⟨.hbm, 160, rfl⟩
abbrev main_cst_4 : Ref sig .tc := ⟨.hbm, 161, rfl⟩
abbrev main_v48 : Ref sig .tc := ⟨.hbm, 162, rfl⟩
abbrev main_call5_c : Ref sig .tc := ⟨.hbm, 163, rfl⟩
abbrev main_call5_v0 : Ref sig .tc := ⟨.hbm, 164, rfl⟩
abbrev main_call5_v1 : Ref sig .tc := ⟨.hbm, 165, rfl⟩
abbrev main_call5_c_0 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_call5_v5 : Ref sig .tc := ⟨.hbm, 170, rfl⟩
abbrev main_call5_c_1 : Ref sig .tc := ⟨.hbm, 171, rfl⟩
abbrev main_call5_c_2 : Ref sig .tc := ⟨.hbm, 172, rfl⟩
abbrev main_call5_v6 : Ref sig .tc := ⟨.hbm, 173, rfl⟩
abbrev main_call5_v7 : Ref sig .tc := ⟨.hbm, 174, rfl⟩
abbrev main_call5_v8 : Ref sig .tc := ⟨.hbm, 175, rfl⟩
abbrev main_call5_v9 : Ref sig .tc := ⟨.hbm, 176, rfl⟩
abbrev main_call5_v10 : Ref sig .tc := ⟨.hbm, 177, rfl⟩
abbrev main_call5_v11 : Ref sig .tc := ⟨.hbm, 178, rfl⟩
abbrev main_call5_c_3 : Ref sig .tc := ⟨.hbm, 179, rfl⟩
abbrev main_call5_v12 : Ref sig .tc := ⟨.hbm, 180, rfl⟩
abbrev main_call5_v13 : Ref sig .tc := ⟨.hbm, 181, rfl⟩
abbrev main_call5_cst : Ref sig .tc := ⟨.hbm, 182, rfl⟩
abbrev main_call5_v14 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_cst_5 : Ref sig .tc := ⟨.hbm, 187, rfl⟩
abbrev main_v52 : Ref sig .tc := ⟨.hbm, 188, rfl⟩
abbrev main_v53 : Ref sig .tc := ⟨.hbm, 189, rfl⟩
abbrev main_v54 : Ref sig .tc := ⟨.hbm, 190, rfl⟩
abbrev main_call6_c : Ref sig .tc := ⟨.hbm, 191, rfl⟩
abbrev main_call6_v0 : Ref sig .tc := ⟨.hbm, 192, rfl⟩
abbrev main_call6_v1 : Ref sig .tc := ⟨.hbm, 193, rfl⟩
abbrev main_call6_c_0 : Ref sig .tc := ⟨.hbm, 194, rfl⟩
abbrev main_call6_v2 : Ref sig .tc := ⟨.hbm, 195, rfl⟩
abbrev main_call6_v3 : Ref sig .tc := ⟨.hbm, 196, rfl⟩
abbrev main_call6_v4 : Ref sig .tc := ⟨.hbm, 197, rfl⟩
abbrev main_call6_v5 : Ref sig .tc := ⟨.hbm, 198, rfl⟩
abbrev main_call6_c_1 : Ref sig .tc := ⟨.hbm, 199, rfl⟩
abbrev main_call6_c_2 : Ref sig .tc := ⟨.hbm, 200, rfl⟩
abbrev main_call6_v6 : Ref sig .tc := ⟨.hbm, 201, rfl⟩
abbrev main_call6_v7 : Ref sig .tc := ⟨.hbm, 202, rfl⟩
abbrev main_call6_v8 : Ref sig .tc := ⟨.hbm, 203, rfl⟩
abbrev main_call6_v9 : Ref sig .tc := ⟨.hbm, 204, rfl⟩
abbrev main_call6_v10 : Ref sig .tc := ⟨.hbm, 205, rfl⟩
abbrev main_call6_v11 : Ref sig .tc := ⟨.hbm, 206, rfl⟩
abbrev main_call6_c_3 : Ref sig .tc := ⟨.hbm, 207, rfl⟩
abbrev main_call6_v12 : Ref sig .tc := ⟨.hbm, 208, rfl⟩
abbrev main_call6_v13 : Ref sig .tc := ⟨.hbm, 209, rfl⟩
abbrev main_call6_cst : Ref sig .tc := ⟨.hbm, 210, rfl⟩
abbrev main_call6_v14 : Ref sig .tc := ⟨.hbm, 211, rfl⟩
abbrev main_v55 : Ref sig .tc := ⟨.hbm, 212, rfl⟩
abbrev main_v56 : Ref sig .tc := ⟨.hbm, 213, rfl⟩
abbrev main_v57 : Ref sig .tc := ⟨.hbm, 214, rfl⟩
abbrev main_v58 : Ref sig .tc := ⟨.hbm, 215, rfl⟩
abbrev main_v59 : Ref sig .tc := ⟨.hbm, 216, rfl⟩
abbrev main_cst_6 : Ref sig .tc := ⟨.hbm, 217, rfl⟩
abbrev main_v60 : Ref sig .tc := ⟨.hbm, 218, rfl⟩
abbrev main_v61 : Ref sig .tc := ⟨.hbm, 219, rfl⟩
abbrev main_v62 : Ref sig .tc := ⟨.hbm, 220, rfl⟩

abbrev nD : Nat := 1
abbrev τ : Topo := Topo.v7x

variable {F : FTy → Type} [FloatOps F]
-- ==== Proof.Gather.lean ====
/-
  Two indirect gathers outstanding on one semaphore cell. Every gathered row is one transfer of a counted batch
  (`Transfers.Batch`), whose credit is one row's; a gather of `o` rows is the batch's next `o` issues, made by one
  operation. Nothing of either gather comes back before the batch's last wait, which hands back every row of both.
-/
module

public import Idealize.ShloMosaic.Lib.SparseCore.Stream
public import Idealize.ShloMosaic.Lib.Batch

@[expose] public section

noncomputable section

namespace Cert.Proof.Gather

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-! ## The issue rights of a stretch of the batch -/

omit [Preorder Lvl] [DecidableEq Ix] [DecidableEq Name] [URA U] in
/-- The numbers from `k` on are the `o` next ones and those from `k + o` on. -/
theorem pending_stretch {n : ℕ} (k o : ℕ) (h : k + o ≤ n) :
    Transfers.pending (n := n) k
      = (Finset.univ.image fun j : Fin o => (⟨k + j.val, by omega⟩ : Fin n)) ∪ Transfers.pending (k + o) := by
  ext t
  simp only [Transfers.pending, Finset.mem_filter, Finset.mem_univ, true_and, Finset.mem_union, Finset.mem_image, Fin.ext_iff]
  constructor
  · intro hk
    by_cases ht : t.val < k + o
    · exact .inl ⟨⟨t.val - k, by omega⟩, by simp only; omega⟩
    · exact .inr (by omega)
  · rintro (⟨j, hj⟩ | hj) <;> omega

omit [Preorder Lvl] in
/-- A family over the numbers from `k` on: its next `o` members and those from `k + o` on. -/
theorem bigSep_stretch {n : ℕ} (Φ : Fin n → sProp 𝕄) (k o : ℕ) (h : k + o ≤ n) :
    bigSep (Transfers.pending k) Φ
      = iprop((bigSep Finset.univ fun j : Fin o => Φ ⟨k + j.val, by omega⟩) ∗ bigSep (Transfers.pending (k + o)) Φ) := by
  have hd : Disjoint (Finset.univ.image fun j : Fin o => (⟨k + j.val, by omega⟩ : Fin n)) (Transfers.pending (k + o)) := by
    refine Finset.disjoint_left.mpr fun t ht ht' => ?_
    obtain ⟨j, -, rfl⟩ := Finset.mem_image.mp ht
    simp only [Transfers.pending, Finset.mem_filter, Finset.mem_univ, true_and] at ht'
    have := j.isLt
    omega
  have hinj : Function.Injective fun j : Fin o => (⟨k + j.val, by omega⟩ : Fin n) := fun i j hij => by
    have := congrArg Fin.val hij
    exact Fin.ext (by simpa using this)
  rw [pending_stretch k o h, BI.bigSep_union hd]
  congr 1
  have := BI.bigSep_map (s := Finset.univ) (e := (⟨_, hinj⟩ : Fin o ↪ Fin n)) (Φ := Φ)
  rw [Finset.map_eq_image] at this
  exact this

/-! ## One gather's rows -/

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The words row `j` of a gather carries: the row of the source that the list's entry `j` names. -/
def rowPay (src : Memref sig c.2.kind sp s₀ e) (hg : s₀.Gathers a s)
    (offs : Memref sig c.2.kind .vmem si .i32) (hn : si.numel = s.size hg.axis')
    (fs : Buf (Elt F) (src.view.loc c)) (fo : Buf (Elt F) (offs.view.loc c))
    (hin : ∀ x, (offs.view.read (Elt F) fo x).toNat < s₀.size hg.axis) (j : Fin (s.size hg.axis')) : (s.rowShape hg.axis').Idx → Elt F e :=
  fun i => src.view.read (Elt F) fs (hg.rowIdx (rows (offs.view.read (Elt F) fo) hn hin j) i)

/-- What row `j` of a gather brings back: the row of the destination written with the row of the source that the list's
    entry `j` names, the entry of the list, and a piece of the source's share. -/
def rowBack (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hs : 0 < s.size hg.axis') (hin : ∀ x, (offs.view.read (Elt F) fo x).toNat < s₀.size hg.axis) (j : Fin (s.size hg.axis')) : sProp 𝕄 :=
  iprop(((dst.view.loc c ↦[(dst.view.slice (s.rowRect hg.axis' j)).set]{fullShare}
          ((dst.view.slice (s.rowRect hg.axis' j)).write (Elt F) fd
            (rowPay c src hg offs hn fs fo hin j) Finset.univ))
      ∗ (offs.view.loc c ↦[{offs.view.emb (si.rowMajor.symm (j.cast hn.symm))}]{qo} fo))
    ∗ (src.view.loc c ↦[src.view.set]{pieceOf q _ hs j} fs))

instance rowBack_storable (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hs : 0 < s.size hg.axis') (hin : ∀ x, (offs.view.read (Elt F) fo x).toNat < s₀.size hg.axis) (j : Fin (s.size hg.axis')) :
    Storable (upEmb : UEmb _ 𝕄) (rowBack c src dst hg offs hn q qo fs fd fo hs hin j) := by
  unfold rowBack; infer_instance

omit [Preorder Lvl] in
/-- All of a gather's rows back: the destination written with the gather's payload, the source's and the list's shares. -/
theorem rows_back (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hs : 0 < s.size hg.axis') (hin : ∀ x, (offs.view.read (Elt F) fo x).toNat < s₀.size hg.axis) :
    (bigSep Finset.univ (fun j => rowBack c src dst hg offs hn q qo fs fd fo hs hin j) : sProp 𝕄)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective fun j : Fin (s.size hg.axis') => si.rowMajor.symm (j.cast hn.symm) :=
    si.rowMajor.symm.bijective.comp (finCongr hn.symm).bijective
  simp only [rowBack]
  iintro H
  ihave H := Transfers.bigSep_sep_out _ _ _ $$ H
  icases H with ⟨H, Hsrc⟩
  ihave H := Transfers.bigSep_sep_out _ _ _ $$ H
  icases H with ⟨Hrow, Hlist⟩
  isplitl [Hrow]
  · iapply (pointsTo_rows_write (Ix := Ix) (Name := Name) (U := U) (Lvl := Lvl) c dst.view hg.axis' fd
      (rowPay c src hg offs hn fs fo hin)
      (gatherPayload hg (src.view.read (Elt F) fs) (rows (offs.view.read (Elt F) fo) hn hin))
      (fun j i => by unfold rowPay gatherPayload; rw [Shape.Gathers.idx_rowRect_emb])) $$ Hrow
  isplitl [Hsrc]
  · iapply (Entails.of_eq (pointsTo_piecesOf src.view.set fs hs q).symm) $$ Hsrc
  · iapply (Entails.of_eq (pointsTo_entries c offs.view _ hen qo fo).symm) $$ Hlist

/-- `enqueueIndirectGather` at the head of a program as the batch's next `o` issues (`o` the destination's rows): holding
    a share of the source, the destination outright, a share of the list whose words are in range, and the batch with `k`
    issued whose deliveries `k, …, k + o - 1` the rows' entail, the tile goes on with `k + o` issued. -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {K : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N o k : ℕ) (ho : s.size hg.axis' = o)
    (hN : ∀ j, (dst.slice (s.rowRect hg.axis' j) (s.stride_rowRect hg.axis' j)).view.dmaCredit = N)
    (hs : 0 < s.size hg.axis') (hin : ∀ x, (offs.view.read (Elt F) fo x).toNat < s₀.size hg.axis)
    (hk : k + o ≤ n) (D : Fin n → sProp 𝕄)
    (hD : ∀ j : Fin (s.size hg.axis'), rowBack c src dst hg offs hn q qo fs fd fo hs hin j ⊢ D ⟨k + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k 0)
      ⊢ iprop((Transfers.Batch EC c (.dma sem) ι N D (k + o) 0 -∗ wp frame (wpE defs 𝒱 c bd) Set.univ (K ⟨⟩) Q)
          -∗ wp frame (wpE defs 𝒱 c bd) Set.univ (enqueueIndirectGather hp src dst hg offs hn sem hsrc he hsp hr >>= K) Q) := by
  subst ho
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N := by
    rw [Finset.sum_congr rfl (fun j _ => show (rd j).dst.view.dmaCredit = N from hN j), Finset.sum_const, Finset.card_univ, Fintype.card_fin, smul_eq_mul]
  unfold Transfers.Batch
  iintro ⟨Hs, Hd, Ho, ⟨%γ, %γ₀, %κ, #Hinv, Hγ, H0, Hcr⟩⟩ Hk
  ihave Hγ := (Entails.of_eq (bigSep_stretch (fun t => count EC (γ t) 0) k _ hk)) $$ Hγ
  icases Hγ with ⟨Hγ, Hrest⟩
  ihave Hd := (Entails.of_eq (pointsTo_rows c dst.view hg.axis' fullShare fd)) $$ Hd
  ihave Ho := (Entails.of_eq (pointsTo_entries c offs.view S.entry hen qo fo)) $$ Ho
  ihave Hs := (Entails.of_eq (pointsTo_piecesOf (src.view.set) fs hs q)) $$ Hs
  iapply (wp_enqueueIndirectDma 𝒱 c bd Set.univ (qo := qo) (fo := fo) (rd := rd) ι (s.size hg.axis' * N) hA hrd hsum) $$ [Hd Ho Hs Hγ]
  · have hrow : ∀ j : Fin (s.size hg.axis'), iprop(inv κ (Transfers.batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ hs j} fs)) ∗ count EC (γ ⟨k + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ hs j, fs, iprop((dst.view.loc c ↦[(dst.view.slice (s.rowRect hg.axis' j)).set]{fullShare}
        ((dst.view.slice (s.rowRect hg.axis' j)).write (Elt F) fd (rowPay c src hg offs hn fs fo hin j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hc := Transfers.batch_creditUpdate EC (g := (c, SemLoc.dma sem)) (N := N) (D := D) (γ := γ) (γ₀ := γ₀) (ι := κ) ⟨k + j.val, by omega⟩ (hD j)
        have hNj : (rd j).dst.view.amount (SemLoc.dma sem) = N := hN j
        rw [hNj]
        iapply hc
        isplitr; · iexact Hinv
        iexact Hγj
    unfold Stream.res
    ihave H1 := Transfers.bigSep_sep_in _ _ _ $$ [Hd Ho]; · isplitl [Hd] <;> iassumption
    ihave H2 := Transfers.bigSep_sep_in _ _ _ $$ [H1 Hs]; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred
    iapply Hk
    iexists γ, γ₀, κ
    isplitr; · iexact Hinv
    isplitl [Hrest]; · iexact Hrest
    isplitl [H0]; · iexact H0
    have hadd : (k + s.size hg.axis') * N - 0 = (k * N - 0) + s.size hg.axis' * N := by rw [Nat.add_mul]; omega
    rw [hadd, ← tallyAt_add]
    icombine Hcr Hcred as H
    iexact H

/-! ## Two gathers' rows as one batch's deliveries -/

/-- The deliveries of two gathers, the first's rows before the second's. -/
def pairD {o o' : ℕ} (d₁ : Fin o → sProp 𝕄) (d₂ : Fin o' → sProp 𝕄) (t : Fin (o + o')) : sProp 𝕄 :=
  Fin.addCases (motive := fun _ => sProp 𝕄) d₁ d₂ t

instance pairD_storable {o o' : ℕ} (d₁ : Fin o → sProp 𝕄) (d₂ : Fin o' → sProp 𝕄)
    [h₁ : ∀ j, Storable (upEmb : UEmb _ 𝕄) (d₁ j)] [h₂ : ∀ j, Storable (upEmb : UEmb _ 𝕄) (d₂ j)] (t : Fin (o + o')) :
    Storable (upEmb : UEmb _ 𝕄) (pairD d₁ d₂ t) := by
  unfold pairD
  refine Fin.addCases (fun j => ?_) (fun j => ?_) t
  · rw [Fin.addCases_left]; exact h₁ j
  · rw [Fin.addCases_right]; exact h₂ j

omit [Preorder Lvl] in
theorem pairD_first {o o' : ℕ} (d₁ : Fin o → sProp 𝕄) (d₂ : Fin o' → sProp 𝕄) (j : Fin o) :
    d₁ j ⊢ pairD d₁ d₂ ⟨0 + j.val, by omega⟩ := by
  have e : (⟨0 + j.val, by omega⟩ : Fin (o + o')) = Fin.castAdd o' j := Fin.ext (by simp)
  rw [e]; unfold pairD; rw [Fin.addCases_left]

omit [Preorder Lvl] in
theorem pairD_second {o o' : ℕ} (d₁ : Fin o → sProp 𝕄) (d₂ : Fin o' → sProp 𝕄) (j : Fin o') :
    d₂ j ⊢ pairD d₁ d₂ ⟨o + j.val, by omega⟩ := by
  have e : (⟨o + j.val, by omega⟩ : Fin (o + o')) = Fin.natAdd o j := Fin.ext (by simp)
  rw [e]; unfold pairD; rw [Fin.addCases_right]

omit [Preorder Lvl] in
/-- All of the batch's deliveries are all of the first gather's and all of the second's. -/
theorem pairD_join {o o' : ℕ} (d₁ : Fin o → sProp 𝕄) (d₂ : Fin o' → sProp 𝕄) :
    bigSep Finset.univ (pairD d₁ d₂) ⊢ iprop((bigSep Finset.univ fun j => d₁ j) ∗ bigSep Finset.univ fun j => d₂ j) := by
  rw [BI.bigSep_univ_equiv finSumFinEquiv (pairD d₁ d₂), BI.bigSep_univ_sum]
  refine Entails.of_eq ?_
  congr 1
  · exact BI.bigSep_congr fun j _ => by unfold pairD; rw [finSumFinEquiv_apply_left, Fin.addCases_left]
  · exact BI.bigSep_congr fun j _ => by unfold pairD; rw [finSumFinEquiv_apply_right, Fin.addCases_right]

end Cert.Proof.Gather

end
-- ==== Proof.Common.lean ====
/-
  What every part of the run speaks about: the program as the launch theorem sees it, the ghost state, the buffers'
  locations, the gathered values, and what the two SparseCore calls' handshakes carry.
-/
module

public import proofs.«01_k».proof.Defs
public import proofs.«01_k».proof.Proof.Gather
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) :=
  (Emb.inl : Emb UP (UP × Counters)).trans (embR (A := UH) (B := UP × Counters))

instance EP_landsIn : (EP (F := F)).LandsIn (upEmb : UEmb _ (MT nD τ sig (HIx 2) (Elt F) ℕ UU ℕ)) := by unfold EP; infer_instance

/-! ## The buffers' locations -/

abbrev nLoc (d : Dev nD) : Loc nD τ sig := (SparseCore.T d).loc main_arg0
abbrev uLoc (d : Dev nD) : Loc nD τ sig := (SparseCore.T d).loc main_arg1
abbrev tLoc (d : Dev nD) : Loc nD τ sig := (SparseCore.T d).loc main_arg4
abbrev jLoc (d : Dev nD) : Loc nD τ sig := (SparseCore.T d).loc main_arg5
abbrev p0Loc (d : Dev nD) : Loc nD τ sig := (SparseCore.T d).loc main_v0_0
abbrev qLoc (d : Dev nD) : Loc nD τ sig := (SparseCore.T d).loc main_v0_1
abbrev p1Loc (d : Dev nD) : Loc nD τ sig := (SparseCore.T d).loc main_v1

/-! ## The gathered values -/

/-- The row of a table that word `w` names, at column `k`. -/
def tabAt (t : S100000x128.Idx → Elt F .f32) (w : BitVec 32) (k : Fin 128) : Elt F .f32 :=
  t (ix2 (⟨w.toNat % 100000, Nat.mod_lt _ (by decide)⟩ : Fin 100000) k)

/-- Entry `n` of the user list. -/
def uAt (u : S16384.Idx → Elt F .i32) (n : ℕ) : Elt F .i32 := u (ix1 (⟨n % 16384, Nat.mod_lt _ (by decide)⟩ : Fin 16384))

/-- The 256 entries of the list from entry `b` on. -/
def lstV (u : S16384.Idx → Elt F .i32) (b : ℕ) : S256.Idx → Elt F .i32 := fun x => uAt u (b + (x 0).val)

/-- The 256 rows of the table that the entries from `b` on name. -/
def rowV (t : S100000x128.Idx → Elt F .f32) (u : S16384.Idx → Elt F .i32) (b : ℕ) : S256x128.Idx → Elt F .f32 :=
  fun x => tabAt t (uAt u (b + (x 0).val)) (x 1)

/-- The 8192 rows of the table that the entries from `b` on name. -/
def ptV (t : S100000x128.Idx → Elt F .f32) (u : S16384.Idx → Elt F .i32) (b : ℕ) : S8192x128.Idx → Elt F .f32 :=
  fun x => tabAt t (uAt u (b + (x 0).val)) (x 1)

/-- The 16 rows of the table that the node list names. -/
def qjV (t : S100000x128.Idx → Elt F .f32) (n : S16.Idx → Elt F .i32) : S16x128.Idx → Elt F .f32 :=
  fun x => tabAt t (n (ix1 (x 0))) (x 1)

variable (m : (ℓ : Loc nD τ sig) → Buf (Elt F) ℓ)

abbrev p0V (d : Dev nD) : Buf (Elt F) (p0Loc d) := ptV (m (tLoc d)) (m (uLoc d)) 0
abbrev p1V (d : Dev nD) : Buf (Elt F) (p1Loc d) := ptV (m (tLoc d)) (m (uLoc d)) 8192
abbrev qV (d : Dev nD) : Buf (Elt F) (qLoc d) := qjV (m (jLoc d)) (m (nLoc d))

/-- What the proof asks of the launch memory: the words of the two lists name rows of the tables. -/
def PreOK : Prop := ∀ d : Dev nD, (∀ j : S16384.Idx, (m (uLoc d) j).toNat < 100000) ∧ ∀ j : S16.Idx, (m (nLoc d) j).toNat < 100000

/-! ## The tiles: tile `(c, s)` takes block `2 s + c` -/

/-- The number of tile `(c, s)`. -/
def wid (c s : ℕ) (hc : c < 2) (hs : s < 16) : Fin 32 := ⟨2 * s + c, by omega⟩

theorem pdiv : 32 ∣ S8192x128.size 0 := ⟨256, rfl⟩
/-- Block `w` of the 8192 rows. -/
abbrev blk (w : Fin 32) : Rect S8192x128 := Rect.part (s := S8192x128) (a₀ := 0) pdiv w
/-- Tile `w`'s read share of a buffer all tiles read. -/
abbrev shr (w : Fin 32) : PosShare TreeShare := pieceOf fullShare 32 (by decide) w

/-! ## What the handshakes carry -/

abbrev uSh (d : Dev nD) (w : Fin 32) : sProp 𝕄 := uLoc d ↦{shr w} m (uLoc d)
abbrev tSh (d : Dev nD) (w : Fin 32) : sProp 𝕄 := tLoc d ↦{shr w} m (tLoc d)
abbrev p0Blk (d : Dev nD) (w : Fin 32) (f : Buf (Elt F) (p0Loc d)) : sProp 𝕄 := p0Loc d ↦[(blk w).set]{fullShare} f
abbrev p1Blk (d : Dev nD) (w : Fin 32) (f : Buf (Elt F) (p1Loc d)) : sProp 𝕄 := p1Loc d ↦[(blk w).set]{fullShare} f
/-- The node list, the second table and the 16-row result. -/
abbrev qAll (d : Dev nD) (f : Buf (Elt F) (qLoc d)) : sProp 𝕄 :=
  iprop((nLoc d ↦{fullShare} m (nLoc d)) ∗ (jLoc d ↦{fullShare} m (jLoc d)) ∗ qLoc d ↦{fullShare} f)
/-- They go to the first tile alone. -/
def qOnly (d : Dev nD) (w : Fin 32) (f : Buf (Elt F) (qLoc d)) : sProp 𝕄 := if w.val = 0 then qAll m d f else iprop(emp)

instance qOnly_storable (d : Dev nD) (w : Fin 32) (f : Buf (Elt F) (qLoc d)) : BI.Storable (upEmb : UEmb _ 𝕄) (qOnly m d w f) := by
  unfold qOnly; split <;> infer_instance

/-- What tile `w` of the first call is given, its block at `f` and the 16 rows at `g`. -/
abbrev goT0 (d : Dev nD) (w : Fin 32) (f : Buf (Elt F) (p0Loc d)) (g : Buf (Elt F) (qLoc d)) : sProp 𝕄 :=
  iprop(uSh m d w ∗ tSh m d w ∗ p0Blk d w f ∗ qOnly m d w g)
/-- What tile `w` of the second call is given, its block at `f`. -/
abbrev goT1 (d : Dev nD) (w : Fin 32) (f : Buf (Elt F) (p1Loc d)) : sProp 𝕄 :=
  iprop(uSh m d w ∗ tSh m d w ∗ p1Blk d w f)

theorem nCore_eq (q : Fin 2) : (K (F := F)).nCore q = 2 := by match q with | 0 => rfl | 1 => rfl
theorem nSub_eq (q : Fin 2) : (K (F := F)).nSub q = 16 := by match q with | 0 => rfl | 1 => rfl

/-- The number of a call's tile. -/
def widK (q : Fin 2) (c : Fin ((K (F := F)).nCore q)) (s : Fin ((K (F := F)).nSub q)) : Fin 32 :=
  wid c.val s.val (lt_of_lt_of_eq c.isLt (nCore_eq q)) (lt_of_lt_of_eq s.isLt (nSub_eq q))

def goF (q : Fin 2) (d : Dev nD) (w : Fin 32) : sProp 𝕄 :=
  match q with
  | 0 => goT0 m d w (m (p0Loc d)) (m (qLoc d))
  | 1 => goT1 m d w (m (p1Loc d))
def tdF (q : Fin 2) (d : Dev nD) (w : Fin 32) : sProp 𝕄 :=
  match q with
  | 0 => goT0 m d w (p0V m d) (qV m d)
  | 1 => goT1 m d w (p1V m d)

instance goF_storable (q : Fin 2) (d : Dev nD) (w : Fin 32) : BI.Storable (upEmb : UEmb _ 𝕄) (goF m q d w) := by
  unfold goF; split <;> infer_instance
instance tdF_storable (q : Fin 2) (d : Dev nD) (w : Fin 32) : BI.Storable (upEmb : UEmb _ 𝕄) (tdF m q d w) := by
  unfold tdF; split <;> infer_instance

/-- Each tile takes a read share of the user list and of the first table, and its block of the result; the first call's
    first tile the node list, the second table and the 16-row result besides. A core carries its 16 tiles'. -/
def P : (K (F := F)).Pay (nD := nD) (Val := Elt F) (Name := ℕ) (U := UU) where
  st := fun q d c => bigSep Finset.univ fun s => goF m q d (widK q c s)
  dn := fun q d c => bigSep Finset.univ fun s => tdF m q d (widK q c s)
  go := fun q d c s => goF m q d (widK q c s)
  td := fun q d c s => tdF m q d (widK q c s)
  x := fun _ _ => iprop(emp)

instance P_storable : (P (F := F) m).IsStorable where
  st q d c := (inferInstance : BI.Storable (upEmb : UEmb _ 𝕄) (bigSep Finset.univ fun s => goF m q d (widK q c s)))
  dn q d c := (inferInstance : BI.Storable (upEmb : UEmb _ 𝕄) (bigSep Finset.univ fun s => tdF m q d (widK q c s)))
  go q d c s := (inferInstance : BI.Storable (upEmb : UEmb _ 𝕄) (goF m q d (widK q c s)))
  td q d c s := (inferInstance : BI.Storable (upEmb : UEmb _ 𝕄) (tdF m q d (widK q c s)))

theorem vecSplit [FloatOps F] (q : Fin 2) : (K (F := F)).VecSplit' (P m) q := by
  intro d c
  show (bigSep Finset.univ fun s => goF m q d (widK q c s)) ⊢ |={Set.univ}=> iprop(
      (bigSep Finset.univ fun s => goF m q d (widK q c s))
      ∗ ((bigSep Finset.univ fun s => tdF m q d (widK q c s)) -∗ bigSep Finset.univ fun s => tdF m q d (widK q c s)))
  iintro H; imodintro
  isplitl [H]; · iexact H
  iintro H; iexact H

/-! ## Half and half of 256 -/

theorem compl_rows : (Finset.univ : Finset S256x128.Idx) \ (Rect.unit (s := S256x128) ![0, 0] S128x128.size inb_S256x128_S128x128_0_0).set
    = (Rect.unit (s := S256x128) ![128, 0] S128x128.size inb_S256x128_S128x128_128_0).set := by
  ext i
  simp only [Finset.mem_sdiff, Finset.mem_univ, true_and, Rect.mem_set_unit, Fin.forall_fin_two, Shape.size]
  have h0 : (i 0).val < 256 := (i 0).isLt
  have h1 : (i 1).val < 128 := (i 1).isLt
  simp
  omega

theorem compl_list : (Finset.univ : Finset S256.Idx) \ (Rect.unit (s := S256) ![0] S128.size inb_S256_S128_0).set
    = (Rect.unit (s := S256) ![128] S128.size inb_S256_S128_128).set := by
  ext i
  have h0 : (i 0).val < 256 := (i 0).isLt
  simp only [Finset.mem_sdiff, Finset.mem_univ, true_and, Rect.mem_set_unit, Fin.forall_fin_one, Shape.size]
  simp
  omega

theorem all_table : (Rect.unit (s := S100000x128) ![0, 0] S100000x128.size inb_S100000x128_S100000x128_0_0).set = Finset.univ := by
  ext i
  have h0 : (i 0).val < 100000 := (i 0).isLt
  have h1 : (i 1).val < 128 := (i 1).isLt
  simp only [Finset.mem_univ, iff_true, Rect.mem_set_unit, Fin.forall_fin_two, Shape.size]
  simp
  omega

end Cert.Proof.Run

end
-- ==== Proof.Values.lean ====
/-
  The contents the tiles' copies carry, read at an index.
-/
module

public import proofs.«01_k».proof.Proof.Common

@[expose] public section

noncomputable section

namespace Cert.Proof.Run

open Cert.KernelIdeal Cert.KernelIdeal.Gen

open Idealize.ShloMosaic
open Idealize.ShloMosaic.SparseCore (S V T gatherPayload rows)
open Idealize.ShloMosaic.ValueIdx (ix1 ix2 eq_ix1 eq_ix2)

variable {F : FTy → Type}

/-- Entry `k` of a list of words, in row-major order, is entry `k`. -/
theorem symm_list {n : ℕ} (k : Fin n) (h : n = (⟨1, ![n]⟩ : Shape).numel) : (⟨1, ![n]⟩ : Shape).rowMajor.symm (k.cast h) = ix1 k := by
  rw [Equiv.symm_apply_eq]
  refine Fin.ext ?_
  rw [Shape.rowMajor_val_one]; rfl

/-- The slice of the user list from `b` on is its 256 entries from `b` on. -/
theorem lst_fetch (u : S16384.Idx → Elt F .i32) (off : Fin 1 → ℕ) (inb) (b : ℕ) (hoff : off 0 = b) :
    ((Memref.whole main_arg1_scv : Memref sig .scVector .hbm S16384 .i32).slice (Rect.unit (s := S16384) off S256.size inb) (fun _ => rfl)).view.read (Elt F) u
      = lstV u b := by
  funext x
  rw [View.read_apply]
  have hi := inb 0
  have hx : (x 0).val < 256 := (x 0).isLt
  have hs : off 0 + 256 ≤ 16384 := hi
  unfold lstV uAt
  refine (cast_eq _ _).trans (congrArg u ?_)
  funext a
  match a with
  | ⟨0, _⟩ =>
    refine Fin.ext ?_
    show off 0 + 1 * (x 0).val = (b + (x 0).val) % 16384
    rw [Nat.mod_eq_of_lt (by omega)]; omega

/-- A gather of 128 rows, read at an index. -/
theorem gather_apply (g : S100000x128.Idx → Elt F .f32) (l : S128.Idx → Elt F .i32)
    (hin : ∀ x, (l x).toNat < S100000x128.size gathers_S100000x128_S128x128.axis) (y : S128x128.Idx) :
    gatherPayload gathers_S100000x128_S128x128 g (rows (si := S128) l rfl hin) y = tabAt g (l (ix1 (y 0))) (y 1) := by
  unfold gatherPayload tabAt
  refine congrArg g ?_
  funext a
  match a with
  | ⟨0, _⟩ =>
    have := Shape.Gathers.idx_axis gathers_S100000x128_S128x128 (rows (si := S128) l rfl hin) y
    refine this.trans (Fin.ext ?_)
    show (l (S128.rowMajor.symm ((y 0).cast _))).toNat = (l (ix1 (y 0))).toNat % 100000
    have e : S128.rowMajor.symm ((y 0).cast rfl) = ix1 (y 0) := symm_list (n := 128) (y 0) rfl
    have hl : (l (ix1 (y 0))).toNat < 100000 := hin _
    rw [Nat.mod_eq_of_lt hl]
    exact congrArg (fun z => (l z).toNat) e
  | ⟨1, _⟩ =>
    refine Fin.ext ?_
    have := Shape.Gathers.idx_of_ne gathers_S100000x128_S128x128 (rows (si := S128) l rfl hin) y 1 (by decide)
    exact this

/-- A gather of 16 rows, read at an index. -/
theorem gather16_apply (g : S100000x128.Idx → Elt F .f32) (l : S16.Idx → Elt F .i32)
    (hin : ∀ x, (l x).toNat < S100000x128.size gathers_S100000x128_S16x128.axis) (y : S16x128.Idx) :
    gatherPayload gathers_S100000x128_S16x128 g (rows (si := S16) l rfl hin) y = tabAt g (l (ix1 (y 0))) (y 1) := by
  unfold gatherPayload tabAt
  refine congrArg g ?_
  funext a
  match a with
  | ⟨0, _⟩ =>
    have := Shape.Gathers.idx_axis gathers_S100000x128_S16x128 (rows (si := S16) l rfl hin) y
    refine this.trans (Fin.ext ?_)
    show (l (S16.rowMajor.symm ((y 0).cast _))).toNat = (l (ix1 (y 0))).toNat % 100000
    have e : S16.rowMajor.symm ((y 0).cast rfl) = ix1 (y 0) := symm_list (n := 16) (y 0) rfl
    have hl : (l (ix1 (y 0))).toNat < 100000 := hin _
    rw [Nat.mod_eq_of_lt hl]
    exact congrArg (fun z => (l z).toNat) e
  | ⟨1, _⟩ =>
    refine Fin.ext ?_
    have := Shape.Gathers.idx_of_ne gathers_S100000x128_S16x128 (rows (si := S16) l rfl hin) y 1 (by decide)
    exact this

/-- All of a table, addressed as a slice of itself. -/
theorem emb_all (i : S100000x128.Idx) :
    (Rect.unit (s := S100000x128) ![0, 0] S100000x128.size inb_S100000x128_S100000x128_0_0).emb i = i := by
  funext a
  match a with
  | ⟨0, _⟩ => refine Fin.ext ?_; show 0 + 1 * (i 0).val = (i 0).val; omega
  | ⟨1, _⟩ => refine Fin.ext ?_; show 0 + 1 * (i 1).val = (i 1).val; omega

end Cert.Proof.Run

end
-- ==== Proof.Tile0.lean ====
/-
  The first SparseCore call's task on one tile: the fetch of the tile's 256 entries of the user list, the two gathers of
  128 rows each outstanding together on one cell, their two waits, and the write-out of the 256 rows; on the first tile
  the 16 rows of the second table besides.
-/
module

public import proofs.«01_k».proof.Proof.Values

@[expose] public section

noncomputable section

namespace Cert.Proof.Run.Tile0

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type}

local notation "𝕄" => MT nD τ sig (HIx 2) (Elt F) ℕ UU ℕ
local notation "uV" => (Memref.whole Cert.KernelIdeal.main_arg1_scv : Memref Cert.KernelIdeal.sig Kind.scVector Space.hbm Cert.KernelIdeal.S16384 EltTy.i32)
local notation "nV" => (Memref.whole Cert.KernelIdeal.main_arg0_scv : Memref Cert.KernelIdeal.sig Kind.scVector Space.hbm Cert.KernelIdeal.S16 EltTy.i32)
local notation "tV" => (Memref.whole Cert.KernelIdeal.main_arg4_scv : Memref Cert.KernelIdeal.sig Kind.scVector Space.hbm Cert.KernelIdeal.S100000x128 EltTy.f32)
local notation "jV" => (Memref.whole Cert.KernelIdeal.main_arg5_scv : Memref Cert.KernelIdeal.sig Kind.scVector Space.hbm Cert.KernelIdeal.S100000x128 EltTy.f32)
local notation "pV" => (Memref.whole Cert.KernelIdeal.main_v0_0_scv : Memref Cert.KernelIdeal.sig Kind.scVector Space.hbm Cert.KernelIdeal.S8192x128 EltTy.f32)
local notation "qjM" => (Memref.whole Cert.KernelIdeal.main_v0_1_scv : Memref Cert.KernelIdeal.sig Kind.scVector Space.hbm Cert.KernelIdeal.S16x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)
local notation "s'V" => (Memref.whole Cert.KernelIdeal.cc0_scratch3 : Memref Cert.KernelIdeal.sig Kind.scVector Space.vmem Cert.KernelIdeal.S16 EltTy.i32)
local notation "r'V" => (Memref.whole Cert.KernelIdeal.cc0_scratch4 : Memref Cert.KernelIdeal.sig Kind.scVector Space.vmem Cert.KernelIdeal.S16x128 EltTy.f32)

variable (m : (ℓ : Loc nD τ sig) → Buf (Elt F) ℓ)
variable (d : Dev nD) (L : grid0.Coords)

abbrev cT (L : grid0.Coords) : Fin τ.nSC := (L 0).castLE hcore0
abbrev jT (L : grid0.Coords) : Fin τ.nSub := (L 1).castLE hsub0
/-- The tile's thread. -/
abbrev th (d : Dev nD) (L : grid0.Coords) : Thread nD τ := V d (cT L) (jT L)
/-- The tile's number. -/
abbrev wL (L : grid0.Coords) : Fin 32 := wid (L 0).val (L 1).val (L 0).isLt (L 1).isLt
/-- The tile's first entry of the user list. -/
abbrev bL (L : grid0.Coords) : ℕ := 512 * (L 1).val + 256 * (L 0).val + 0

abbrev uSl (L : grid0.Coords) : Memref sig .scVector .hbm S256 .i32 :=
  (uV).slice (Rect.unit (s := S16384) (k0_off1 L) S256.size (k0_off1_inb L)) (fun _ => rfl)
abbrev pSl (L : grid0.Coords) : Memref sig .scVector .hbm S256x128 .f32 :=
  (pV).slice (Rect.unit (s := S8192x128) (k0_off2 L) S256x128.size (k0_off2_inb L)) (fun _ => rfl)
abbrev tAll : Memref sig .scVector .hbm S100000x128 .f32 :=
  (tV).slice (Rect.unit (s := S100000x128) ![0, 0] S100000x128.size inb_S100000x128_S100000x128_0_0) (fun _ => rfl)
abbrev r1 : Memref sig .scVector .vmem S128x128 .f32 :=
  (rV).slice (Rect.unit (s := S256x128) ![0, 0] S128x128.size inb_S256x128_S128x128_0_0) (fun _ => rfl)
abbrev r2 : Memref sig .scVector .vmem S128x128 .f32 :=
  (rV).slice (Rect.unit (s := S256x128) ![128, 0] S128x128.size inb_S256x128_S128x128_128_0) (fun _ => rfl)
abbrev l1 : Memref sig .scVector .vmem S128 .i32 := (sV).slice (Rect.unit (s := S256) ![0] S128.size inb_S256_S128_0) (fun _ => rfl)
abbrev l2 : Memref sig .scVector .vmem S128 .i32 := (sV).slice (Rect.unit (s := S256) ![128] S128.size inb_S256_S128_128) (fun _ => rfl)

theorem pSl_rect : Rect.unit (s := S8192x128) (k0_off2 L) S256x128.size (k0_off2_inb L) = blk (wL L) := by
  unfold blk Rect.part Rect.block
  congr 1 <;> funext a
  · rw [k0_off2_eq]
    match a with
    | 0 =>
      have hw : (wL L).val = 2 * (L 1).val + (L 0).val := rfl
      simp [Shape.partIx, Shape.partSize]; omega
    | 1 => simp [Shape.partIx, Shape.partSize]
  · match a with
    | 0 => simp [Shape.partSize]
    | 1 => simp [Shape.partSize]

theorem set_pSl : (pSl L).view.set = (blk (wL L)).set := by
  show ((View.whole (main_v0_0_scv : Ref sig .scVector)).slice (Rect.unit (s := S8192x128) (k0_off2 L) S256x128.size (k0_off2_inb L))).set = _
  rw [View.set_slice_whole]
  exact congrArg (fun r : Rect S8192x128 => r.set) (pSl_rect L)

theorem pts_pSl (f : Buf (Elt F) (p0Loc d)) :
    ((pSl L).view.loc (th d L) ↦[(pSl L).view.set]{fullShare} f : sProp 𝕄) = p0Loc d ↦[(blk (wL L)).set]{fullShare} f := by
  rw [set_pSl]

theorem set_tAll : (tAll).view.set = Finset.univ := by
  show ((View.whole (main_arg4_scv : Ref sig .scVector)).slice _).set = _
  rw [View.set_slice_whole]; exact all_table
theorem set_r1 : (r1).view.set = (Rect.unit (s := S256x128) ![0, 0] S128x128.size inb_S256x128_S128x128_0_0).set :=
  View.set_slice_whole _ _
theorem set_r2 : (r2).view.set = (Rect.unit (s := S256x128) ![128, 0] S128x128.size inb_S256x128_S128x128_128_0).set :=
  View.set_slice_whole _ _
theorem set_l1 : (l1).view.set = (Rect.unit (s := S256) ![0] S128.size inb_S256_S128_0).set :=
  View.set_slice_whole _ _
theorem set_l2 : (l2).view.set = (Rect.unit (s := S256) ![128] S128.size inb_S256_S128_128).set :=
  View.set_slice_whole _ _

/-- The row scratch is its two halves. -/
theorem rows_halves (f : Buf (Elt F) ((th d L).loc cc0_scratch1)) :
    ((rV).view.loc (th d L) ↦{fullShare} f : sProp 𝕄)
      ⊣⊢ iprop(((r1).view.loc (th d L) ↦[(r1).view.set]{fullShare} f) ∗ (r2).view.loc (th d L) ↦[(r2).view.set]{fullShare} f) := by
  have h := pointsTo_split_subset (Ix := HIx 2) (Val := Elt F) (Name := ℕ) (U := UU) (Lvl := ℕ) (ℓ := (th d L).loc cc0_scratch1) (q := fullShare) (f := f)
    (S := Finset.univ) (Finset.subset_univ (r1).view.set)
  rw [show (Finset.univ : Finset (Idx ((th d L).loc cc0_scratch1))) \ (r1).view.set = (r2).view.set by
    rw [set_r1, set_r2]; exact compl_rows] at h
  exact h

/-- The list scratch is its two halves. -/
theorem list_halves (f : Buf (Elt F) ((th d L).loc cc0_scratch0)) :
    ((sV).view.loc (th d L) ↦{fullShare} f : sProp 𝕄)
      ⊣⊢ iprop(((l1).view.loc (th d L) ↦[(l1).view.set]{fullShare} f) ∗ (l2).view.loc (th d L) ↦[(l2).view.set]{fullShare} f) := by
  have h := pointsTo_split_subset (Ix := HIx 2) (Val := Elt F) (Name := ℕ) (U := UU) (Lvl := ℕ) (ℓ := (th d L).loc cc0_scratch0) (q := fullShare) (f := f)
    (S := Finset.univ) (Finset.subset_univ (l1).view.set)
  rw [show (Finset.univ : Finset (Idx ((th d L).loc cc0_scratch0))) \ (l1).view.set = (l2).view.set by
    rw [set_l1, set_l2]; exact compl_list] at h
  exact h

/-- The tile's share of the table, once for each gather. -/
theorem table_shares (q : PosShare TreeShare) (f : Buf (Elt F) (tLoc d)) :
    (tLoc d ↦{q} f : sProp 𝕄)
      ⊣⊢ iprop(((tAll).view.loc (th d L) ↦[(tAll).view.set]{q.left} f) ∗ (tAll).view.loc (th d L) ↦[(tAll).view.set]{q.right} f) := by
  rw [set_tAll]
  exact pointsTo_share (PosShare.mem_left_op_right q)

/-! ## What the copies carry -/

variable {m} in
theorem lst_lt (hpre : PreOK m) (b : ℕ) (x : S256.Idx) : (lstV (F := F) (m (uLoc d)) b x).toNat < 100000 := (hpre d).1 _

variable {m} in
theorem hin1 (hpre : PreOK m) (b : ℕ) :
    ∀ x, ((l1).view.read (Elt F) (lstV (F := F) (m (uLoc d)) b) x).toNat < S100000x128.size gathers_S100000x128_S128x128.axis := fun x => by
  rw [View.read_apply]; exact lst_lt d hpre b _
variable {m} in
theorem hin2 (hpre : PreOK m) (b : ℕ) :
    ∀ x, ((l2).view.read (Elt F) (lstV (F := F) (m (uLoc d)) b) x).toNat < S100000x128.size gathers_S100000x128_S128x128.axis := fun x => by
  rw [View.read_apply]; exact lst_lt d hpre b _

theorem read_tAll (t : S100000x128.Idx → Elt F .f32) : (tAll).view.read (Elt F) t = t := by
  funext i
  rw [View.read_apply]
  exact (cast_eq _ _).trans (congrArg t (emb_all i))

theorem first_rows (t : S100000x128.Idx → Elt F .f32) (u : S16384.Idx → Elt F .i32) (b : ℕ) (f : S256x128.Idx → Elt F .f32)
    (hin : ∀ x, ((l1).view.read (Elt F) (lstV u b) x).toNat < S100000x128.size gathers_S100000x128_S128x128.axis) :
    ∀ i ∈ (r1).view.set, (r1).view.write (Elt F) f
        (gatherPayload gathers_S100000x128_S128x128 ((tAll).view.read (Elt F) t) (rows (si := S128) ((l1).view.read (Elt F) (lstV u b)) rfl hin)) Finset.univ i
      = rowV t u b i := by
  intro i hi
  obtain ⟨y, -, rfl⟩ := Finset.mem_map.mp hi
  rw [View.write_emb_of_mem _ _ (Finset.mem_univ y)]
  refine (cast_eq _ _).trans ?_
  rw [gather_apply, read_tAll, View.read_apply]
  unfold rowV lstV
  refine congr (congrArg (tabAt t) ((cast_eq _ _).trans (congrArg (uAt u) ?_))) ?_
  · show b + (0 + 1 * (y 0).val) = b + (0 + 1 * (y 0).val); rfl
  · exact Fin.ext (show (y 1).val = 0 + 1 * (y 1).val by omega)

theorem second_rows (t : S100000x128.Idx → Elt F .f32) (u : S16384.Idx → Elt F .i32) (b : ℕ) (f : S256x128.Idx → Elt F .f32)
    (hin : ∀ x, ((l2).view.read (Elt F) (lstV u b) x).toNat < S100000x128.size gathers_S100000x128_S128x128.axis) :
    ∀ i ∈ (r2).view.set, (r2).view.write (Elt F) f
        (gatherPayload gathers_S100000x128_S128x128 ((tAll).view.read (Elt F) t) (rows (si := S128) ((l2).view.read (Elt F) (lstV u b)) rfl hin)) Finset.univ i
      = rowV t u b i := by
  intro i hi
  obtain ⟨y, -, rfl⟩ := Finset.mem_map.mp hi
  rw [View.write_emb_of_mem _ _ (Finset.mem_univ y)]
  refine (cast_eq _ _).trans ?_
  rw [gather_apply, read_tAll, View.read_apply]
  unfold rowV lstV
  refine congr (congrArg (tabAt t) ((cast_eq _ _).trans (congrArg (uAt u) ?_))) ?_
  · show b + (128 + 1 * (y 0).val) = b + (128 + 1 * (y 0).val); rfl
  · exact Fin.ext (show (y 1).val = 0 + 1 * (y 1).val by omega)

/-- The block of the result as the write-out leaves it. -/
theorem out_rows (t : S100000x128.Idx → Elt F .f32) (u : S16384.Idx → Elt F .i32) (f : S8192x128.Idx → Elt F .f32) :
    ∀ i ∈ (blk (wL L)).set, (pSl L).view.write (Elt F) f ((rV).view.read (Elt F) (rowV t u (bL L))) Finset.univ i = ptV t u 0 i := by
  intro i hi
  rw [← set_pSl] at hi
  obtain ⟨y, -, rfl⟩ := Finset.mem_map.mp hi
  rw [View.write_emb_of_mem _ _ (Finset.mem_univ y)]
  refine (cast_eq _ _).trans ?_
  simp only [Memref.view_whole, View.read_whole]
  unfold rowV ptV
  have h0 : k0_off2 L 0 = 512 * (L 1).val + 256 * (L 0).val := by rw [k0_off2_eq]; rfl
  have h1 : k0_off2 L 1 = 0 := by rw [k0_off2_eq]; rfl
  refine congr (congrArg (tabAt t) (congrArg (uAt u) ?_)) ?_
  · show 512 * (L 1).val + 256 * (L 0).val + 0 + (y 0).val = 0 + (k0_off2 L 0 + 1 * (y 0).val)
    omega
  · exact Fin.ext (show (y 1).val = k0_off2 L 1 + 1 * (y 1).val by omega)

end Cert.Proof.Run.Tile0

end
-- ==== Proof.Body0.lean ====
/-
  The first SparseCore call's task on one tile, run.
-/
module

public import proofs.«01_k».proof.Proof.Tile0

@[expose] public section

noncomputable section

namespace Cert.Proof.Run.Tile0

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type}

local notation "𝕄" => MT nD τ sig (HIx 2) (Elt F) ℕ UU ℕ
local notation "uV" => (Memref.whole Cert.KernelIdeal.main_arg1_scv : Memref Cert.KernelIdeal.sig Kind.scVector Space.hbm Cert.KernelIdeal.S16384 EltTy.i32)
local notation "nV" => (Memref.whole Cert.KernelIdeal.main_arg0_scv : Memref Cert.KernelIdeal.sig Kind.scVector Space.hbm Cert.KernelIdeal.S16 EltTy.i32)
local notation "tV" => (Memref.whole Cert.KernelIdeal.main_arg4_scv : Memref Cert.KernelIdeal.sig Kind.scVector Space.hbm Cert.KernelIdeal.S100000x128 EltTy.f32)
local notation "jV" => (Memref.whole Cert.KernelIdeal.main_arg5_scv : Memref Cert.KernelIdeal.sig Kind.scVector Space.hbm Cert.KernelIdeal.S100000x128 EltTy.f32)
local notation "pV" => (Memref.whole Cert.KernelIdeal.main_v0_0_scv : Memref Cert.KernelIdeal.sig Kind.scVector Space.hbm Cert.KernelIdeal.S8192x128 EltTy.f32)
local notation "qjM" => (Memref.whole Cert.KernelIdeal.main_v0_1_scv : Memref Cert.KernelIdeal.sig Kind.scVector Space.hbm Cert.KernelIdeal.S16x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)
local notation "s'V" => (Memref.whole Cert.KernelIdeal.cc0_scratch3 : Memref Cert.KernelIdeal.sig Kind.scVector Space.vmem Cert.KernelIdeal.S16 EltTy.i32)
local notation "r'V" => (Memref.whole Cert.KernelIdeal.cc0_scratch4 : Memref Cert.KernelIdeal.sig Kind.scVector Space.vmem Cert.KernelIdeal.S16x128 EltTy.f32)

variable (m : (ℓ : Loc nD τ sig) → Buf (Elt F) ℓ)
variable (d : Dev nD) (L : grid0.Coords)

abbrev jAll : Memref sig .scVector .hbm S100000x128 .f32 :=
  (jV).slice (Rect.unit (s := S100000x128) ![0, 0] S100000x128.size inb_S100000x128_S100000x128_0_0) (fun _ => rfl)
theorem set_jAll : (jAll).view.set = Finset.univ := by
  show ((View.whole (main_arg5_scv : Ref sig .scVector)).slice _).set = _
  rw [View.set_slice_whole]; exact all_table
theorem read_jAll (t : S100000x128.Idx → Elt F .f32) : (jAll).view.read (Elt F) t = t := by
  funext i
  rw [View.read_apply]
  exact (cast_eq _ _).trans (congrArg t (emb_all i))

abbrev cA (d : Dev nD) (L : grid0.Coords) : GSem nD τ sig := (th d L, .dma cc0_scoped0.sem)
abbrev cB (d : Dev nD) (L : grid0.Coords) : GSem nD τ sig := (th d L, .dma cc0_scratch2.sem)
abbrev cC (d : Dev nD) (L : grid0.Coords) : GSem nD τ sig := (th d L, .dma cc0_scoped1.sem)
abbrev cD (d : Dev nD) (L : grid0.Coords) : GSem nD τ sig := (th d L, .dma cc0_scoped2.sem)
abbrev cE (d : Dev nD) (L : grid0.Coords) : GSem nD τ sig := (th d L, .dma cc0_scratch5.sem)
abbrev cG (d : Dev nD) (L : grid0.Coords) : GSem nD τ sig := (th d L, .dma cc0_scoped3.sem)

theorem mem_cell (s : Idealize.ShloMosaic.DmaSem sig) (h : (SemLoc.dma s : SemLoc sig).isScoped .scVector = true) : ((th d L, .dma s) : GSem nD τ sig) ∈ ownCells (th d L) :=
  (mem_ownCells (g := (th d L, .dma s))).mpr ⟨rfl, h⟩
theorem cell_ne (s s' : Idealize.ShloMosaic.DmaSem sig) (h : (SemLoc.dma s : SemLoc sig) ≠ .dma s') : ((th d L, .dma s) : GSem nD τ sig) ≠ (th d L, .dma s') :=
  fun e => h (congrArg Prod.snd e)

/-- The six cells the task uses are among the subcore's own. -/
theorem ownSems0_V :
    (ownSems0 (th d L) : sProp 𝕄)
      = iprop(semVal (cA d L) 0 ∗ semVal (cB d L) 0 ∗ semVal (cC d L) 0 ∗ semVal (cD d L) 0 ∗ semVal (cE d L) 0 ∗ semVal (cG d L) 0
          ∗ bigSep (((((((ownCells (th d L)).erase (cA d L)).erase (cB d L)).erase (cC d L)).erase (cD d L)).erase (cE d L)).erase (cG d L)) fun g => semVal g 0) := by
  unfold SparseCore.Cfg.ownSems0
  have hm := mem_cell d L
  have hn := cell_ne d L
  rw [SparseCore.bigSep_erase' (hm cc0_scoped0.sem (by decide)),
    SparseCore.bigSep_erase' (Finset.mem_erase.mpr ⟨hn cc0_scratch2.sem cc0_scoped0.sem (by decide), hm _ (by decide)⟩),
    SparseCore.bigSep_erase' (Finset.mem_erase.mpr ⟨hn cc0_scoped1.sem cc0_scratch2.sem (by decide), Finset.mem_erase.mpr ⟨hn _ cc0_scoped0.sem (by decide), hm _ (by decide)⟩⟩),
    SparseCore.bigSep_erase' (Finset.mem_erase.mpr ⟨hn cc0_scoped2.sem cc0_scoped1.sem (by decide), Finset.mem_erase.mpr ⟨hn _ cc0_scratch2.sem (by decide),
      Finset.mem_erase.mpr ⟨hn _ cc0_scoped0.sem (by decide), hm _ (by decide)⟩⟩⟩),
    SparseCore.bigSep_erase' (Finset.mem_erase.mpr ⟨hn cc0_scratch5.sem cc0_scoped2.sem (by decide), Finset.mem_erase.mpr ⟨hn _ cc0_scoped1.sem (by decide),
      Finset.mem_erase.mpr ⟨hn _ cc0_scratch2.sem (by decide), Finset.mem_erase.mpr ⟨hn _ cc0_scoped0.sem (by decide), hm _ (by decide)⟩⟩⟩⟩),
    SparseCore.bigSep_erase' (Finset.mem_erase.mpr ⟨hn cc0_scoped3.sem cc0_scratch5.sem (by decide), Finset.mem_erase.mpr ⟨hn _ cc0_scoped2.sem (by decide),
      Finset.mem_erase.mpr ⟨hn _ cc0_scoped1.sem (by decide), Finset.mem_erase.mpr ⟨hn _ cc0_scratch2.sem (by decide),
      Finset.mem_erase.mpr ⟨hn _ cc0_scoped0.sem (by decide), hm _ (by decide)⟩⟩⟩⟩⟩)]

theorem buf_ne (b b' : Ref sig .scVector) (h : b ≠ b') : (Proc.scVector (cT L) (jT L)).devRef b ≠ (Proc.scVector (cT L) (jT L)).devRef b' :=
  fun e => h (Proc.devRef_injective _ e)

/-- The four scratch buffers are among the subcore's own: they are them, at some contents, and the rest. -/
theorem ownBufs_V :
    (ownBufs (th d L) : sProp 𝕄)
      = iprop((∃ f, (th d L).loc cc0_scratch0 ↦{fullShare} f) ∗ (∃ f, (th d L).loc cc0_scratch1 ↦{fullShare} f)
          ∗ (∃ f, (th d L).loc cc0_scratch3 ↦{fullShare} f) ∗ (∃ f, (th d L).loc cc0_scratch4 ↦{fullShare} f)
          ∗ bigSep (((((ownRefs (τ := τ) (.scVector (cT L) (jT L))).erase ((Proc.scVector (cT L) (jT L)).devRef cc0_scratch0)).erase
              ((Proc.scVector (cT L) (jT L)).devRef cc0_scratch1)).erase ((Proc.scVector (cT L) (jT L)).devRef cc0_scratch3)).erase
              ((Proc.scVector (cT L) (jT L)).devRef cc0_scratch4))
              fun b => iprop(∃ f, ((d, b) : Loc nD τ sig) ↦{fullShare} f)) := by
  unfold SparseCore.Cfg.ownBufs
  have hn := buf_ne L
  refine (SparseCore.bigSep_erase' (SparseCore.Cfg.mem_ownRefs_of_owner (p := Proc.scVector (cT L) (jT L)) (b := (Proc.scVector (cT L) (jT L)).devRef cc0_scratch0) rfl)).trans ?_
  rw [SparseCore.bigSep_erase' (Finset.mem_erase.mpr ⟨hn cc0_scratch1 cc0_scratch0 (by decide), SparseCore.Cfg.mem_ownRefs_of_owner (p := Proc.scVector (cT L) (jT L)) (b := (Proc.scVector (cT L) (jT L)).devRef cc0_scratch1) rfl⟩),
    SparseCore.bigSep_erase' (Finset.mem_erase.mpr ⟨hn cc0_scratch3 cc0_scratch1 (by decide), Finset.mem_erase.mpr ⟨hn cc0_scratch3 cc0_scratch0 (by decide), SparseCore.Cfg.mem_ownRefs_of_owner (p := Proc.scVector (cT L) (jT L)) (b := (Proc.scVector (cT L) (jT L)).devRef cc0_scratch3) rfl⟩⟩),
    SparseCore.bigSep_erase' (Finset.mem_erase.mpr ⟨hn cc0_scratch4 cc0_scratch3 (by decide), Finset.mem_erase.mpr ⟨hn cc0_scratch4 cc0_scratch1 (by decide),
      Finset.mem_erase.mpr ⟨hn cc0_scratch4 cc0_scratch0 (by decide), SparseCore.Cfg.mem_ownRefs_of_owner (p := Proc.scVector (cT L) (jT L)) (b := (Proc.scVector (cT L) (jT L)).devRef cc0_scratch4) rfl⟩⟩⟩)]

theorem pts_uV (q : PosShare TreeShare) (f : Buf (Elt F) (uLoc d)) : ((uV).view.loc (th d L) ↦{q} f : sProp 𝕄) = uLoc d ↦{q} f := rfl
theorem pts_sV (f : Buf (Elt F) ((th d L).loc cc0_scratch0)) :
    ((sV).view.loc (th d L) ↦{fullShare} f : sProp 𝕄) = (th d L).loc cc0_scratch0 ↦{fullShare} f := rfl
theorem pts_rV (f : Buf (Elt F) ((th d L).loc cc0_scratch1)) :
    ((rV).view.loc (th d L) ↦{fullShare} f : sProp 𝕄) = (th d L).loc cc0_scratch1 ↦{fullShare} f := rfl

theorem pts_nV (q : PosShare TreeShare) (f : Buf (Elt F) (nLoc d)) : ((nV).view.loc (th d L) ↦{q} f : sProp 𝕄) = nLoc d ↦{q} f := rfl
theorem pts_jV (q : PosShare TreeShare) (f : Buf (Elt F) (jLoc d)) : ((jAll).view.loc (th d L) ↦[(jAll).view.set]{q} f : sProp 𝕄) = jLoc d ↦{q} f := by
  rw [set_jAll]
theorem pts_qV (q : PosShare TreeShare) (f : Buf (Elt F) (qLoc d)) : ((qjM).view.loc (th d L) ↦{q} f : sProp 𝕄) = qLoc d ↦{q} f := rfl
theorem pts_s'V (f : Buf (Elt F) ((th d L).loc cc0_scratch3)) :
    ((s'V).view.loc (th d L) ↦{fullShare} f : sProp 𝕄) = (th d L).loc cc0_scratch3 ↦{fullShare} f := rfl
theorem pts_r'V (f : Buf (Elt F) ((th d L).loc cc0_scratch4)) :
    ((r'V).view.loc (th d L) ↦{fullShare} f : sProp 𝕄) = (th d L).loc cc0_scratch4 ↦{fullShare} f := rfl

theorem qOnly_first (w : Fin 32) (hw : w.val = 0) (f : Buf (Elt F) (qLoc d)) : (qOnly m d w f : sProp 𝕄) = qAll m d f := if_pos hw
theorem qOnly_other (w : Fin 32) (hw : ¬ w.val = 0) (f : Buf (Elt F) (qLoc d)) : (qOnly m d w f : sProp 𝕄) = iprop(emp) := if_neg hw

/-- The block as the write-out leaves it, held. -/
theorem pts_out (f : Buf (Elt F) (p0Loc d)) (pay : S256x128.Idx → Elt F .f32) (hpay : pay = (rV).view.read (Elt F) (rowV (m (tLoc d)) (m (uLoc d)) (bL L))) :
    ((pSl L).view.loc (th d L) ↦[(pSl L).view.set]{fullShare} (pSl L).view.writes (Elt F) f [⟨Rect.whole S256x128, pay⟩] : sProp 𝕄)
      = p0Blk d (wL L) (p0V m d) := by
  subst hpay
  rw [pts_pSl]
  refine pointsTo_congr fun i hi => ?_
  rw [← View.write_univ_eq_writes_whole]
  exact out_rows L _ _ _ i hi

/-- The node list as fetched, held. -/
theorem pts_list16 (fs' : Buf (Elt F) ((th d L).loc cc0_scratch3)) (pay : S16.Idx → Elt F .i32) (hpay : pay = (nV).view.read (Elt F) (m (nLoc d))) :
    ((s'V).view.loc (th d L) ↦{fullShare} View.write (Elt F) (s'V).view fs' pay Finset.univ : sProp 𝕄)
      = (s'V).view.loc (th d L) ↦[(s'V).view.set]{fullShare} (m (nLoc d) : S16.Idx → Elt F .i32) := by
  subst hpay
  rw [View.write_whole_univ, show (s'V).view.set = Finset.univ from View.set_whole _]
  simp only [Memref.view_whole, View.read_whole]
theorem pts_s'set (f : Buf (Elt F) ((th d L).loc cc0_scratch3)) :
    ((s'V).view.loc (th d L) ↦[(s'V).view.set]{fullShare} f : sProp 𝕄) = (s'V).view.loc (th d L) ↦{fullShare} f := by
  rw [show (s'V).view.set = Finset.univ from View.set_whole _]
theorem pts_r'set (f : Buf (Elt F) ((th d L).loc cc0_scratch4)) :
    ((r'V).view.loc (th d L) ↦{fullShare} f : sProp 𝕄) = (r'V).view.loc (th d L) ↦[(r'V).view.set]{fullShare} f := by
  rw [show (r'V).view.set = Finset.univ from View.set_whole _]

variable {m} in
theorem hin16 (hpre : PreOK m) :
    ∀ x, ((s'V).view.read (Elt F) (m (nLoc d) : S16.Idx → Elt F .i32) x).toNat < S100000x128.size gathers_S100000x128_S16x128.axis := fun x => by
  simp only [Memref.view_whole, View.read_whole]
  exact (hpre d).2 x

/-- The 16 rows as gathered, held. -/
theorem pts_rows16 (f : Buf (Elt F) ((th d L).loc cc0_scratch4))
    (hin : ∀ x, ((s'V).view.read (Elt F) (m (nLoc d) : S16.Idx → Elt F .i32) x).toNat < S100000x128.size gathers_S100000x128_S16x128.axis) :
    ((r'V).view.loc (th d L) ↦[(r'V).view.set]{fullShare} (r'V).view.write (Elt F) f
        (gatherPayload gathers_S100000x128_S16x128 ((jAll).view.read (Elt F) (m (jLoc d))) (rows (si := S16) ((s'V).view.read (Elt F) (m (nLoc d) : S16.Idx → Elt F .i32)) rfl hin)) Finset.univ : sProp 𝕄)
      = (r'V).view.loc (th d L) ↦{fullShare} (qjV (m (jLoc d)) (m (nLoc d)) : S16x128.Idx → Elt F .f32) := by
  rw [View.write_whole_univ, show (r'V).view.set = Finset.univ from View.set_whole _]
  refine congrArg (fun f => ((r'V).view.loc (th d L) ↦{fullShare} f : sProp 𝕄)) ?_
  funext y
  rw [gather16_apply, read_jAll]
  rfl

/-- The 16 rows as the write-out leaves them, held. -/
theorem pts_q (f : Buf (Elt F) (qLoc d)) (pay : S16x128.Idx → Elt F .f32)
    (hpay : pay = (r'V).view.read (Elt F) (qjV (m (jLoc d)) (m (nLoc d)) : S16x128.Idx → Elt F .f32)) :
    ((qjM).view.loc (th d L) ↦{fullShare} View.write (Elt F) (qjM).view f pay Finset.univ : sProp 𝕄) = qLoc d ↦{fullShare} qV m d := by
  subst hpay
  rw [View.write_whole_univ]
  simp only [Memref.view_whole, View.read_whole]

/-- The fetched list. -/
theorem list_eq (fs : Buf (Elt F) ((th d L).loc cc0_scratch0)) (pay : S256.Idx → Elt F .i32) (hpay : pay = (uSl L).view.read (Elt F) (m (uLoc d))) :
    View.write (Elt F) (sV).view fs pay Finset.univ = lstV (F := F) (m (uLoc d)) (bL L) := by
  subst hpay
  rw [View.write_whole_univ]
  exact lst_fetch _ _ _ _ (by rw [k0_off1_eq]; rfl)

/-- Only the first tile's number is zero. -/
theorem first_tile (a : Fin 2) (b : Fin 16) :
    Scalar.cmpi .ne (Scalar.extui (Scalar.cmpi .eq (Scalar.addi (Scalar.muli (BitVec.ofNat 32 b.val) 2#32) (BitVec.ofNat 32 a.val)) 0#32) : BitVec 32) 0#32 = 1#1
      ↔ 2 * b.val + a.val = 0 := by
  revert a b; decide

variable [FloatOps F]

/-- One row's credit. -/
abbrev credit1 : ℕ := ((r1).slice (S128x128.rowRect (gathers_S100000x128_S128x128).axis' ⟨0, by decide⟩) (S128x128.stride_rowRect _ _)).view.dmaCredit
theorem credit_r1 (j) : ((r1).slice (S128x128.rowRect (gathers_S100000x128_S128x128).axis' j) (S128x128.stride_rowRect _ _)).view.dmaCredit = credit1 := rfl
theorem credit_r2 (j) : ((r2).slice (S128x128.rowRect (gathers_S100000x128_S128x128).axis' j) (S128x128.stride_rowRect _ _)).view.dmaCredit = credit1 := rfl
theorem credit_half1 : (r1).view.dmaCredit = 128 * credit1 := by decide
theorem credit_half2 : (r2).view.dmaCredit = 128 * credit1 := by decide
theorem credit16 : ∑ j, ((r'V).slice (S16x128.rowRect (gathers_S100000x128_S16x128).axis' j) (S16x128.stride_rowRect (gathers_S100000x128_S16x128).axis' j)).view.dmaCredit
    = (r'V).view.dmaCredit := by decide
theorem credit_pos : 0 < credit1 := by decide

/-- The first gather's rows as they come back. -/
def del1 (hpre : PreOK m) (fr : Buf (Elt F) ((th d L).loc cc0_scratch1)) (j : Fin 128) : sProp 𝕄 :=
  rowBack (th d L) tAll r1 gathers_S100000x128_S128x128 l1 rfl (shr (wL L)).left fullShare (m (tLoc d)) fr (lstV (m (uLoc d)) (bL L)) (by decide) (hin1 d hpre (bL L)) j
/-- The second gather's rows as they come back. -/
def del2 (hpre : PreOK m) (fr : Buf (Elt F) ((th d L).loc cc0_scratch1)) (j : Fin 128) : sProp 𝕄 :=
  rowBack (th d L) tAll r2 gathers_S100000x128_S128x128 l2 rfl (shr (wL L)).right fullShare (m (tLoc d)) fr (lstV (m (uLoc d)) (bL L)) (by decide) (hin2 d hpre (bL L)) j
instance del1_storable (hpre : PreOK m) (fr : Buf (Elt F) ((th d L).loc cc0_scratch1)) (j) : BI.Storable (upEmb : UEmb _ 𝕄) (del1 m d L hpre fr j) := by
  unfold del1 rowBack; infer_instance
instance del2_storable (hpre : PreOK m) (fr : Buf (Elt F) ((th d L).loc cc0_scratch1)) (j) : BI.Storable (upEmb : UEmb _ 𝕄) (del2 m d L hpre fr j) := by
  unfold del2 rowBack; infer_instance

/-- The batch's deliveries: the first gather's rows, then the second's. -/
abbrev del (hpre : PreOK m) (fr : Buf (Elt F) ((th d L).loc cc0_scratch1)) : Fin (128 + 128) → sProp 𝕄 :=
  pairD (o := 128) (o' := 128) (del1 m d L hpre fr) (del2 m d L hpre fr)

theorem del1_row (hpre : PreOK m) (fr : Buf (Elt F) ((th d L).loc cc0_scratch1)) (j : Fin 128) :
    rowBack (th d L) tAll r1 gathers_S100000x128_S128x128 l1 rfl (shr (wL L)).left fullShare (m (tLoc d)) fr (lstV (m (uLoc d)) (bL L)) (by decide) (hin1 d hpre (bL L)) j
      ⊢ (del m d L hpre fr ⟨0 + j.val, by omega⟩ : sProp 𝕄) := pairD_first (o := 128) (o' := 128) (del1 m d L hpre fr) (del2 m d L hpre fr) j
theorem del2_row (hpre : PreOK m) (fr : Buf (Elt F) ((th d L).loc cc0_scratch1)) (j : Fin 128) :
    rowBack (th d L) tAll r2 gathers_S100000x128_S128x128 l2 rfl (shr (wL L)).right fullShare (m (tLoc d)) fr (lstV (m (uLoc d)) (bL L)) (by decide) (hin2 d hpre (bL L)) j
      ⊢ (del m d L hpre fr ⟨128 + j.val, by omega⟩ : sProp 𝕄) := pairD_second (o := 128) (o' := 128) (del1 m d L hpre fr) (del2 m d L hpre fr) j

/-- All of the first gather's rows back, at their values. -/
theorem del1_back (hpre : PreOK m) (fr : Buf (Elt F) ((th d L).loc cc0_scratch1)) :
    (bigSep Finset.univ (del1 m d L hpre fr) : sProp 𝕄)
      ⊢ iprop(((r1).view.loc (th d L) ↦[(r1).view.set]{fullShare} rowV (m (tLoc d)) (m (uLoc d)) (bL L))
          ∗ ((tAll).view.loc (th d L) ↦[(tAll).view.set]{(shr (wL L)).left} m (tLoc d))
          ∗ (l1).view.loc (th d L) ↦[(l1).view.set]{fullShare} lstV (m (uLoc d)) (bL L)) := by
  have h := rows_back (Ix := HIx 2) (Name := ℕ) (U := UU) (Lvl := ℕ) (th d L) tAll r1 gathers_S100000x128_S128x128 l1 rfl (shr (wL L)).left fullShare (m (tLoc d)) fr (lstV (m (uLoc d)) (bL L)) (by decide) (hin1 d hpre (bL L))
  rw [pointsTo_congr (first_rows (F := F) (m (tLoc d)) (m (uLoc d)) (bL L) fr (hin1 d hpre (bL L)))] at h
  exact h

/-- All of the second gather's rows back, at their values. -/
theorem del2_back (hpre : PreOK m) (fr : Buf (Elt F) ((th d L).loc cc0_scratch1)) :
    (bigSep Finset.univ (del2 m d L hpre fr) : sProp 𝕄)
      ⊢ iprop(((r2).view.loc (th d L) ↦[(r2).view.set]{fullShare} rowV (m (tLoc d)) (m (uLoc d)) (bL L))
          ∗ ((tAll).view.loc (th d L) ↦[(tAll).view.set]{(shr (wL L)).right} m (tLoc d))
          ∗ (l2).view.loc (th d L) ↦[(l2).view.set]{fullShare} lstV (m (uLoc d)) (bL L)) := by
  have h := rows_back (Ix := HIx 2) (Name := ℕ) (U := UU) (Lvl := ℕ) (th d L) tAll r2 gathers_S100000x128_S128x128 l2 rfl (shr (wL L)).right fullShare (m (tLoc d)) fr (lstV (m (uLoc d)) (bL L)) (by decide) (hin2 d hpre (bL L))
  rw [pointsTo_congr (second_rows (F := F) (m (tLoc d)) (m (uLoc d)) (bL L) fr (hin2 d hpre (bL L)))] at h
  exact h

set_option maxHeartbeats 4000000 in
theorem tile_body (hF : (K (F := F)).Facts) (hpre : PreOK m) (O : CellTallies nD τ sig (HIx 2)) (W : Waits sig (HIx 2)) (hO : ∀ g, O g none = 0) :
    iprop(levAts (K (F := F)).L (K (F := F)).lev ∗ emp
        ∗ goT0 m d (wL L) (m (p0Loc d)) (m (qLoc d))
        ∗ scopedBufs (th d L) ∗ scopedSems0 (th d L) ∗ owes (th d L) O W)
      ⊢ wp frame (wpE (defs₀ (F := F)) 𝒱₀ (th d L) none) Set.univ
          (cc0_gather_kernel L uV (Memref.isWhole_whole _) nV (Memref.isWhole_whole _) tV (Memref.isWhole_whole _) jV (Memref.isWhole_whole _)
            pV (Memref.isWhole_whole _) qjM (Memref.isWhole_whole _) sV (Memref.isWhole_whole _) rV (Memref.isWhole_whole _) cc0_scratch2
            s'V (Memref.isWhole_whole _) r'V (Memref.isWhole_whole _) cc0_scratch5 cc0_scoped0 cc0_scoped1 cc0_scoped2 cc0_scoped3)
          fun _ => iprop(goT0 m d (wL L) (p0V m d) (qV m d)
            ∗ scopedBufs (th d L) ∗ scopedSems0 (th d L)
            ∗ ∃ W', ⌜∀ p ∈ W', p ∈ W ∨ p.2 = none⌝ ∗ owes (th d L) O W') := by
  simp only [cc0_gather_kernel_eq_skeleton]; unfold cc0_gather_kernel_skel
  simp only [k0_part1_eq_skeleton]; unfold k0_part1_skel
  rw [(K (F := F)).scopedBufs_V hF d (cT L) (jT L), SparseCore.Cfg.scopedSems0_V (Val := Elt F) d (cT L) (jT L), ownSems0_V, ownBufs_V]
  iintro ⟨#Hlv, -, ⟨Hu, Ht, Hp, Hq⟩, ⟨⟨%fs, Hs⟩, ⟨%fr, Hr⟩, ⟨%fs', Hs'⟩, ⟨%fr', Hr'⟩, Hbufs⟩, ⟨HsemA, HsemB, HsemC, HsemD, HsemE, HsemG, Hsems⟩, HO⟩
  ihave Hmw := (show levAts (K (F := F)).L (K (F := F)).lev ⊢ Transfers.MayWaits (th d L) (default : HIx 2) O from
    (K (F := F)).mayWaits_none (thr := th d L) hO) $$ Hlv
  ihave Hp := (Entails.of_eq (pts_pSl (F := F) d L _).symm) $$ Hp
  ihave Hu := (Entails.of_eq (pts_uV (F := F) d L _ _).symm) $$ Hu
  ihave Hs := (Entails.of_eq (pts_sV (F := F) d L _).symm) $$ Hs
  sl_exec
  ihave Hs := (Entails.of_eq (congrArg (fun f => ((sV).view.loc (th d L) ↦{fullShare} f : sProp 𝕄)) (list_eq m d L fs (tile_body.sl.dma0 m d L) rfl))) $$ Hs
  ihave Hs := (list_halves (F := F) d L _).1 $$ Hs
  icases Hs with ⟨Hs1, Hs2⟩
  ihave Hr := (Entails.of_eq (pts_rV (F := F) d L _).symm) $$ Hr
  ihave Hr := (rows_halves (F := F) d L _).1 $$ Hr
  icases Hr with ⟨Hr1, Hr2⟩
  ihave Ht := (table_shares (F := F) d L _ _).1 $$ Ht
  icases Ht with ⟨Ht1, Ht2⟩
  imod (Transfers.batch_alloc' countersEmb (th d L) (sm := .dma cc0_scratch2.sem) (default : HIx 2) credit1 (del m d L hpre fr) (E := Set.univ)) $$ HsemB with HB
  iapply (wp_gatherBatch countersEmb 𝒱₀ (th d L) none (hg := gathers_S100000x128_S128x128) (default : HIx 2) credit1 128 0 rfl credit_r1 (by decide)
      (hin1 d hpre (bL L)) (by decide) (del m d L hpre fr) (del1_row m d L hpre fr)) $$ [Ht1 Hr1 Hs1 HB]
  · isplitl [Ht1]; · iexact Ht1
    isplitl [Hr1]; · iexact Hr1
    isplitl [Hs1]; · iexact Hs1
    iexact HB
  iintro HB
  sl_exec
  iapply (wp_gatherBatch countersEmb 𝒱₀ (th d L) none (hg := gathers_S100000x128_S128x128) (default : HIx 2) credit1 128 128 rfl credit_r2 (by decide)
      (hin2 d hpre (bL L)) (by decide) (del m d L hpre fr) (del2_row m d L hpre fr)) $$ [Ht2 Hr2 Hs2 HB]
  · isplitl [Ht2]; · iexact Ht2
    isplitl [Hr2]; · iexact Hr2
    isplitl [Hs2]; · iexact Hs2
    iexact HB
  iintro HB
  sl_exec
  iapply (Transfers.wp_waitBatchMulO countersEmb 𝒱₀ (th d L) none (default : HIx 2) 128 credit_half1 (j := 128 + 128) (u := 0) (by decide)) $$ [HB HO]
  · isplitl [HB]; · iexact HB
    isplitl [HO]; · iexact HO
    iapply (Transfers.MayWaits.elim (SemLoc.dma cc0_scratch2.sem)) $$ Hmw
  iintro ⟨HB, HO⟩
  rw [wp_ret]; imodintro
  rw [wp_bind, wp_bind]
  iapply (Transfers.wp_waitBatchAllO countersEmb 𝒱₀ (th d L) none (default : HIx 2) credit_half2 credit_pos (n := 128 + 128) (u := 0 + 128 * credit1) (by decide)) $$ [HB HO]
  · isplitl [HB]; · iexact HB
    isplitl [HO]; · iexact HO
    iapply (Transfers.MayWaits.elim (SemLoc.dma cc0_scratch2.sem)) $$ Hmw
  iintro ⟨HD, HsemB, HO⟩
  ihave HD := (pairD_join (o := 128) (o' := 128) (del1 m d L hpre fr) (del2 m d L hpre fr)) $$ HD
  icases HD with ⟨HD1, HD2⟩
  ihave H1 := (del1_back m d L hpre fr) $$ HD1
  icases H1 with ⟨Hr1, Ht1, Hs1⟩
  ihave H2 := (del2_back m d L hpre fr) $$ HD2
  icases H2 with ⟨Hr2, Ht2, Hs2⟩
  ihave Ht := (table_shares (F := F) d L (shr (wL L)) (m (tLoc d))).2 $$ [Ht1 Ht2]
  · isplitl [Ht1] <;> iassumption
  ihave Hs := (list_halves (F := F) d L (lstV (m (uLoc d)) (bL L))).2 $$ [Hs1 Hs2]
  · isplitl [Hs1] <;> iassumption
  ihave Hr := (rows_halves (F := F) d L (rowV (m (tLoc d)) (m (uLoc d)) (bL L))).2 $$ [Hr1 Hr2]
  · isplitl [Hr1] <;> iassumption
  rw [wp_ret]; imodintro
  sl_exec
  ihave Hp := (Entails.of_eq (pts_out (F := F) m d L _ (tile_body.sl.dma0_1 m d L) rfl)) $$ Hp
  by_cases hw : (wL L).val = 0
  · have hC : Scalar.cmpi .ne (Scalar.extui (Scalar.cmpi .eq (tile_body.sl.v1 L) 0#32) : BitVec 32) 0#32 = 1#1 := (first_tile (L 0) (L 1)).mpr hw
    ihave Hq := (Entails.of_eq (qOnly_first (F := F) m d _ hw _)) $$ Hq
    icases Hq with ⟨Hn, Hj, Hq⟩
    ihave Hn := (Entails.of_eq (pts_nV (F := F) d L _ _).symm) $$ Hn
    ihave Hj := (Entails.of_eq (pts_jV (F := F) d L _ _).symm) $$ Hj
    ihave Hq := (Entails.of_eq (pts_qV (F := F) d L _ _).symm) $$ Hq
    ihave Hs' := (Entails.of_eq (pts_s'V (F := F) d L _).symm) $$ Hs'
    ihave Hr' := (Entails.of_eq (pts_r'V (F := F) d L _).symm) $$ Hr'
    sl_exec
    ihave Hs' := (Entails.of_eq (pts_list16 (F := F) m d L fs' (tile_body.sl.dma0_2 m d) rfl)) $$ Hs'
    ihave Hr' := (Entails.of_eq (pts_r'set (F := F) d L _)) $$ Hr'
    iapply (SparseCore.wp_indirectGatherLocal countersEmb 𝒱₀ (th d L) none (hg := gathers_S100000x128_S16x128) (default : HIx 2)
        (r'V).view.dmaCredit credit16 (by decide) (hin16 d hpre)) $$ [Hj Hr' Hs' HsemE]
    · isplitl [Hj]; · iexact Hj
      isplitl [Hr']; · iexact Hr'
      isplitl [Hs']; · iexact Hs'
      iexact HsemE
    iintro Hfl
    sl_exec
    iapply (Transfers.wp_waitLocalO countersEmb 𝒱₀ (th d L) none (default : HIx 2) (rfl : (r'V).view.dmaCredit = _)) $$ [Hfl HO]
    · isplitl [Hfl]; · iexact Hfl
      isplitl [HO]; · iexact HO
      iapply (Transfers.MayWaits.elim (SemLoc.dma cc0_scratch5.sem)) $$ Hmw
    iintro ⟨⟨Hr', Hj, Hs'⟩, HsemE, HO⟩
    ihave Hr' := (Entails.of_eq (pts_rows16 (F := F) m d L _ (hin16 d hpre))) $$ Hr'
    ihave Hs' := (Entails.of_eq (pts_s'set (F := F) d L _)) $$ Hs'
    sl_exec
    rw [wp_ret]; imodintro
    ihave Hq := (Entails.of_eq (pts_q (F := F) m d L _ (tile_body.sl.dma0_3 m d) rfl)) $$ Hq
    isplitl [Hu Ht Hp Hn Hj Hq]
    · isplitl [Hu]; · iexact Hu
      isplitl [Ht]; · iexact Ht
      isplitl [Hp]; · iexact Hp
      iapply (Entails.of_eq (qOnly_first (F := F) m d _ hw (qV m d)).symm)
      isplitl [Hn]; · iexact Hn
      isplitl [Hj]; · iapply (Entails.of_eq (pts_jV (F := F) d L _ _)); iexact Hj
      iexact Hq
    isplitl [Hs Hr Hs' Hr' Hbufs]
    · isplitl [Hs]; · iexists _; iexact Hs
      isplitl [Hr]; · iexists _; iexact Hr
      isplitl [Hs']; · iexists _; iexact Hs'
      isplitl [Hr']; · iexists _; iexact Hr'
      iexact Hbufs
    isplitl [HsemA HsemB HsemC HsemD HsemE HsemG Hsems]
    · isplitl [HsemA]; · iexact HsemA
      isplitl [HsemB]; · iexact HsemB
      isplitl [HsemC]; · iexact HsemC
      isplitl [HsemD]; · iexact HsemD
      isplitl [HsemE]; · iexact HsemE
      isplitl [HsemG]; · iexact HsemG
      iexact Hsems
    iexists _; isplitr
    swap; · iexact HO
    ipureintro; intro p hp
    simp only [Finset.mem_insert] at hp
    rcases hp with hp | hp | hp | hp | hp | hp | hp | hp
    all_goals first | exact .inl hp | exact .inr (hp ▸ rfl)
  · have hC : ¬ Scalar.cmpi .ne (Scalar.extui (Scalar.cmpi .eq (tile_body.sl.v1 L) 0#32) : BitVec 32) 0#32 = 1#1 := fun h => hw ((first_tile (L 0) (L 1)).mp h)
    sl_exec
    rw [wp_ret]; imodintro
    ihave Hq := (Entails.of_eq ((qOnly_other (F := F) m d _ hw _).trans (qOnly_other (F := F) m d _ hw (qV m d)).symm)) $$ Hq
    isplitl [Hu Ht Hp Hq]
    · isplitl [Hu]; · iexact Hu
      isplitl [Ht]; · iexact Ht
      isplitl [Hp]; · iexact Hp
      iexact Hq
    isplitl [Hs Hr Hs' Hr' Hbufs]
    · isplitl [Hs]; · iexists _; iexact Hs
      isplitl [Hr]; · iexists _; iexact Hr
      isplitl [Hs']; · iexists _; iexact Hs'
      isplitl [Hr']; · iexists _; iexact Hr'
      iexact Hbufs
    isplitl [HsemA HsemB HsemC HsemD HsemE HsemG Hsems]
    · isplitl [HsemA]; · iexact HsemA
      isplitl [HsemB]; · iexact HsemB
      isplitl [HsemC]; · iexact HsemC
      isplitl [HsemD]; · iexact HsemD
      isplitl [HsemE]; · iexact HsemE
      isplitl [HsemG]; · iexact HsemG
      iexact Hsems
    iexists _; isplitr
    swap; · iexact HO
    ipureintro; intro p hp
    simp only [Finset.mem_insert] at hp
    rcases hp with hp | hp | hp | hp | hp
    all_goals first | exact .inl hp | exact .inr (hp ▸ rfl)

end Cert.Proof.Run.Tile0

end
-- ==== Proof.Tile1.lean ====
/-
  The second SparseCore call's task on one tile: the first call's on the other half of the user list, without the 16
  rows of the second table.
-/
module

public import proofs.«01_k».proof.Proof.Values

@[expose] public section

noncomputable section

namespace Cert.Proof.Run.Tile1

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type}

local notation "𝕄" => MT nD τ sig (HIx 2) (Elt F) ℕ UU ℕ
local notation "uV" => (Memref.whole Cert.KernelIdeal.main_arg1_scv : Memref Cert.KernelIdeal.sig Kind.scVector Space.hbm Cert.KernelIdeal.S16384 EltTy.i32)
local notation "tV" => (Memref.whole Cert.KernelIdeal.main_arg4_scv : Memref Cert.KernelIdeal.sig Kind.scVector Space.hbm Cert.KernelIdeal.S100000x128 EltTy.f32)
local notation "pV" => (Memref.whole Cert.KernelIdeal.main_v1_scv : Memref Cert.KernelIdeal.sig Kind.scVector Space.hbm Cert.KernelIdeal.S8192x128 EltTy.f32)
local notation "sV" => (Memref.whole Cert.KernelIdeal.cc1_scratch0 : Memref Cert.KernelIdeal.sig Kind.scVector Space.vmem Cert.KernelIdeal.S256 EltTy.i32)
local notation "rV" => (Memref.whole Cert.KernelIdeal.cc1_scratch1 : Memref Cert.KernelIdeal.sig Kind.scVector Space.vmem Cert.KernelIdeal.S256x128 EltTy.f32)

variable (m : (ℓ : Loc nD τ sig) → Buf (Elt F) ℓ)
variable (d : Dev nD) (L : grid1.Coords)

abbrev cT (L : grid1.Coords) : Fin τ.nSC := (L 0).castLE hcore1
abbrev jT (L : grid1.Coords) : Fin τ.nSub := (L 1).castLE hsub1
/-- The tile's thread. -/
abbrev th (d : Dev nD) (L : grid1.Coords) : Thread nD τ := V d (cT L) (jT L)
/-- The tile's number. -/
abbrev wL (L : grid1.Coords) : Fin 32 := wid (L 0).val (L 1).val (L 0).isLt (L 1).isLt
/-- The tile's first entry of the user list. -/
abbrev bL (L : grid1.Coords) : ℕ := 512 * (L 1).val + 256 * (L 0).val + 8192

abbrev uSl (L : grid1.Coords) : Memref sig .scVector .hbm S256 .i32 :=
  (uV).slice (Rect.unit (s := S16384) (k1_off1 L) S256.size (k1_off1_inb L)) (fun _ => rfl)
abbrev pSl (L : grid1.Coords) : Memref sig .scVector .hbm S256x128 .f32 :=
  (pV).slice (Rect.unit (s := S8192x128) (k1_off2 L) S256x128.size (k1_off2_inb L)) (fun _ => rfl)
abbrev tAll : Memref sig .scVector .hbm S100000x128 .f32 :=
  (tV).slice (Rect.unit (s := S100000x128) ![0, 0] S100000x128.size inb_S100000x128_S100000x128_0_0) (fun _ => rfl)
abbrev r1 : Memref sig .scVector .vmem S128x128 .f32 :=
  (rV).slice (Rect.unit (s := S256x128) ![0, 0] S128x128.size inb_S256x128_S128x128_0_0) (fun _ => rfl)
abbrev r2 : Memref sig .scVector .vmem S128x128 .f32 :=
  (rV).slice (Rect.unit (s := S256x128) ![128, 0] S128x128.size inb_S256x128_S128x128_128_0) (fun _ => rfl)
abbrev l1 : Memref sig .scVector .vmem S128 .i32 := (sV).slice (Rect.unit (s := S256) ![0] S128.size inb_S256_S128_0) (fun _ => rfl)
abbrev l2 : Memref sig .scVector .vmem S128 .i32 := (sV).slice (Rect.unit (s := S256) ![128] S128.size inb_S256_S128_128) (fun _ => rfl)

theorem pSl_rect : Rect.unit (s := S8192x128) (k1_off2 L) S256x128.size (k1_off2_inb L) = blk (wL L) := by
  unfold blk Rect.part Rect.block
  congr 1 <;> funext a
  · rw [k1_off2_eq]
    match a with
    | 0 =>
      have hw : (wL L).val = 2 * (L 1).val + (L 0).val := rfl
      simp [Shape.partIx, Shape.partSize]; omega
    | 1 => simp [Shape.partIx, Shape.partSize]
  · match a with
    | 0 => simp [Shape.partSize]
    | 1 => simp [Shape.partSize]

theorem set_pSl : (pSl L).view.set = (blk (wL L)).set := by
  show ((View.whole (main_v1_scv : Ref sig .scVector)).slice (Rect.unit (s := S8192x128) (k1_off2 L) S256x128.size (k1_off2_inb L))).set = _
  rw [View.set_slice_whole]
  exact congrArg (fun r : Rect S8192x128 => r.set) (pSl_rect L)

theorem pts_pSl (f : Buf (Elt F) (p1Loc d)) :
    ((pSl L).view.loc (th d L) ↦[(pSl L).view.set]{fullShare} f : sProp 𝕄) = p1Loc d ↦[(blk (wL L)).set]{fullShare} f := by
  rw [set_pSl]

theorem set_tAll : (tAll).view.set = Finset.univ := by
  show ((View.whole (main_arg4_scv : Ref sig .scVector)).slice _).set = _
  rw [View.set_slice_whole]; exact all_table
theorem set_r1 : (r1).view.set = (Rect.unit (s := S256x128) ![0, 0] S128x128.size inb_S256x128_S128x128_0_0).set :=
  View.set_slice_whole _ _
theorem set_r2 : (r2).view.set = (Rect.unit (s := S256x128) ![128, 0] S128x128.size inb_S256x128_S128x128_128_0).set :=
  View.set_slice_whole _ _
theorem set_l1 : (l1).view.set = (Rect.unit (s := S256) ![0] S128.size inb_S256_S128_0).set :=
  View.set_slice_whole _ _
theorem set_l2 : (l2).view.set = (Rect.unit (s := S256) ![128] S128.size inb_S256_S128_128).set :=
  View.set_slice_whole _ _

/-- The row scratch is its two halves. -/
theorem rows_halves (f : Buf (Elt F) ((th d L).loc cc1_scratch1)) :
    ((rV).view.loc (th d L) ↦{fullShare} f : sProp 𝕄)
      ⊣⊢ iprop(((r1).view.loc (th d L) ↦[(r1).view.set]{fullShare} f) ∗ (r2).view.loc (th d L) ↦[(r2).view.set]{fullShare} f) := by
  have h := pointsTo_split_subset (Ix := HIx 2) (Val := Elt F) (Name := ℕ) (U := UU) (Lvl := ℕ) (ℓ := (th d L).loc cc1_scratch1) (q := fullShare) (f := f)
    (S := Finset.univ) (Finset.subset_univ (r1).view.set)
  rw [show (Finset.univ : Finset (Idx ((th d L).loc cc1_scratch1))) \ (r1).view.set = (r2).view.set by
    rw [set_r1, set_r2]; exact compl_rows] at h
  exact h

/-- The list scratch is its two halves. -/
theorem list_halves (f : Buf (Elt F) ((th d L).loc cc1_scratch0)) :
    ((sV).view.loc (th d L) ↦{fullShare} f : sProp 𝕄)
      ⊣⊢ iprop(((l1).view.loc (th d L) ↦[(l1).view.set]{fullShare} f) ∗ (l2).view.loc (th d L) ↦[(l2).view.set]{fullShare} f) := by
  have h := pointsTo_split_subset (Ix := HIx 2) (Val := Elt F) (Name := ℕ) (U := UU) (Lvl := ℕ) (ℓ := (th d L).loc cc1_scratch0) (q := fullShare) (f := f)
    (S := Finset.univ) (Finset.subset_univ (l1).view.set)
  rw [show (Finset.univ : Finset (Idx ((th d L).loc cc1_scratch0))) \ (l1).view.set = (l2).view.set by
    rw [set_l1, set_l2]; exact compl_list] at h
  exact h

/-- The tile's share of the table, once for each gather. -/
theorem table_shares (q : PosShare TreeShare) (f : Buf (Elt F) (tLoc d)) :
    (tLoc d ↦{q} f : sProp 𝕄)
      ⊣⊢ iprop(((tAll).view.loc (th d L) ↦[(tAll).view.set]{q.left} f) ∗ (tAll).view.loc (th d L) ↦[(tAll).view.set]{q.right} f) := by
  rw [set_tAll]
  exact pointsTo_share (PosShare.mem_left_op_right q)

/-! ## What the copies carry -/

variable {m} in
theorem lst_lt (hpre : PreOK m) (b : ℕ) (x : S256.Idx) : (lstV (F := F) (m (uLoc d)) b x).toNat < 100000 := (hpre d).1 _

variable {m} in
theorem hin1 (hpre : PreOK m) (b : ℕ) :
    ∀ x, ((l1).view.read (Elt F) (lstV (F := F) (m (uLoc d)) b) x).toNat < S100000x128.size gathers_S100000x128_S128x128.axis := fun x => by
  rw [View.read_apply]; exact lst_lt d hpre b _
variable {m} in
theorem hin2 (hpre : PreOK m) (b : ℕ) :
    ∀ x, ((l2).view.read (Elt F) (lstV (F := F) (m (uLoc d)) b) x).toNat < S100000x128.size gathers_S100000x128_S128x128.axis := fun x => by
  rw [View.read_apply]; exact lst_lt d hpre b _

theorem read_tAll (t : S100000x128.Idx → Elt F .f32) : (tAll).view.read (Elt F) t = t := by
  funext i
  rw [View.read_apply]
  exact (cast_eq _ _).trans (congrArg t (emb_all i))

theorem first_rows (t : S100000x128.Idx → Elt F .f32) (u : S16384.Idx → Elt F .i32) (b : ℕ) (f : S256x128.Idx → Elt F .f32)
    (hin : ∀ x, ((l1).view.read (Elt F) (lstV u b) x).toNat < S100000x128.size gathers_S100000x128_S128x128.axis) :
    ∀ i ∈ (r1).view.set, (r1).view.write (Elt F) f
        (gatherPayload gathers_S100000x128_S128x128 ((tAll).view.read (Elt F) t) (rows (si := S128) ((l1).view.read (Elt F) (lstV u b)) rfl hin)) Finset.univ i
      = rowV t u b i := by
  intro i hi
  obtain ⟨y, -, rfl⟩ := Finset.mem_map.mp hi
  rw [View.write_emb_of_mem _ _ (Finset.mem_univ y)]
  refine (cast_eq _ _).trans ?_
  rw [gather_apply, read_tAll, View.read_apply]
  unfold rowV lstV
  refine congr (congrArg (tabAt t) ((cast_eq _ _).trans (congrArg (uAt u) ?_))) ?_
  · show b + (0 + 1 * (y 0).val) = b + (0 + 1 * (y 0).val); rfl
  · exact Fin.ext (show (y 1).val = 0 + 1 * (y 1).val by omega)

theorem second_rows (t : S100000x128.Idx → Elt F .f32) (u : S16384.Idx → Elt F .i32) (b : ℕ) (f : S256x128.Idx → Elt F .f32)
    (hin : ∀ x, ((l2).view.read (Elt F) (lstV u b) x).toNat < S100000x128.size gathers_S100000x128_S128x128.axis) :
    ∀ i ∈ (r2).view.set, (r2).view.write (Elt F) f
        (gatherPayload gathers_S100000x128_S128x128 ((tAll).view.read (Elt F) t) (rows (si := S128) ((l2).view.read (Elt F) (lstV u b)) rfl hin)) Finset.univ i
      = rowV t u b i := by
  intro i hi
  obtain ⟨y, -, rfl⟩ := Finset.mem_map.mp hi
  rw [View.write_emb_of_mem _ _ (Finset.mem_univ y)]
  refine (cast_eq _ _).trans ?_
  rw [gather_apply, read_tAll, View.read_apply]
  unfold rowV lstV
  refine congr (congrArg (tabAt t) ((cast_eq _ _).trans (congrArg (uAt u) ?_))) ?_
  · show b + (128 + 1 * (y 0).val) = b + (128 + 1 * (y 0).val); rfl
  · exact Fin.ext (show (y 1).val = 0 + 1 * (y 1).val by omega)

/-- The block of the result as the write-out leaves it. -/
theorem out_rows (t : S100000x128.Idx → Elt F .f32) (u : S16384.Idx → Elt F .i32) (f : S8192x128.Idx → Elt F .f32) :
    ∀ i ∈ (blk (wL L)).set, (pSl L).view.write (Elt F) f ((rV).view.read (Elt F) (rowV t u (bL L))) Finset.univ i = ptV t u 8192 i := by
  intro i hi
  rw [← set_pSl] at hi
  obtain ⟨y, -, rfl⟩ := Finset.mem_map.mp hi
  rw [View.write_emb_of_mem _ _ (Finset.mem_univ y)]
  refine (cast_eq _ _).trans ?_
  simp only [Memref.view_whole, View.read_whole]
  unfold rowV ptV
  have h0 : k1_off2 L 0 = 512 * (L 1).val + 256 * (L 0).val := by rw [k1_off2_eq]; rfl
  have h1 : k1_off2 L 1 = 0 := by rw [k1_off2_eq]; rfl
  refine congr (congrArg (tabAt t) (congrArg (uAt u) ?_)) ?_
  · show 512 * (L 1).val + 256 * (L 0).val + 8192 + (y 0).val = 8192 + (k1_off2 L 0 + 1 * (y 0).val)
    omega
  · exact Fin.ext (show (y 1).val = k1_off2 L 1 + 1 * (y 1).val by omega)

end Cert.Proof.Run.Tile1

end
-- ==== Proof.Body1.lean ====
/-
  The second SparseCore call's task on one tile, run.
-/
module

public import proofs.«01_k».proof.Proof.Tile1

@[expose] public section

noncomputable section

namespace Cert.Proof.Run.Tile1

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type}

local notation "𝕄" => MT nD τ sig (HIx 2) (Elt F) ℕ UU ℕ
local notation "uV" => (Memref.whole Cert.KernelIdeal.main_arg1_scv : Memref Cert.KernelIdeal.sig Kind.scVector Space.hbm Cert.KernelIdeal.S16384 EltTy.i32)
local notation "tV" => (Memref.whole Cert.KernelIdeal.main_arg4_scv : Memref Cert.KernelIdeal.sig Kind.scVector Space.hbm Cert.KernelIdeal.S100000x128 EltTy.f32)
local notation "pV" => (Memref.whole Cert.KernelIdeal.main_v1_scv : Memref Cert.KernelIdeal.sig Kind.scVector Space.hbm Cert.KernelIdeal.S8192x128 EltTy.f32)
local notation "sV" => (Memref.whole Cert.KernelIdeal.cc1_scratch0 : Memref Cert.KernelIdeal.sig Kind.scVector Space.vmem Cert.KernelIdeal.S256 EltTy.i32)
local notation "rV" => (Memref.whole Cert.KernelIdeal.cc1_scratch1 : Memref Cert.KernelIdeal.sig Kind.scVector Space.vmem Cert.KernelIdeal.S256x128 EltTy.f32)

variable (m : (ℓ : Loc nD τ sig) → Buf (Elt F) ℓ)
variable (d : Dev nD) (L : grid1.Coords)

abbrev cA (d : Dev nD) (L : grid1.Coords) : GSem nD τ sig := (th d L, .dma cc1_scoped0.sem)
abbrev cB (d : Dev nD) (L : grid1.Coords) : GSem nD τ sig := (th d L, .dma cc1_scratch2.sem)
abbrev cC (d : Dev nD) (L : grid1.Coords) : GSem nD τ sig := (th d L, .dma cc1_scoped1.sem)

theorem mem_cell (s : Idealize.ShloMosaic.DmaSem sig) (h : (SemLoc.dma s : SemLoc sig).isScoped .scVector = true) : ((th d L, .dma s) : GSem nD τ sig) ∈ ownCells (th d L) :=
  (mem_ownCells (g := (th d L, .dma s))).mpr ⟨rfl, h⟩
theorem cell_ne (s s' : Idealize.ShloMosaic.DmaSem sig) (h : (SemLoc.dma s : SemLoc sig) ≠ .dma s') : ((th d L, .dma s) : GSem nD τ sig) ≠ (th d L, .dma s') :=
  fun e => h (congrArg Prod.snd e)

/-- The three cells the task uses are among the subcore's own. -/
theorem ownSems0_V :
    (ownSems0 (th d L) : sProp 𝕄)
      = iprop(semVal (cA d L) 0 ∗ semVal (cB d L) 0 ∗ semVal (cC d L) 0
          ∗ bigSep ((((ownCells (th d L)).erase (cA d L)).erase (cB d L)).erase (cC d L)) fun g => semVal g 0) := by
  unfold SparseCore.Cfg.ownSems0
  have hm := mem_cell d L
  have hn := cell_ne d L
  rw [SparseCore.bigSep_erase' (hm cc1_scoped0.sem (by decide)),
    SparseCore.bigSep_erase' (Finset.mem_erase.mpr ⟨hn cc1_scratch2.sem cc1_scoped0.sem (by decide), hm _ (by decide)⟩),
    SparseCore.bigSep_erase' (Finset.mem_erase.mpr ⟨hn cc1_scoped1.sem cc1_scratch2.sem (by decide), Finset.mem_erase.mpr ⟨hn _ cc1_scoped0.sem (by decide), hm _ (by decide)⟩⟩)]

theorem buf_ne (b b' : Ref sig .scVector) (h : b ≠ b') : (Proc.scVector (cT L) (jT L)).devRef b ≠ (Proc.scVector (cT L) (jT L)).devRef b' :=
  fun e => h (Proc.devRef_injective _ e)

/-- The two scratch buffers are among the subcore's own: they are them, at some contents, and the rest. -/
theorem ownBufs_V :
    (ownBufs (th d L) : sProp 𝕄)
      = iprop((∃ f, (th d L).loc cc1_scratch0 ↦{fullShare} f) ∗ (∃ f, (th d L).loc cc1_scratch1 ↦{fullShare} f)
          ∗ bigSep (((ownRefs (τ := τ) (.scVector (cT L) (jT L))).erase ((Proc.scVector (cT L) (jT L)).devRef cc1_scratch0)).erase
              ((Proc.scVector (cT L) (jT L)).devRef cc1_scratch1))
              fun b => iprop(∃ f, ((d, b) : Loc nD τ sig) ↦{fullShare} f)) := by
  unfold SparseCore.Cfg.ownBufs
  have hn := buf_ne L
  refine (SparseCore.bigSep_erase' (SparseCore.Cfg.mem_ownRefs_of_owner (p := Proc.scVector (cT L) (jT L)) (b := (Proc.scVector (cT L) (jT L)).devRef cc1_scratch0) rfl)).trans ?_
  rw [SparseCore.bigSep_erase' (Finset.mem_erase.mpr ⟨hn cc1_scratch1 cc1_scratch0 (by decide), SparseCore.Cfg.mem_ownRefs_of_owner (p := Proc.scVector (cT L) (jT L)) (b := (Proc.scVector (cT L) (jT L)).devRef cc1_scratch1) rfl⟩)]

theorem pts_uV (q : PosShare TreeShare) (f : Buf (Elt F) (uLoc d)) : ((uV).view.loc (th d L) ↦{q} f : sProp 𝕄) = uLoc d ↦{q} f := rfl
theorem pts_sV (f : Buf (Elt F) ((th d L).loc cc1_scratch0)) :
    ((sV).view.loc (th d L) ↦{fullShare} f : sProp 𝕄) = (th d L).loc cc1_scratch0 ↦{fullShare} f := rfl
theorem pts_rV (f : Buf (Elt F) ((th d L).loc cc1_scratch1)) :
    ((rV).view.loc (th d L) ↦{fullShare} f : sProp 𝕄) = (th d L).loc cc1_scratch1 ↦{fullShare} f := rfl

/-- The block as the write-out leaves it, held. -/
theorem pts_out (f : Buf (Elt F) (p1Loc d)) (pay : S256x128.Idx → Elt F .f32) (hpay : pay = (rV).view.read (Elt F) (rowV (m (tLoc d)) (m (uLoc d)) (bL L))) :
    ((pSl L).view.loc (th d L) ↦[(pSl L).view.set]{fullShare} (pSl L).view.writes (Elt F) f [⟨Rect.whole S256x128, pay⟩] : sProp 𝕄)
      = p1Blk d (wL L) (p1V m d) := by
  subst hpay
  rw [pts_pSl]
  refine pointsTo_congr fun i hi => ?_
  rw [← View.write_univ_eq_writes_whole]
  exact out_rows L _ _ _ i hi

/-- The fetched list. -/
theorem list_eq (fs : Buf (Elt F) ((th d L).loc cc1_scratch0)) (pay : S256.Idx → Elt F .i32) (hpay : pay = (uSl L).view.read (Elt F) (m (uLoc d))) :
    View.write (Elt F) (sV).view fs pay Finset.univ = lstV (F := F) (m (uLoc d)) (bL L) := by
  subst hpay
  rw [View.write_whole_univ]
  exact lst_fetch _ _ _ _ (by rw [k1_off1_eq]; rfl)

variable [FloatOps F]

/-- One row's credit. -/
abbrev credit1 : ℕ := ((r1).slice (S128x128.rowRect (gathers_S100000x128_S128x128).axis' ⟨0, by decide⟩) (S128x128.stride_rowRect _ _)).view.dmaCredit
theorem credit_r1 (j) : ((r1).slice (S128x128.rowRect (gathers_S100000x128_S128x128).axis' j) (S128x128.stride_rowRect _ _)).view.dmaCredit = credit1 := rfl
theorem credit_r2 (j) : ((r2).slice (S128x128.rowRect (gathers_S100000x128_S128x128).axis' j) (S128x128.stride_rowRect _ _)).view.dmaCredit = credit1 := rfl
theorem credit_half1 : (r1).view.dmaCredit = 128 * credit1 := by decide
theorem credit_half2 : (r2).view.dmaCredit = 128 * credit1 := by decide
theorem credit_pos : 0 < credit1 := by decide

/-- The first gather's rows as they come back. -/
def del1 (hpre : PreOK m) (fr : Buf (Elt F) ((th d L).loc cc1_scratch1)) (j : Fin 128) : sProp 𝕄 :=
  rowBack (th d L) tAll r1 gathers_S100000x128_S128x128 l1 rfl (shr (wL L)).left fullShare (m (tLoc d)) fr (lstV (m (uLoc d)) (bL L)) (by decide) (hin1 d hpre (bL L)) j
/-- The second gather's rows as they come back. -/
def del2 (hpre : PreOK m) (fr : Buf (Elt F) ((th d L).loc cc1_scratch1)) (j : Fin 128) : sProp 𝕄 :=
  rowBack (th d L) tAll r2 gathers_S100000x128_S128x128 l2 rfl (shr (wL L)).right fullShare (m (tLoc d)) fr (lstV (m (uLoc d)) (bL L)) (by decide) (hin2 d hpre (bL L)) j
instance del1_storable (hpre : PreOK m) (fr : Buf (Elt F) ((th d L).loc cc1_scratch1)) (j) : BI.Storable (upEmb : UEmb _ 𝕄) (del1 m d L hpre fr j) := by
  unfold del1 rowBack; infer_instance
instance del2_storable (hpre : PreOK m) (fr : Buf (Elt F) ((th d L).loc cc1_scratch1)) (j) : BI.Storable (upEmb : UEmb _ 𝕄) (del2 m d L hpre fr j) := by
  unfold del2 rowBack; infer_instance

/-- The batch's deliveries: the first gather's rows, then the second's. -/
abbrev del (hpre : PreOK m) (fr : Buf (Elt F) ((th d L).loc cc1_scratch1)) : Fin (128 + 128) → sProp 𝕄 :=
  pairD (o := 128) (o' := 128) (del1 m d L hpre fr) (del2 m d L hpre fr)

theorem del1_row (hpre : PreOK m) (fr : Buf (Elt F) ((th d L).loc cc1_scratch1)) (j : Fin 128) :
    rowBack (th d L) tAll r1 gathers_S100000x128_S128x128 l1 rfl (shr (wL L)).left fullShare (m (tLoc d)) fr (lstV (m (uLoc d)) (bL L)) (by decide) (hin1 d hpre (bL L)) j
      ⊢ (del m d L hpre fr ⟨0 + j.val, by omega⟩ : sProp 𝕄) := pairD_first (o := 128) (o' := 128) (del1 m d L hpre fr) (del2 m d L hpre fr) j
theorem del2_row (hpre : PreOK m) (fr : Buf (Elt F) ((th d L).loc cc1_scratch1)) (j : Fin 128) :
    rowBack (th d L) tAll r2 gathers_S100000x128_S128x128 l2 rfl (shr (wL L)).right fullShare (m (tLoc d)) fr (lstV (m (uLoc d)) (bL L)) (by decide) (hin2 d hpre (bL L)) j
      ⊢ (del m d L hpre fr ⟨128 + j.val, by omega⟩ : sProp 𝕄) := pairD_second (o := 128) (o' := 128) (del1 m d L hpre fr) (del2 m d L hpre fr) j

/-- All of the first gather's rows back, at their values. -/
theorem del1_back (hpre : PreOK m) (fr : Buf (Elt F) ((th d L).loc cc1_scratch1)) :
    (bigSep Finset.univ (del1 m d L hpre fr) : sProp 𝕄)
      ⊢ iprop(((r1).view.loc (th d L) ↦[(r1).view.set]{fullShare} rowV (m (tLoc d)) (m (uLoc d)) (bL L))
          ∗ ((tAll).view.loc (th d L) ↦[(tAll).view.set]{(shr (wL L)).left} m (tLoc d))
          ∗ (l1).view.loc (th d L) ↦[(l1).view.set]{fullShare} lstV (m (uLoc d)) (bL L)) := by
  have h := rows_back (Ix := HIx 2) (Name := ℕ) (U := UU) (Lvl := ℕ) (th d L) tAll r1 gathers_S100000x128_S128x128 l1 rfl (shr (wL L)).left fullShare (m (tLoc d)) fr (lstV (m (uLoc d)) (bL L)) (by decide) (hin1 d hpre (bL L))
  rw [pointsTo_congr (first_rows (F := F) (m (tLoc d)) (m (uLoc d)) (bL L) fr (hin1 d hpre (bL L)))] at h
  exact h

/-- All of the second gather's rows back, at their values. -/
theorem del2_back (hpre : PreOK m) (fr : Buf (Elt F) ((th d L).loc cc1_scratch1)) :
    (bigSep Finset.univ (del2 m d L hpre fr) : sProp 𝕄)
      ⊢ iprop(((r2).view.loc (th d L) ↦[(r2).view.set]{fullShare} rowV (m (tLoc d)) (m (uLoc d)) (bL L))
          ∗ ((tAll).view.loc (th d L) ↦[(tAll).view.set]{(shr (wL L)).right} m (tLoc d))
          ∗ (l2).view.loc (th d L) ↦[(l2).view.set]{fullShare} lstV (m (uLoc d)) (bL L)) := by
  have h := rows_back (Ix := HIx 2) (Name := ℕ) (U := UU) (Lvl := ℕ) (th d L) tAll r2 gathers_S100000x128_S128x128 l2 rfl (shr (wL L)).right fullShare (m (tLoc d)) fr (lstV (m (uLoc d)) (bL L)) (by decide) (hin2 d hpre (bL L))
  rw [pointsTo_congr (second_rows (F := F) (m (tLoc d)) (m (uLoc d)) (bL L) fr (hin2 d hpre (bL L)))] at h
  exact h

set_option maxHeartbeats 4000000 in
theorem tile_body (hF : (K (F := F)).Facts) (hpre : PreOK m) (O : CellTallies nD τ sig (HIx 2)) (W : Waits sig (HIx 2)) (hO : ∀ g, O g none = 0) :
    iprop(levAts (K (F := F)).L (K (F := F)).lev ∗ emp
        ∗ goT1 m d (wL L) (m (p1Loc d))
        ∗ scopedBufs (th d L) ∗ scopedSems0 (th d L) ∗ owes (th d L) O W)
      ⊢ wp frame (wpE (defs₀ (F := F)) 𝒱₀ (th d L) none) Set.univ
          (cc1_gather_kernel L uV (Memref.isWhole_whole _) tV (Memref.isWhole_whole _)
            pV (Memref.isWhole_whole _) sV (Memref.isWhole_whole _) rV (Memref.isWhole_whole _) cc1_scratch2 cc1_scoped0 cc1_scoped1)
          fun _ => iprop(goT1 m d (wL L) (p1V m d)
            ∗ scopedBufs (th d L) ∗ scopedSems0 (th d L)
            ∗ ∃ W', ⌜∀ p ∈ W', p ∈ W ∨ p.2 = none⌝ ∗ owes (th d L) O W') := by
  simp only [cc1_gather_kernel_eq_skeleton]; unfold cc1_gather_kernel_skel
  simp only [k1_part1_eq_skeleton]; unfold k1_part1_skel
  rw [(K (F := F)).scopedBufs_V hF d (cT L) (jT L), SparseCore.Cfg.scopedSems0_V (Val := Elt F) d (cT L) (jT L), ownSems0_V, ownBufs_V]
  iintro ⟨#Hlv, -, ⟨Hu, Ht, Hp⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (th d L) (default : HIx 2) O from
    (K (F := F)).mayWaits_none (thr := th d L) hO) $$ Hlv
  ihave Hp := (Entails.of_eq (pts_pSl (F := F) d L _).symm) $$ Hp
  ihave Hu := (Entails.of_eq (pts_uV (F := F) d L _ _).symm) $$ Hu
  ihave Hs := (Entails.of_eq (pts_sV (F := F) d L _).symm) $$ Hs
  sl_exec
  ihave Hs := (Entails.of_eq (congrArg (fun f => ((sV).view.loc (th d L) ↦{fullShare} f : sProp 𝕄)) (list_eq m d L fs (tile_body.sl.dma0 m d L) rfl))) $$ Hs
  ihave Hs := (list_halves (F := F) d L _).1 $$ Hs
  icases Hs with ⟨Hs1, Hs2⟩
  ihave Hr := (Entails.of_eq (pts_rV (F := F) d L _).symm) $$ Hr
  ihave Hr := (rows_halves (F := F) d L _).1 $$ Hr
  icases Hr with ⟨Hr1, Hr2⟩
  ihave Ht := (table_shares (F := F) d L _ _).1 $$ Ht
  icases Ht with ⟨Ht1, Ht2⟩
  imod (Transfers.batch_alloc' countersEmb (th d L) (sm := .dma cc1_scratch2.sem) (default : HIx 2) credit1 (del m d L hpre fr) (E := Set.univ)) $$ HsemB with HB
  iapply (wp_gatherBatch countersEmb 𝒱₀ (th d L) none (hg := gathers_S100000x128_S128x128) (default : HIx 2) credit1 128 0 rfl credit_r1 (by decide)
      (hin1 d hpre (bL L)) (by decide) (del m d L hpre fr) (del1_row m d L hpre fr)) $$ [Ht1 Hr1 Hs1 HB]
  · isplitl [Ht1]; · iexact Ht1
    isplitl [Hr1]; · iexact Hr1
    isplitl [Hs1]; · iexact Hs1
    iexact HB
  iintro HB
  sl_exec
  iapply (wp_gatherBatch countersEmb 𝒱₀ (th d L) none (hg := gathers_S100000x128_S128x128) (default : HIx 2) credit1 128 128 rfl credit_r2 (by decide)
      (hin2 d hpre (bL L)) (by decide) (del m d L hpre fr) (del2_row m d L hpre fr)) $$ [Ht2 Hr2 Hs2 HB]
  · isplitl [Ht2]; · iexact Ht2
    isplitl [Hr2]; · iexact Hr2
    isplitl [Hs2]; · iexact Hs2
    iexact HB
  iintro HB
  sl_exec
  iapply (Transfers.wp_waitBatchMulO countersEmb 𝒱₀ (th d L) none (default : HIx 2) 128 credit_half1 (j := 128 + 128) (u := 0) (by decide)) $$ [HB HO]
  · isplitl [HB]; · iexact HB
    isplitl [HO]; · iexact HO
    iapply (Transfers.MayWaits.elim (SemLoc.dma cc1_scratch2.sem)) $$ Hmw
  iintro ⟨HB, HO⟩
  rw [wp_ret]; imodintro
  rw [wp_bind, wp_bind]
  iapply (Transfers.wp_waitBatchAllO countersEmb 𝒱₀ (th d L) none (default : HIx 2) credit_half2 credit_pos (n := 128 + 128) (u := 0 + 128 * credit1) (by decide)) $$ [HB HO]
  · isplitl [HB]; · iexact HB
    isplitl [HO]; · iexact HO
    iapply (Transfers.MayWaits.elim (SemLoc.dma cc1_scratch2.sem)) $$ Hmw
  iintro ⟨HD, HsemB, HO⟩
  ihave HD := (pairD_join (o := 128) (o' := 128) (del1 m d L hpre fr) (del2 m d L hpre fr)) $$ HD
  icases HD with ⟨HD1, HD2⟩
  ihave H1 := (del1_back m d L hpre fr) $$ HD1
  icases H1 with ⟨Hr1, Ht1, Hs1⟩
  ihave H2 := (del2_back m d L hpre fr) $$ HD2
  icases H2 with ⟨Hr2, Ht2, Hs2⟩
  ihave Ht := (table_shares (F := F) d L (shr (wL L)) (m (tLoc d))).2 $$ [Ht1 Ht2]
  · isplitl [Ht1] <;> iassumption
  ihave Hs := (list_halves (F := F) d L (lstV (m (uLoc d)) (bL L))).2 $$ [Hs1 Hs2]
  · isplitl [Hs1] <;> iassumption
  ihave Hr := (rows_halves (F := F) d L (rowV (m (tLoc d)) (m (uLoc d)) (bL L))).2 $$ [Hr1 Hr2]
  · isplitl [Hr1] <;> iassumption
  rw [wp_ret]; imodintro
  sl_exec
  ihave Hp := (Entails.of_eq (pts_out (F := F) m d L _ (tile_body.sl.dma0_1 m d L) rfl)) $$ Hp
  rw [wp_ret]; imodintro
  isplitl [Hu Ht Hp]
  · isplitl [Hu]; · iexact Hu
    isplitl [Ht]; · iexact Ht
    iexact Hp
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with hp | hp | hp | hp | hp
  all_goals first | exact .inl hp | exact .inr (hp ▸ rfl)

end Cert.Proof.Run.Tile1

end
-- ==== Proof.Tiles.lean ====
/-
  The obligations of the two SparseCore calls: each tile's task, from its share of the call's arrays.
-/
module

public import proofs.«01_k».proof.Proof.Body0
public import proofs.«01_k».proof.Proof.Body1

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-- The two grids' coordinates of a (core, tile) pair. -/
def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

theorem defs₀_call0 (c : Fin τ.nSC) (s : Fin τ.nSub) :
    defs₀ (F := F) (.scVector c s) 0 ()
      = SparseCore.onTile hcore0 hsub0 (fun c s => cc0_gather_kernel (coords0 c s) (Memref.whole main_arg1_scv) (Memref.isWhole_whole _) (Memref.whole main_arg0_scv) (Memref.isWhole_whole _)
          (Memref.whole main_arg4_scv) (Memref.isWhole_whole _) (Memref.whole main_arg5_scv) (Memref.isWhole_whole _) (Memref.whole main_v0_0_scv) (Memref.isWhole_whole _)
          (Memref.whole main_v0_1_scv) (Memref.isWhole_whole _) (Memref.whole cc0_scratch0) (Memref.isWhole_whole _) (Memref.whole cc0_scratch1) (Memref.isWhole_whole _) cc0_scratch2
          (Memref.whole cc0_scratch3) (Memref.isWhole_whole _) (Memref.whole cc0_scratch4) (Memref.isWhole_whole _) cc0_scratch5 cc0_scoped0 cc0_scoped1 cc0_scoped2 cc0_scoped3) ⟨⟩ c s := rfl

theorem defs₀_call1 (c : Fin τ.nSC) (s : Fin τ.nSub) :
    defs₀ (F := F) (.scVector c s) 1 ()
      = SparseCore.onTile hcore1 hsub1 (fun c s => cc1_gather_kernel (coords1 c s) (Memref.whole main_arg1_scv) (Memref.isWhole_whole _) (Memref.whole main_arg4_scv) (Memref.isWhole_whole _)
          (Memref.whole main_v1_scv) (Memref.isWhole_whole _) (Memref.whole cc1_scratch0) (Memref.isWhole_whole _) (Memref.whole cc1_scratch1) (Memref.isWhole_whole _) cc1_scratch2 cc1_scoped0 cc1_scoped1) ⟨⟩ c s := rfl

omit [FloatOps F] in
/-- A task's last condition, as the obligation states it. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_call0]; simp only [SparseCore.onTile, hci, and_self, ↓reduceDIte]
  exact (Tile0.tile_body m d (coords0 ⟨_, hci.1⟩ ⟨_, hci.2⟩) hF hpre O W hO).trans (wp_mono frame _ _ fun _ => obl_post)

set_option maxRecDepth 16384 in
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  exact (Tile1.tile_body m d (coords1 ⟨_, hci.1⟩ ⟨_, hci.2⟩) hF hpre O W hO).trans (wp_mono frame _ _ fun _ => obl_post)

end Cert.Proof.Run

end
-- ==== Proof.BodyTC2.lean ====
/-
  The body of TensorCore call 2: its run from every staging buffer and every scratch array held whole, with what it
  leaves in the output buffers as a function of the input blocks.
-/
module

public import proofs.«01_k».proof.Proof.Common

@[expose] public section

noncomputable section

namespace Cert.Proof.Run.Region2

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- Memref `M`'s buffer on device `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def bodyRun2 (c : Dev nD) (i : grid2.Coords)
    (hc1 : Scalar.cmpi .ne (Scalar.extui (Scalar.cmpi .eq (BitVec.ofNat 32 (i 0).val) 0#32) : BitVec 32) 0#32 = 1#1) (hc2 : k2_cond2 i = 1#1)
    (M0 : Memref sig .tc .vmem S8192 .i32) (h0 : M0.IsWhole) (M1 : Memref sig .tc .vmem S8192 .i32) (h1 : M1.IsWhole) (M2 : Memref sig .tc .vmem S8192x128 .f32) (h2 : M2.IsWhole) (M3 : Memref sig .tc .vmem S16x128 .f32) (h3 : M3.IsWhole) (M4 : Memref sig .tc .vmem S5x128 .f32) (h4 : M4.IsWhole) (M5 : Memref sig .tc .vmem S128x256 .f32) (h5 : M5.IsWhole) (M6 : Memref sig .tc .vmem S128 .f32) (h6 : M6.IsWhole) (M7 : Memref sig .tc .vmem S128x128 .f32) (h7 : M7.IsWhole) (M8 : Memref sig .tc .vmem S128 .f32) (h8 : M8.IsWhole) (M9 : Memref sig .tc .vmem S128x256 .f32) (h9 : M9.IsWhole) (M10 : Memref sig .tc .vmem S128 .f32) (h10 : M10.IsWhole) (M11 : Memref sig .tc .vmem S128x128 .f32) (h11 : M11.IsWhole) (M12 : Memref sig .tc .vmem S128 .f32) (h12 : M12.IsWhole) (M13 : Memref sig .tc .vmem S1x128 .f32) (h13 : M13.IsWhole) (M14 : Memref sig .tc .vmem S16x1 .f32) (h14 : M14.IsWhole) (M15 : Memref sig .tc .vmem S16x1 .f32) (h15 : M15.IsWhole) (M16 : Memref sig .tc .vmem S16x128 .f32) (h16 : M16.IsWhole) (M17 : Memref sig .tc .vmem S16x1 .f32) (h17 : M17.IsWhole) (M18 : Memref sig .tc .vmem S16x1 .f32) (h18 : M18.IsWhole) (M19 : Memref sig .tc .vmem S16x128 .f32) (h19 : M19.IsWhole) (M20 : Memref sig .tc .vmem S8x128 .f32) (h20 : M20.IsWhole) (M21 : Memref sig .tc .vmem S16x128 .f32) (h21 : M21.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) :
    { W : Bf (F := F) c M14 × Bf (F := F) c M15 × Bf (F := F) c M16 // ∀ (f14 : Bf (F := F) c M14) (f15 : Bf (F := F) c M15) (f16 : Bf (F := F) c M16) (f17 : Bf (F := F) c M17) (f18 : Bf (F := F) c M18) (f19 : Bf (F := F) c M19) (f20 : Bf (F := F) c M20) (f21 : Bf (F := F) c M21) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 W.1 ∗ pt c M15 W.2.1 ∗ pt c M16 W.2.2 ∗ (∃ f, pt c M17 f) ∗ (∃ f, pt c M18 f) ∗ (∃ f, pt c M19 f) ∗ (∃ f, pt c M20 f) ∗ (∃ f, pt c M21 f)) -∗ Q ⟨⟩))
          ⊢ wp frame (wpE (defs₀ (F := F)) 𝒱₀ c none) E (cc2__tc_body i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q } := by
  refine ⟨(?_, ?_, ?_), fun f14 f15 f16 f17 f18 f19 f20 f21 E Q => ?run⟩
  case run =>
    rw [cc2__tc_body_eq_skeleton]
    iintro ⟨H0, H1, H2, H3, H4, H5, H6, H7, H8, H9, H10, H11, H12, H13, H14, H15, H16, H17, H18, H19, H20, H21, Hk⟩
    unfold cc2__tc_body_skel
    simp only [k2_part1_eq_skeleton, k2_part2_eq_skeleton, k2_part3_eq_skeleton]
    unfold k2_part2_skel k2_part3_skel
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    iexists _; iexact H21

end Cert.Proof.Run.Region2

end
-- ==== Proof.Region2.lean ====
/-
  TensorCore call 2 over the whole thread state: its proof data at an entry valuation of the unscoped buffers, the body's
  obligation from its run, and its segment of `@main`.
-/
module

public import proofs.«01_k».proof.Proof.BodyTC2
public import Idealize.ShloMosaic.Lib.Pipeline.RegionsLoop

@[expose] public section

noncomputable section

namespace Cert.Proof.Run.Region2

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

variable (V : (c : Dev nD) → (b : Ref sig .tc) → Buf (Elt F) ((c : Thread nD τ).loc b)) (B : ℕ)

/-- Window 0's block as the fetch stages it. -/
abbrev stg0 (c : Dev nD) : (cfg2.win 0).block.Idx → Elt F (cfg2.win 0).elt :=
  ((cfg2.win 0).blk t2_0).view.read (Elt F) (V c main_arg2)
/-- Window 1's block as the fetch stages it. -/
abbrev stg1 (c : Dev nD) : (cfg2.win 1).block.Idx → Elt F (cfg2.win 1).elt :=
  ((cfg2.win 1).blk t2_0).view.read (Elt F) (V c main_arg3)
/-- Window 2's block as the fetch stages it. -/
abbrev stg2 (c : Dev nD) : (cfg2.win 2).block.Idx → Elt F (cfg2.win 2).elt :=
  ((cfg2.win 2).blk t2_0).view.read (Elt F) (V c main_v0_0)
/-- Window 3's block as the fetch stages it. -/
abbrev stg3 (c : Dev nD) : (cfg2.win 3).block.Idx → Elt F (cfg2.win 3).elt :=
  ((cfg2.win 3).blk t2_0).view.read (Elt F) (V c main_v0_1)
/-- Window 4's block as the fetch stages it. -/
abbrev stg4 (c : Dev nD) : (cfg2.win 4).block.Idx → Elt F (cfg2.win 4).elt :=
  ((cfg2.win 4).blk t2_0).view.read (Elt F) (V c main_arg6)
/-- Window 5's block as the fetch stages it. -/
abbrev stg5 (c : Dev nD) : (cfg2.win 5).block.Idx → Elt F (cfg2.win 5).elt :=
  ((cfg2.win 5).blk t2_0).view.read (Elt F) (V c main_arg7)
/-- Window 6's block as the fetch stages it. -/
abbrev stg6 (c : Dev nD) : (cfg2.win 6).block.Idx → Elt F (cfg2.win 6).elt :=
  ((cfg2.win 6).blk t2_0).view.read (Elt F) (V c main_arg8)
/-- Window 7's block as the fetch stages it. -/
abbrev stg7 (c : Dev nD) : (cfg2.win 7).block.Idx → Elt F (cfg2.win 7).elt :=
  ((cfg2.win 7).blk t2_0).view.read (Elt F) (V c main_arg9)
/-- Window 8's block as the fetch stages it. -/
abbrev stg8 (c : Dev nD) : (cfg2.win 8).block.Idx → Elt F (cfg2.win 8).elt :=
  ((cfg2.win 8).blk t2_0).view.read (Elt F) (V c main_arg10)
/-- Window 9's block as the fetch stages it. -/
abbrev stg9 (c : Dev nD) : (cfg2.win 9).block.Idx → Elt F (cfg2.win 9).elt :=
  ((cfg2.win 9).blk t2_0).view.read (Elt F) (V c main_arg11)
/-- Window 10's block as the fetch stages it. -/
abbrev stg10 (c : Dev nD) : (cfg2.win 10).block.Idx → Elt F (cfg2.win 10).elt :=
  ((cfg2.win 10).blk t2_0).view.read (Elt F) (V c main_arg12)
/-- Window 11's block as the fetch stages it. -/
abbrev stg11 (c : Dev nD) : (cfg2.win 11).block.Idx → Elt F (cfg2.win 11).elt :=
  ((cfg2.win 11).blk t2_0).view.read (Elt F) (V c main_arg13)
/-- Window 12's block as the fetch stages it. -/
abbrev stg12 (c : Dev nD) : (cfg2.win 12).block.Idx → Elt F (cfg2.win 12).elt :=
  ((cfg2.win 12).blk t2_0).view.read (Elt F) (V c main_arg14)
/-- Window 13's block as the fetch stages it. -/
abbrev stg13 (c : Dev nD) : (cfg2.win 13).block.Idx → Elt F (cfg2.win 13).elt :=
  ((cfg2.win 13).blk t2_0).view.read (Elt F) (V c main_arg15)

theorem first2 : Scalar.cmpi .ne (Scalar.extui (Scalar.cmpi .eq (BitVec.ofNat 32 ((grid2.coords t2_0) 0).val) 0#32) : BitVec 32) 0#32 = 1#1 := by decide
theorem last2 : k2_cond2 (grid2.coords t2_0) = 1#1 := by decide

/-- The run at the staged blocks. -/
abbrev run (c : Dev nD) := bodyRun2 (F := F) c (grid2.coords t2_0) first2 last2
  (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0) (stage2_8 0) (hstage2_8 0) (stage2_9 0) (hstage2_9 0) (stage2_10 0) (hstage2_10 0) (stage2_11 0) (hstage2_11 0) (stage2_12 0) (hstage2_12 0) (stage2_13 0) (hstage2_13 0) (stage2_14 0) (hstage2_14 0) (stage2_15 0) (hstage2_15 0) (stage2_16 0) (hstage2_16 0)
  (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _)
  (stg0 V c) (stg1 V c) (stg2 V c) (stg3 V c) (stg4 V c) (stg5 V c) (stg6 V c) (stg7 V c) (stg8 V c) (stg9 V c) (stg10 V c) (stg11 V c) (stg12 V c) (stg13 V c)

/-- The proof data of the region entered from valuation `V`: the arrays at `V`; after the body the inputs' buffers as fetched
    and the outputs' at the run's values; nothing owed; full shares; every recorded pair at a level at most `B`. -/
def dat (c : Dev nD) : Dat τ (Elt F) (HIx 2) ℕ UU ℕ cfg2 c where
  A w := V c (Pipeline.arrRef spec2 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => stg7 V c
    | ⟨8, _⟩ => stg8 V c
    | ⟨9, _⟩ => stg9 V c
    | ⟨10, _⟩ => stg10 V c
    | ⟨11, _⟩ => stg11 V c
    | ⟨12, _⟩ => stg12 V c
    | ⟨13, _⟩ => stg13 V c
    | ⟨14, _⟩ => (run V c).1.1
    | ⟨15, _⟩ => (run V c).1.2.1
    | ⟨16, _⟩ => (run V c).1.2.2
    | ⟨_ + 17, h⟩ => absurd h (Nat.not_lt.2 (Nat.le_add_left _ _))
  Φ _ := Pipeline.scopedRest (Ix := HIx 2) (Name := ℕ) (U := UU) (Lvl := ℕ) (Val := Elt F) spec2 c
  q _ := fullShare
  owed _ := 0
  recorded _ := {p | (K (F := F)).lev ((c : Thread nD τ), p.1) p.2 ≤ B}

/-- Proof data for the pipeline this region does not run: anything. -/
def junkDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

abbrev adm : (p : Fin 2) → (pcfgs (F := F) p).Adm := fun p => (cfgs p).toPCfg_adm

def pdats : (p : Fin 2) → (c : Dev nD) → Dat τ (Elt F) (HIx 2) ℕ UU ℕ (Pipeline.pin (pcfgs (F := F)) adm p) c
  | ⟨0, _⟩ => fun c => dat V B c
  | ⟨1, _⟩ => fun c => junkDat c

theorem before_0 (c : Dev nD) (d : (cfg2.win 0).block.Idx → Elt F (cfg2.win 0).elt) : (dat V B c).before 0 t2_0 d = stg0 V c := by
  unfold Dat.before; rw [if_pos (by decide)]; rfl
theorem before_1 (c : Dev nD) (d : (cfg2.win 1).block.Idx → Elt F (cfg2.win 1).elt) : (dat V B c).before 1 t2_0 d = stg1 V c := by
  unfold Dat.before; rw [if_pos (by decide)]; rfl
theorem before_2 (c : Dev nD) (d : (cfg2.win 2).block.Idx → Elt F (cfg2.win 2).elt) : (dat V B c).before 2 t2_0 d = stg2 V c := by
  unfold Dat.before; rw [if_pos (by decide)]; rfl
theorem before_3 (c : Dev nD) (d : (cfg2.win 3).block.Idx → Elt F (cfg2.win 3).elt) : (dat V B c).before 3 t2_0 d = stg3 V c := by
  unfold Dat.before; rw [if_pos (by decide)]; rfl
theorem before_4 (c : Dev nD) (d : (cfg2.win 4).block.Idx → Elt F (cfg2.win 4).elt) : (dat V B c).before 4 t2_0 d = stg4 V c := by
  unfold Dat.before; rw [if_pos (by decide)]; rfl
theorem before_5 (c : Dev nD) (d : (cfg2.win 5).block.Idx → Elt F (cfg2.win 5).elt) : (dat V B c).before 5 t2_0 d = stg5 V c := by
  unfold Dat.before; rw [if_pos (by decide)]; rfl
theorem before_6 (c : Dev nD) (d : (cfg2.win 6).block.Idx → Elt F (cfg2.win 6).elt) : (dat V B c).before 6 t2_0 d = stg6 V c := by
  unfold Dat.before; rw [if_pos (by decide)]; rfl
theorem before_7 (c : Dev nD) (d : (cfg2.win 7).block.Idx → Elt F (cfg2.win 7).elt) : (dat V B c).before 7 t2_0 d = stg7 V c := by
  unfold Dat.before; rw [if_pos (by decide)]; rfl
theorem before_8 (c : Dev nD) (d : (cfg2.win 8).block.Idx → Elt F (cfg2.win 8).elt) : (dat V B c).before 8 t2_0 d = stg8 V c := by
  unfold Dat.before; rw [if_pos (by decide)]; rfl
theorem before_9 (c : Dev nD) (d : (cfg2.win 9).block.Idx → Elt F (cfg2.win 9).elt) : (dat V B c).before 9 t2_0 d = stg9 V c := by
  unfold Dat.before; rw [if_pos (by decide)]; rfl
theorem before_10 (c : Dev nD) (d : (cfg2.win 10).block.Idx → Elt F (cfg2.win 10).elt) : (dat V B c).before 10 t2_0 d = stg10 V c := by
  unfold Dat.before; rw [if_pos (by decide)]; rfl
theorem before_11 (c : Dev nD) (d : (cfg2.win 11).block.Idx → Elt F (cfg2.win 11).elt) : (dat V B c).before 11 t2_0 d = stg11 V c := by
  unfold Dat.before; rw [if_pos (by decide)]; rfl
theorem before_12 (c : Dev nD) (d : (cfg2.win 12).block.Idx → Elt F (cfg2.win 12).elt) : (dat V B c).before 12 t2_0 d = stg12 V c := by
  unfold Dat.before; rw [if_pos (by decide)]; rfl
theorem before_13 (c : Dev nD) (d : (cfg2.win 13).block.Idx → Elt F (cfg2.win 13).elt) : (dat V B c).before 13 t2_0 d = stg13 V c := by
  unfold Dat.before; rw [if_pos (by decide)]; rfl

set_option maxHeartbeats 4000000 in
/-- The body's obligation: the staging buffers and the scratch taken apart, the run, its results put back. -/
theorem body_obligation (c : Dev nD) : BodyObligation (dat V B c) (defs₀ (F := F)) 𝒱₀ none Set.univ := fun t => by
  obtain rfl := fin_N2 t
  rw [bigSep_W2, bigSep_W2]
  simp only [show cfg2.slots t2_0 0 = (0 : Fin 1) from Subsingleton.elim (α := Fin 1) _ _, show cfg2.slots t2_0 1 = (0 : Fin 1) from Subsingleton.elim (α := Fin 1) _ _, show cfg2.slots t2_0 2 = (0 : Fin 1) from Subsingleton.elim (α := Fin 1) _ _, show cfg2.slots t2_0 3 = (0 : Fin 1) from Subsingleton.elim (α := Fin 1) _ _, show cfg2.slots t2_0 4 = (0 : Fin 1) from Subsingleton.elim (α := Fin 1) _ _, show cfg2.slots t2_0 5 = (0 : Fin 1) from Subsingleton.elim (α := Fin 1) _ _, show cfg2.slots t2_0 6 = (0 : Fin 1) from Subsingleton.elim (α := Fin 1) _ _, show cfg2.slots t2_0 7 = (0 : Fin 1) from Subsingleton.elim (α := Fin 1) _ _, show cfg2.slots t2_0 8 = (0 : Fin 1) from Subsingleton.elim (α := Fin 1) _ _, show cfg2.slots t2_0 9 = (0 : Fin 1) from Subsingleton.elim (α := Fin 1) _ _, show cfg2.slots t2_0 10 = (0 : Fin 1) from Subsingleton.elim (α := Fin 1) _ _, show cfg2.slots t2_0 11 = (0 : Fin 1) from Subsingleton.elim (α := Fin 1) _ _, show cfg2.slots t2_0 12 = (0 : Fin 1) from Subsingleton.elim (α := Fin 1) _ _, show cfg2.slots t2_0 13 = (0 : Fin 1) from Subsingleton.elim (α := Fin 1) _ _, show cfg2.slots t2_0 14 = (0 : Fin 1) from Subsingleton.elim (α := Fin 1) _ _, show cfg2.slots t2_0 15 = (0 : Fin 1) from Subsingleton.elim (α := Fin 1) _ _, show cfg2.slots t2_0 16 = (0 : Fin 1) from Subsingleton.elim (α := Fin 1) _ _, owns_whole_eq]
  simp only [show idle2 14 (grid2.coords t2_0) = false from by decide, show idle2 15 (grid2.coords t2_0) = false from by decide, show idle2 16 (grid2.coords t2_0) = false from by decide]
  rw [show (dat V B c).Φ t2_0.castSucc = Pipeline.scopedRest (Ix := HIx 2) (Name := ℕ) (U := UU) (Lvl := ℕ) (Val := Elt F) spec2 c from rfl,
    show (dat V B c).Φ t2_0.succ = Pipeline.scopedRest (Ix := HIx 2) (Name := ℕ) (U := UU) (Lvl := ℕ) (Val := Elt F) spec2 c from rfl,
    show (dat V B c).owesAt none t2_0.succ = (dat V B c).owesAt none t2_0.castSucc from rfl]
  rw [scopedRest2_split]
  iintro ⟨⟨⟨⟨%g0, S0⟩, ⟨%g1, S1⟩, ⟨%g2, S2⟩, ⟨%g3, S3⟩, ⟨%g4, S4⟩⟩, HΦ⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, -, H14⟩, ⟨%d15, %f15, -, H15⟩, ⟨%d16, %f16, -, H16⟩⟩
  rw [before_0] at hf0; subst hf0
  rw [before_1] at hf1; subst hf1
  rw [before_2] at hf2; subst hf2
  rw [before_3] at hf3; subst hf3
  rw [before_4] at hf4; subst hf4
  rw [before_5] at hf5; subst hf5
  rw [before_6] at hf6; subst hf6
  rw [before_7] at hf7; subst hf7
  rw [before_8] at hf8; subst hf8
  rw [before_9] at hf9; subst hf9
  rw [before_10] at hf10; subst hf10
  rw [before_11] at hf11; subst hf11
  rw [before_12] at hf12; subst hf12
  rw [before_13] at hf13; subst hf13
  iapply ((run V c).2 f14 f15 f16 g0 g1 g2 g3 g4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, S0, S1, S2, S3, S4⟩
  isplitl [S0 S1 S2 S3 S4 HΦ]
  · isplitl [S0 S1 S2 S3 S4]
    · isplitl [S0]; · iexact S0
      isplitl [S1]; · iexact S1
      isplitl [S2]; · iexact S2
      isplitl [S3]; · iexact S3
      iexact S4
    · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  isplitl [H9]; · iexists _; isplitr; swap; (· iexact H9); ipureintro; dsimp only [dat]
  isplitl [H10]; · iexists _; isplitr; swap; (· iexact H10); ipureintro; dsimp only [dat]
  isplitl [H11]; · iexists _; isplitr; swap; (· iexact H11); ipureintro; dsimp only [dat]
  isplitl [H12]; · iexists _; isplitr; swap; (· iexact H12); ipureintro; dsimp only [dat]
  isplitl [H13]; · iexists _; isplitr; swap; (· iexact H13); ipureintro; dsimp only [dat]
  isplitl [H14]; · iexists _; isplitr; swap; (· iexact H14); ipureintro; dsimp only [dat]
  isplitl [H15]; · iexists _; isplitr; swap; (· iexact H15); ipureintro; dsimp only [dat]
  iexists _; isplitr; swap; (· iexact H16); ipureintro; dsimp only [dat]

/-- Output 0's array after the region. -/
def out0 (c : Dev nD) : Buf (Elt F) ((c : Thread nD τ).loc main_v2_0) := (dat V B c).arrAt 14 cfg2.N

/-- Output 1's array after the region. -/
def out1 (c : Dev nD) : Buf (Elt F) ((c : Thread nD τ).loc main_v2_1) := (dat V B c).arrAt 15 cfg2.N

/-- Output 2's array after the region. -/
def out2 (c : Dev nD) : Buf (Elt F) ((c : Thread nD τ).loc main_v2_2) := (dat V B c).arrAt 16 cfg2.N

variable (Vp : (c : Dev nD) → (b : Ref sig .tc) → Buf (Elt F) ((c : Thread nD τ).loc b))

set_option backward.isDefEq.respectTransparency.types false in
/-- The region, from the unscoped buffers at `V` to them at `Vp`, which is `V` but at the outputs. -/
def reg (hV0 : ∀ c, Vp c main_v2_0 = out0 V B c) (hV1 : ∀ c, Vp c main_v2_1 = out1 V B c) (hV2 : ∀ c, Vp c main_v2_2 = out2 V B c)
    (hVne : ∀ c (b : Ref sig .tc), b ≠ main_v2_0 → b ≠ main_v2_1 → b ≠ main_v2_2 → Vp c b = V c b) :
    Pipeline.RegionSeg (pcfgs (F := F)) adm (pdats V B) none defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (body_obligation V B c).loose
  hwaits := Pipeline.hwaits_of_owed_zero _ _ _ _ (K (F := F)).L (K (F := F)).lev 0 fun _ _ => rfl
  pre c := iprop(unscopedBufs c (V c) ∗ ∃ W, ⌜(K (F := F)).WBelow (c : Thread nD τ) W B⌝ ∗ owes (c : Thread nD τ) (0 : CellTallies nD τ sig (HIx 2)) W)
  post c := iprop(unscopedBufs c (Vp c) ∗ ∃ W, ⌜(K (F := F)).WBelow (c : Thread nD τ) W B⌝ ∗ owes (c : Thread nD τ) (0 : CellTallies nD τ sig (HIx 2)) W)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 0) (pcfgs (F := F)) adm (pdats V B) launch2.win launch2.arr_whole c
      ((pdats V B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V B 0 c).Φ 0 = Pipeline.scopedRest (Ix := HIx 2) (Name := ℕ) (U := UU) (Lvl := ℕ) (Val := Elt F) spec2 c from rfl]
    iintro ⟨-, -, Hr⟩; iexact Hr
  hout c := by
    rw [Pipeline.ownSems0_none, show (pdats V B 0 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch2.win launch2.arr_whole c
      (pdats V B) ((pdats V B 0 c).share_full fun _ => rfl) (V c) (Vp c) ((pdats V B 0 c).arrAt · cfg2.N)
      (fun w => by
        fin_cases w
        · exact ((pdats V B 0 c).arrAt_in 0 rfl _).trans (hVne c main_arg2 (by decide) (by decide) (by decide)).symm
        · exact ((pdats V B 0 c).arrAt_in 1 rfl _).trans (hVne c main_arg3 (by decide) (by decide) (by decide)).symm
        · exact ((pdats V B 0 c).arrAt_in 2 rfl _).trans (hVne c main_v0_0 (by decide) (by decide) (by decide)).symm
        · exact ((pdats V B 0 c).arrAt_in 3 rfl _).trans (hVne c main_v0_1 (by decide) (by decide) (by decide)).symm
        · exact ((pdats V B 0 c).arrAt_in 4 rfl _).trans (hVne c main_arg6 (by decide) (by decide) (by decide)).symm
        · exact ((pdats V B 0 c).arrAt_in 5 rfl _).trans (hVne c main_arg7 (by decide) (by decide) (by decide)).symm
        · exact ((pdats V B 0 c).arrAt_in 6 rfl _).trans (hVne c main_arg8 (by decide) (by decide) (by decide)).symm
        · exact ((pdats V B 0 c).arrAt_in 7 rfl _).trans (hVne c main_arg9 (by decide) (by decide) (by decide)).symm
        · exact ((pdats V B 0 c).arrAt_in 8 rfl _).trans (hVne c main_arg10 (by decide) (by decide) (by decide)).symm
        · exact ((pdats V B 0 c).arrAt_in 9 rfl _).trans (hVne c main_arg11 (by decide) (by decide) (by decide)).symm
        · exact ((pdats V B 0 c).arrAt_in 10 rfl _).trans (hVne c main_arg12 (by decide) (by decide) (by decide)).symm
        · exact ((pdats V B 0 c).arrAt_in 11 rfl _).trans (hVne c main_arg13 (by decide) (by decide) (by decide)).symm
        · exact ((pdats V B 0 c).arrAt_in 12 rfl _).trans (hVne c main_arg14 (by decide) (by decide) (by decide)).symm
        · exact ((pdats V B 0 c).arrAt_in 13 rfl _).trans (hVne c main_arg15 (by decide) (by decide) (by decide)).symm
        · exact (hV0 c).symm
        · exact (hV1 c).symm
        · exact (hV2 c).symm
        )
      (fun b hb => hVne c b (fun h => hb (h ▸ Finset.mem_image.mpr ⟨14, Finset.mem_univ _, rfl⟩)) (fun h => hb (h ▸ Finset.mem_image.mpr ⟨15, Finset.mem_univ _, rfl⟩)) (fun h => hb (h ▸ Finset.mem_image.mpr ⟨16, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact Nat.zero_le _
    iexact HO

end Cert.Proof.Run.Region2

end
-- ==== Proof.BodyTC3.lean ====
/-
  The body of TensorCore call 3: its run from every staging buffer and every scratch array held whole, with what it
  leaves in the output buffers as a function of the input blocks.
-/
module

public import proofs.«01_k».proof.Proof.Common

@[expose] public section

noncomputable section

namespace Cert.Proof.Run.Region3

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- Memref `M`'s buffer on device `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def bodyRun3 (c : Dev nD) (i : grid3.Coords)
    (hc1 : Scalar.cmpi .ne (Scalar.extui (Scalar.cmpi .eq (BitVec.ofNat 32 (i 0).val) 0#32) : BitVec 32) 0#32 = 1#1) (hc2 : k3_cond2 i = 1#1)
    (M0 : Memref sig .tc .vmem S8192 .i32) (h0 : M0.IsWhole) (M1 : Memref sig .tc .vmem S8192 .i32) (h1 : M1.IsWhole) (M2 : Memref sig .tc .vmem S8192x128 .f32) (h2 : M2.IsWhole) (M3 : Memref sig .tc .vmem S16x128 .f32) (h3 : M3.IsWhole) (M4 : Memref sig .tc .vmem S5x128 .f32) (h4 : M4.IsWhole) (M5 : Memref sig .tc .vmem S128x256 .f32) (h5 : M5.IsWhole) (M6 : Memref sig .tc .vmem S128 .f32) (h6 : M6.IsWhole) (M7 : Memref sig .tc .vmem S128x128 .f32) (h7 : M7.IsWhole) (M8 : Memref sig .tc .vmem S128 .f32) (h8 : M8.IsWhole) (M9 : Memref sig .tc .vmem S128x256 .f32) (h9 : M9.IsWhole) (M10 : Memref sig .tc .vmem S128 .f32) (h10 : M10.IsWhole) (M11 : Memref sig .tc .vmem S128x128 .f32) (h11 : M11.IsWhole) (M12 : Memref sig .tc .vmem S128 .f32) (h12 : M12.IsWhole) (M13 : Memref sig .tc .vmem S1x128 .f32) (h13 : M13.IsWhole) (M14 : Memref sig .tc .vmem S16x1 .f32) (h14 : M14.IsWhole) (M15 : Memref sig .tc .vmem S16x1 .f32) (h15 : M15.IsWhole) (M16 : Memref sig .tc .vmem S16x128 .f32) (h16 : M16.IsWhole) (M17 : Memref sig .tc .vmem S16x128 .f32) (h17 : M17.IsWhole) (M18 : Memref sig .tc .vmem S16x1 .f32) (h18 : M18.IsWhole) (M19 : Memref sig .tc .vmem S16x1 .f32) (h19 : M19.IsWhole) (M20 : Memref sig .tc .vmem S16x128 .f32) (h20 : M20.IsWhole) (M21 : Memref sig .tc .vmem S8x128 .f32) (h21 : M21.IsWhole) (M22 : Memref sig .tc .vmem S16x128 .f32) (h22 : M22.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M17 // ∀ (f17 : Bf (F := F) c M17) (f18 : Bf (F := F) c M18) (f19 : Bf (F := F) c M19) (f20 : Bf (F := F) c M20) (f21 : Bf (F := F) c M21) (f22 : Bf (F := F) c M22) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 W ∗ (∃ f, pt c M18 f) ∗ (∃ f, pt c M19 f) ∗ (∃ f, pt c M20 f) ∗ (∃ f, pt c M21 f) ∗ (∃ f, pt c M22 f)) -∗ Q ⟨⟩))
          ⊢ wp frame (wpE (defs₀ (F := F)) 𝒱₀ c none) E (cc3__tc_body i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q } := by
  refine ⟨?_, fun f17 f18 f19 f20 f21 f22 E Q => ?run⟩
  case run =>
    rw [cc3__tc_body_eq_skeleton]
    iintro ⟨H0, H1, H2, H3, H4, H5, H6, H7, H8, H9, H10, H11, H12, H13, H14, H15, H16, H17, H18, H19, H20, H21, H22, Hk⟩
    unfold cc3__tc_body_skel
    simp only [k3_part1_eq_skeleton, k3_part2_eq_skeleton, k3_part3_eq_skeleton]
    unfold k3_part2_skel k3_part3_skel
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    iexists _; iexact H22

end Cert.Proof.Run.Region3

end
-- ==== Proof.Region3.lean ====
/-
  TensorCore call 3 over the whole thread state: its proof data at an entry valuation of the unscoped buffers, the body's
  obligation from its run, and its segment of `@main`.
-/
module

public import proofs.«01_k».proof.Proof.BodyTC3
public import Idealize.ShloMosaic.Lib.Pipeline.RegionsLoop

@[expose] public section

noncomputable section

namespace Cert.Proof.Run.Region3

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

variable (V : (c : Dev nD) → (b : Ref sig .tc) → Buf (Elt F) ((c : Thread nD τ).loc b)) (B : ℕ)

/-- Window 0's block as the fetch stages it. -/
abbrev stg0 (c : Dev nD) : (cfg3.win 0).block.Idx → Elt F (cfg3.win 0).elt :=
  ((cfg3.win 0).blk t3_0).view.read (Elt F) (V c main_arg2)
/-- Window 1's block as the fetch stages it. -/
abbrev stg1 (c : Dev nD) : (cfg3.win 1).block.Idx → Elt F (cfg3.win 1).elt :=
  ((cfg3.win 1).blk t3_0).view.read (Elt F) (V c main_arg3)
/-- Window 2's block as the fetch stages it. -/
abbrev stg2 (c : Dev nD) : (cfg3.win 2).block.Idx → Elt F (cfg3.win 2).elt :=
  ((cfg3.win 2).blk t3_0).view.read (Elt F) (V c main_v1)
/-- Window 3's block as the fetch stages it. -/
abbrev stg3 (c : Dev nD) : (cfg3.win 3).block.Idx → Elt F (cfg3.win 3).elt :=
  ((cfg3.win 3).blk t3_0).view.read (Elt F) (V c main_v0_1)
/-- Window 4's block as the fetch stages it. -/
abbrev stg4 (c : Dev nD) : (cfg3.win 4).block.Idx → Elt F (cfg3.win 4).elt :=
  ((cfg3.win 4).blk t3_0).view.read (Elt F) (V c main_arg6)
/-- Window 5's block as the fetch stages it. -/
abbrev stg5 (c : Dev nD) : (cfg3.win 5).block.Idx → Elt F (cfg3.win 5).elt :=
  ((cfg3.win 5).blk t3_0).view.read (Elt F) (V c main_arg7)
/-- Window 6's block as the fetch stages it. -/
abbrev stg6 (c : Dev nD) : (cfg3.win 6).block.Idx → Elt F (cfg3.win 6).elt :=
  ((cfg3.win 6).blk t3_0).view.read (Elt F) (V c main_arg8)
/-- Window 7's block as the fetch stages it. -/
abbrev stg7 (c : Dev nD) : (cfg3.win 7).block.Idx → Elt F (cfg3.win 7).elt :=
  ((cfg3.win 7).blk t3_0).view.read (Elt F) (V c main_arg9)
/-- Window 8's block as the fetch stages it. -/
abbrev stg8 (c : Dev nD) : (cfg3.win 8).block.Idx → Elt F (cfg3.win 8).elt :=
  ((cfg3.win 8).blk t3_0).view.read (Elt F) (V c main_arg10)
/-- Window 9's block as the fetch stages it. -/
abbrev stg9 (c : Dev nD) : (cfg3.win 9).block.Idx → Elt F (cfg3.win 9).elt :=
  ((cfg3.win 9).blk t3_0).view.read (Elt F) (V c main_arg11)
/-- Window 10's block as the fetch stages it. -/
abbrev stg10 (c : Dev nD) : (cfg3.win 10).block.Idx → Elt F (cfg3.win 10).elt :=
  ((cfg3.win 10).blk t3_0).view.read (Elt F) (V c main_arg12)
/-- Window 11's block as the fetch stages it. -/
abbrev stg11 (c : Dev nD) : (cfg3.win 11).block.Idx → Elt F (cfg3.win 11).elt :=
  ((cfg3.win 11).blk t3_0).view.read (Elt F) (V c main_arg13)
/-- Window 12's block as the fetch stages it. -/
abbrev stg12 (c : Dev nD) : (cfg3.win 12).block.Idx → Elt F (cfg3.win 12).elt :=
  ((cfg3.win 12).blk t3_0).view.read (Elt F) (V c main_arg14)
/-- Window 13's block as the fetch stages it. -/
abbrev stg13 (c : Dev nD) : (cfg3.win 13).block.Idx → Elt F (cfg3.win 13).elt :=
  ((cfg3.win 13).blk t3_0).view.read (Elt F) (V c main_arg15)
/-- Window 14's block as the fetch stages it. -/
abbrev stg14 (c : Dev nD) : (cfg3.win 14).block.Idx → Elt F (cfg3.win 14).elt :=
  ((cfg3.win 14).blk t3_0).view.read (Elt F) (V c main_v2_0)
/-- Window 15's block as the fetch stages it. -/
abbrev stg15 (c : Dev nD) : (cfg3.win 15).block.Idx → Elt F (cfg3.win 15).elt :=
  ((cfg3.win 15).blk t3_0).view.read (Elt F) (V c main_v2_1)
/-- Window 16's block as the fetch stages it. -/
abbrev stg16 (c : Dev nD) : (cfg3.win 16).block.Idx → Elt F (cfg3.win 16).elt :=
  ((cfg3.win 16).blk t3_0).view.read (Elt F) (V c main_v2_2)

theorem first3 : Scalar.cmpi .ne (Scalar.extui (Scalar.cmpi .eq (BitVec.ofNat 32 ((grid3.coords t3_0) 0).val) 0#32) : BitVec 32) 0#32 = 1#1 := by decide
theorem last3 : k3_cond2 (grid3.coords t3_0) = 1#1 := by decide

/-- The run at the staged blocks. -/
abbrev run (c : Dev nD) := bodyRun3 (F := F) c (grid3.coords t3_0) first3 last3
  (stage3_0 0) (hstage3_0 0) (stage3_1 0) (hstage3_1 0) (stage3_2 0) (hstage3_2 0) (stage3_3 0) (hstage3_3 0) (stage3_4 0) (hstage3_4 0) (stage3_5 0) (hstage3_5 0) (stage3_6 0) (hstage3_6 0) (stage3_7 0) (hstage3_7 0) (stage3_8 0) (hstage3_8 0) (stage3_9 0) (hstage3_9 0) (stage3_10 0) (hstage3_10 0) (stage3_11 0) (hstage3_11 0) (stage3_12 0) (hstage3_12 0) (stage3_13 0) (hstage3_13 0) (stage3_14 0) (hstage3_14 0) (stage3_15 0) (hstage3_15 0) (stage3_16 0) (hstage3_16 0) (stage3_17 0) (hstage3_17 0)
  (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _)
  (stg0 V c) (stg1 V c) (stg2 V c) (stg3 V c) (stg4 V c) (stg5 V c) (stg6 V c) (stg7 V c) (stg8 V c) (stg9 V c) (stg10 V c) (stg11 V c) (stg12 V c) (stg13 V c) (stg14 V c) (stg15 V c) (stg16 V c)

/-- The proof data of the region entered from valuation `V`: the arrays at `V`; after the body the inputs' buffers as fetched
    and the outputs' at the run's values; nothing owed; full shares; every recorded pair at a level at most `B`. -/
def dat (c : Dev nD) : Dat τ (Elt F) (HIx 2) ℕ UU ℕ cfg3 c where
  A w := V c (Pipeline.arrRef spec3 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => stg7 V c
    | ⟨8, _⟩ => stg8 V c
    | ⟨9, _⟩ => stg9 V c
    | ⟨10, _⟩ => stg10 V c
    | ⟨11, _⟩ => stg11 V c
    | ⟨12, _⟩ => stg12 V c
    | ⟨13, _⟩ => stg13 V c
    | ⟨14, _⟩ => stg14 V c
    | ⟨15, _⟩ => stg15 V c
    | ⟨16, _⟩ => stg16 V c
    | ⟨17, _⟩ => (run V c).1
    | ⟨_ + 18, h⟩ => absurd h (Nat.not_lt.2 (Nat.le_add_left _ _))
  Φ _ := Pipeline.scopedRest (Ix := HIx 2) (Name := ℕ) (U := UU) (Lvl := ℕ) (Val := Elt F) spec3 c
  q _ := fullShare
  owed _ := 0
  recorded _ := {p | (K (F := F)).lev ((c : Thread nD τ), p.1) p.2 ≤ B}

/-- Proof data for the pipeline this region does not run: anything. -/
def junkDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

abbrev adm : (p : Fin 2) → (pcfgs (F := F) p).Adm := fun p => (cfgs p).toPCfg_adm

def pdats : (p : Fin 2) → (c : Dev nD) → Dat τ (Elt F) (HIx 2) ℕ UU ℕ (Pipeline.pin (pcfgs (F := F)) adm p) c
  | ⟨0, _⟩ => fun c => junkDat c
  | ⟨1, _⟩ => fun c => dat V B c

theorem before_0 (c : Dev nD) (d : (cfg3.win 0).block.Idx → Elt F (cfg3.win 0).elt) : (dat V B c).before 0 t3_0 d = stg0 V c := by
  unfold Dat.before; rw [if_pos (by decide)]; rfl
theorem before_1 (c : Dev nD) (d : (cfg3.win 1).block.Idx → Elt F (cfg3.win 1).elt) : (dat V B c).before 1 t3_0 d = stg1 V c := by
  unfold Dat.before; rw [if_pos (by decide)]; rfl
theorem before_2 (c : Dev nD) (d : (cfg3.win 2).block.Idx → Elt F (cfg3.win 2).elt) : (dat V B c).before 2 t3_0 d = stg2 V c := by
  unfold Dat.before; rw [if_pos (by decide)]; rfl
theorem before_3 (c : Dev nD) (d : (cfg3.win 3).block.Idx → Elt F (cfg3.win 3).elt) : (dat V B c).before 3 t3_0 d = stg3 V c := by
  unfold Dat.before; rw [if_pos (by decide)]; rfl
theorem before_4 (c : Dev nD) (d : (cfg3.win 4).block.Idx → Elt F (cfg3.win 4).elt) : (dat V B c).before 4 t3_0 d = stg4 V c := by
  unfold Dat.before; rw [if_pos (by decide)]; rfl
theorem before_5 (c : Dev nD) (d : (cfg3.win 5).block.Idx → Elt F (cfg3.win 5).elt) : (dat V B c).before 5 t3_0 d = stg5 V c := by
  unfold Dat.before; rw [if_pos (by decide)]; rfl
theorem before_6 (c : Dev nD) (d : (cfg3.win 6).block.Idx → Elt F (cfg3.win 6).elt) : (dat V B c).before 6 t3_0 d = stg6 V c := by
  unfold Dat.before; rw [if_pos (by decide)]; rfl
theorem before_7 (c : Dev nD) (d : (cfg3.win 7).block.Idx → Elt F (cfg3.win 7).elt) : (dat V B c).before 7 t3_0 d = stg7 V c := by
  unfold Dat.before; rw [if_pos (by decide)]; rfl
theorem before_8 (c : Dev nD) (d : (cfg3.win 8).block.Idx → Elt F (cfg3.win 8).elt) : (dat V B c).before 8 t3_0 d = stg8 V c := by
  unfold Dat.before; rw [if_pos (by decide)]; rfl
theorem before_9 (c : Dev nD) (d : (cfg3.win 9).block.Idx → Elt F (cfg3.win 9).elt) : (dat V B c).before 9 t3_0 d = stg9 V c := by
  unfold Dat.before; rw [if_pos (by decide)]; rfl
theorem before_10 (c : Dev nD) (d : (cfg3.win 10).block.Idx → Elt F (cfg3.win 10).elt) : (dat V B c).before 10 t3_0 d = stg10 V c := by
  unfold Dat.before; rw [if_pos (by decide)]; rfl
theorem before_11 (c : Dev nD) (d : (cfg3.win 11).block.Idx → Elt F (cfg3.win 11).elt) : (dat V B c).before 11 t3_0 d = stg11 V c := by
  unfold Dat.before; rw [if_pos (by decide)]; rfl
theorem before_12 (c : Dev nD) (d : (cfg3.win 12).block.Idx → Elt F (cfg3.win 12).elt) : (dat V B c).before 12 t3_0 d = stg12 V c := by
  unfold Dat.before; rw [if_pos (by decide)]; rfl
theorem before_13 (c : Dev nD) (d : (cfg3.win 13).block.Idx → Elt F (cfg3.win 13).elt) : (dat V B c).before 13 t3_0 d = stg13 V c := by
  unfold Dat.before; rw [if_pos (by decide)]; rfl
theorem before_14 (c : Dev nD) (d : (cfg3.win 14).block.Idx → Elt F (cfg3.win 14).elt) : (dat V B c).before 14 t3_0 d = stg14 V c := by
  unfold Dat.before; rw [if_pos (by decide)]; rfl
theorem before_15 (c : Dev nD) (d : (cfg3.win 15).block.Idx → Elt F (cfg3.win 15).elt) : (dat V B c).before 15 t3_0 d = stg15 V c := by
  unfold Dat.before; rw [if_pos (by decide)]; rfl
theorem before_16 (c : Dev nD) (d : (cfg3.win 16).block.Idx → Elt F (cfg3.win 16).elt) : (dat V B c).before 16 t3_0 d = stg16 V c := by
  unfold Dat.before; rw [if_pos (by decide)]; rfl

set_option maxHeartbeats 4000000 in
/-- The body's obligation: the staging buffers and the scratch taken apart, the run, its results put back. -/
theorem body_obligation (c : Dev nD) : BodyObligation (dat V B c) (defs₀ (F := F)) 𝒱₀ none Set.univ := fun t => by
  obtain rfl := fin_N3 t
  rw [bigSep_W3, bigSep_W3]
  simp only [show cfg3.slots t3_0 0 = (0 : Fin 1) from Subsingleton.elim (α := Fin 1) _ _, show cfg3.slots t3_0 1 = (0 : Fin 1) from Subsingleton.elim (α := Fin 1) _ _, show cfg3.slots t3_0 2 = (0 : Fin 1) from Subsingleton.elim (α := Fin 1) _ _, show cfg3.slots t3_0 3 = (0 : Fin 1) from Subsingleton.elim (α := Fin 1) _ _, show cfg3.slots t3_0 4 = (0 : Fin 1) from Subsingleton.elim (α := Fin 1) _ _, show cfg3.slots t3_0 5 = (0 : Fin 1) from Subsingleton.elim (α := Fin 1) _ _, show cfg3.slots t3_0 6 = (0 : Fin 1) from Subsingleton.elim (α := Fin 1) _ _, show cfg3.slots t3_0 7 = (0 : Fin 1) from Subsingleton.elim (α := Fin 1) _ _, show cfg3.slots t3_0 8 = (0 : Fin 1) from Subsingleton.elim (α := Fin 1) _ _, show cfg3.slots t3_0 9 = (0 : Fin 1) from Subsingleton.elim (α := Fin 1) _ _, show cfg3.slots t3_0 10 = (0 : Fin 1) from Subsingleton.elim (α := Fin 1) _ _, show cfg3.slots t3_0 11 = (0 : Fin 1) from Subsingleton.elim (α := Fin 1) _ _, show cfg3.slots t3_0 12 = (0 : Fin 1) from Subsingleton.elim (α := Fin 1) _ _, show cfg3.slots t3_0 13 = (0 : Fin 1) from Subsingleton.elim (α := Fin 1) _ _, show cfg3.slots t3_0 14 = (0 : Fin 1) from Subsingleton.elim (α := Fin 1) _ _, show cfg3.slots t3_0 15 = (0 : Fin 1) from Subsingleton.elim (α := Fin 1) _ _, show cfg3.slots t3_0 16 = (0 : Fin 1) from Subsingleton.elim (α := Fin 1) _ _, show cfg3.slots t3_0 17 = (0 : Fin 1) from Subsingleton.elim (α := Fin 1) _ _, owns_whole_eq]
  simp only [show idle3 17 (grid3.coords t3_0) = false from by decide]
  rw [show (dat V B c).Φ t3_0.castSucc = Pipeline.scopedRest (Ix := HIx 2) (Name := ℕ) (U := UU) (Lvl := ℕ) (Val := Elt F) spec3 c from rfl,
    show (dat V B c).Φ t3_0.succ = Pipeline.scopedRest (Ix := HIx 2) (Name := ℕ) (U := UU) (Lvl := ℕ) (Val := Elt F) spec3 c from rfl,
    show (dat V B c).owesAt none t3_0.succ = (dat V B c).owesAt none t3_0.castSucc from rfl]
  rw [scopedRest3_split]
  iintro ⟨⟨⟨⟨%g0, S0⟩, ⟨%g1, S1⟩, ⟨%g2, S2⟩, ⟨%g3, S3⟩, ⟨%g4, S4⟩⟩, HΦ⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, -, H17⟩⟩
  rw [before_0] at hf0; subst hf0
  rw [before_1] at hf1; subst hf1
  rw [before_2] at hf2; subst hf2
  rw [before_3] at hf3; subst hf3
  rw [before_4] at hf4; subst hf4
  rw [before_5] at hf5; subst hf5
  rw [before_6] at hf6; subst hf6
  rw [before_7] at hf7; subst hf7
  rw [before_8] at hf8; subst hf8
  rw [before_9] at hf9; subst hf9
  rw [before_10] at hf10; subst hf10
  rw [before_11] at hf11; subst hf11
  rw [before_12] at hf12; subst hf12
  rw [before_13] at hf13; subst hf13
  rw [before_14] at hf14; subst hf14
  rw [before_15] at hf15; subst hf15
  rw [before_16] at hf16; subst hf16
  iapply ((run V c).2 f17 g0 g1 g2 g3 g4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, H17, S0, S1, S2, S3, S4⟩
  isplitl [S0 S1 S2 S3 S4 HΦ]
  · isplitl [S0 S1 S2 S3 S4]
    · isplitl [S0]; · iexact S0
      isplitl [S1]; · iexact S1
      isplitl [S2]; · iexact S2
      isplitl [S3]; · iexact S3
      iexact S4
    · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  isplitl [H9]; · iexists _; isplitr; swap; (· iexact H9); ipureintro; dsimp only [dat]
  isplitl [H10]; · iexists _; isplitr; swap; (· iexact H10); ipureintro; dsimp only [dat]
  isplitl [H11]; · iexists _; isplitr; swap; (· iexact H11); ipureintro; dsimp only [dat]
  isplitl [H12]; · iexists _; isplitr; swap; (· iexact H12); ipureintro; dsimp only [dat]
  isplitl [H13]; · iexists _; isplitr; swap; (· iexact H13); ipureintro; dsimp only [dat]
  isplitl [H14]; · iexists _; isplitr; swap; (· iexact H14); ipureintro; dsimp only [dat]
  isplitl [H15]; · iexists _; isplitr; swap; (· iexact H15); ipureintro; dsimp only [dat]
  isplitl [H16]; · iexists _; isplitr; swap; (· iexact H16); ipureintro; dsimp only [dat]
  iexists _; isplitr; swap; (· iexact H17); ipureintro; dsimp only [dat]

/-- Output 0's array after the region. -/
def out0 (c : Dev nD) : Buf (Elt F) ((c : Thread nD τ).loc main_v3) := (dat V B c).arrAt 17 cfg3.N

variable (Vp : (c : Dev nD) → (b : Ref sig .tc) → Buf (Elt F) ((c : Thread nD τ).loc b))

set_option backward.isDefEq.respectTransparency.types false in
/-- The region, from the unscoped buffers at `V` to them at `Vp`, which is `V` but at the outputs. -/
def reg (hV0 : ∀ c, Vp c main_v3 = out0 V B c)
    (hVne : ∀ c (b : Ref sig .tc), b ≠ main_v3 → Vp c b = V c b) :
    Pipeline.RegionSeg (pcfgs (F := F)) adm (pdats V B) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation V B c).loose
  hwaits := Pipeline.hwaits_of_owed_zero _ _ _ _ (K (F := F)).L (K (F := F)).lev 1 fun _ _ => rfl
  pre c := iprop(unscopedBufs c (V c) ∗ ∃ W, ⌜(K (F := F)).WBelow (c : Thread nD τ) W B⌝ ∗ owes (c : Thread nD τ) (0 : CellTallies nD τ sig (HIx 2)) W)
  post c := iprop(unscopedBufs c (Vp c) ∗ ∃ W, ⌜(K (F := F)).WBelow (c : Thread nD τ) W B⌝ ∗ owes (c : Thread nD τ) (0 : CellTallies nD τ sig (HIx 2)) W)
  X _ := BI.emp
  Y _ := BI.emp
  Z c := Pipeline.unscopedRest (Ix := HIx 2) (Name := ℕ) (U := UU) (Lvl := ℕ) spec3 c (V c)
  hentry c := by
    rw [Pipeline.ownSems0_none]
    have hsplit := Pipeline.arrays_of_unscopedBufs (p := 1) (pcfgs (F := F)) adm (pdats V B) launch3.win launch3.arr_whole c
      ((pdats V B 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V B 1 c).Φ 0 = Pipeline.scopedRest (Ix := HIx 2) (Name := ℕ) (U := UU) (Lvl := ℕ) (Val := Elt F) spec3 c from rfl]
    iintro ⟨-, -, Hr⟩; iexact Hr
  hout c := by
    rw [Pipeline.ownSems0_none, show (pdats V B 1 c).Φ (Fin.last _) = Pipeline.scopedRest (Ix := HIx 2) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) launch3.win launch3.arr_whole c
      (pdats V B) ((pdats V B 1 c).share_full fun _ => rfl) (V c) (Vp c) ((pdats V B 1 c).arrAt · cfg3.N)
      (fun w => by
        fin_cases w
        · exact ((pdats V B 1 c).arrAt_in 0 rfl _).trans (hVne c main_arg2 (by decide)).symm
        · exact ((pdats V B 1 c).arrAt_in 1 rfl _).trans (hVne c main_arg3 (by decide)).symm
        · exact ((pdats V B 1 c).arrAt_in 2 rfl _).trans (hVne c main_v1 (by decide)).symm
        · exact ((pdats V B 1 c).arrAt_in 3 rfl _).trans (hVne c main_v0_1 (by decide)).symm
        · exact ((pdats V B 1 c).arrAt_in 4 rfl _).trans (hVne c main_arg6 (by decide)).symm
        · exact ((pdats V B 1 c).arrAt_in 5 rfl _).trans (hVne c main_arg7 (by decide)).symm
        · exact ((pdats V B 1 c).arrAt_in 6 rfl _).trans (hVne c main_arg8 (by decide)).symm
        · exact ((pdats V B 1 c).arrAt_in 7 rfl _).trans (hVne c main_arg9 (by decide)).symm
        · exact ((pdats V B 1 c).arrAt_in 8 rfl _).trans (hVne c main_arg10 (by decide)).symm
        · exact ((pdats V B 1 c).arrAt_in 9 rfl _).trans (hVne c main_arg11 (by decide)).symm
        · exact ((pdats V B 1 c).arrAt_in 10 rfl _).trans (hVne c main_arg12 (by decide)).symm
        · exact ((pdats V B 1 c).arrAt_in 11 rfl _).trans (hVne c main_arg13 (by decide)).symm
        · exact ((pdats V B 1 c).arrAt_in 12 rfl _).trans (hVne c main_arg14 (by decide)).symm
        · exact ((pdats V B 1 c).arrAt_in 13 rfl _).trans (hVne c main_arg15 (by decide)).symm
        · exact ((pdats V B 1 c).arrAt_in 14 rfl _).trans (hVne c main_v2_0 (by decide)).symm
        · exact ((pdats V B 1 c).arrAt_in 15 rfl _).trans (hVne c main_v2_1 (by decide)).symm
        · exact ((pdats V B 1 c).arrAt_in 16 rfl _).trans (hVne c main_v2_2 (by decide)).symm
        · exact (hV0 c).symm
        )
      (fun b hb => hVne c b (fun h => hb (h ▸ Finset.mem_image.mpr ⟨17, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact Nat.zero_le _
    iexact HO

end Cert.Proof.Run.Region3

end
-- ==== Proof.Main.lean ====
/-
  The program's run: the two SparseCore calls and the two TensorCore calls in order, from every launch memory whose index
  words name rows of the tables.
-/
module

public import proofs.«01_k».proof.Proof.Tiles
public import proofs.«01_k».proof.Proof.Region2
public import proofs.«01_k».proof.Proof.Region3

@[expose] public section

noncomputable section

namespace Cert.Proof.Run

open Cert.KernelIdeal Cert.KernelIdeal.Gen

open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

omit [FloatOps F] in
theorem bigSep_emp' {I : Type} (s : Finset I) : (bigSep s fun _ => iprop(emp)) = (iprop(emp) : sProp 𝕄) := bigSep_emp_const s

/-! ## A call's hand-outs, over the 32 tiles -/

theorem widK_bij (q : Fin 2) : Function.Bijective fun cs : Fin ((K (F := F)).nCore q) × Fin ((K (F := F)).nSub q) => widK q cs.1 cs.2 := by
  constructor
  · rintro ⟨c, s⟩ ⟨c', s'⟩ h
    have hc := lt_of_lt_of_eq c.isLt (nCore_eq q); have hc' := lt_of_lt_of_eq c'.isLt (nCore_eq q)
    have h' : 2 * s.val + c.val = 2 * s'.val + c'.val := congrArg Fin.val h
    have e1 : c.val = c'.val := by omega
    have e2 : s.val = s'.val := by omega
    exact Prod.ext (Fin.ext e1) (Fin.ext e2)
  · intro w
    have hw := w.isLt
    refine ⟨⟨⟨w.val % 2, by rw [nCore_eq]; omega⟩, ⟨w.val / 2, by rw [nSub_eq]; omega⟩⟩, Fin.ext ?_⟩
    show 2 * (w.val / 2) + w.val % 2 = w.val
    omega

theorem cores_eq (q : Fin 2) (Φ : Fin 32 → sProp 𝕄) :
    (bigSep Finset.univ fun c : Fin ((K (F := F)).nCore q) => bigSep Finset.univ fun s : Fin ((K (F := F)).nSub q) => Φ (widK q c s)) = bigSep Finset.univ Φ := by
  have h1 := bigSep_univ_prod (fun cs : Fin ((K (F := F)).nCore q) × Fin ((K (F := F)).nSub q) => Φ (widK q cs.1 cs.2))
  have h2 := bigSep_univ_equiv (Equiv.ofBijective _ (widK_bij (F := F) q)) Φ
  exact h1.symm.trans h2.symm

theorem shares_eq {ℓ : Loc nD τ sig} (f : Buf (Elt F) ℓ) :
    (bigSep Finset.univ fun w : Fin 32 => (ℓ ↦{shr w} f : sProp 𝕄)) = (ℓ ↦{fullShare} f) :=
  (pointsTo_piecesOf Finset.univ f (by decide) fullShare).symm

theorem p0_eq (d : Dev nD) (f : Buf (Elt F) (p0Loc d)) : (bigSep Finset.univ fun w : Fin 32 => p0Blk d w f) = (p0Loc d ↦{fullShare} f : sProp 𝕄) := by
  rw [← pointsTo_biUnion Finset.univ (ℓ := p0Loc d) (fun w : Fin 32 => (blk w).set) (fun _ _ _ _ h => Rect.part_disjoint pdiv h), Rect.biUnion_part pdiv]
theorem p1_eq (d : Dev nD) (f : Buf (Elt F) (p1Loc d)) : (bigSep Finset.univ fun w : Fin 32 => p1Blk d w f) = (p1Loc d ↦{fullShare} f : sProp 𝕄) := by
  rw [← pointsTo_biUnion Finset.univ (ℓ := p1Loc d) (fun w : Fin 32 => (blk w).set) (fun _ _ _ _ h => Rect.part_disjoint pdiv h), Rect.biUnion_part pdiv]

theorem qOnly_eq (d : Dev nD) (f : Buf (Elt F) (qLoc d)) : (bigSep Finset.univ fun w : Fin 32 => qOnly m d w f) = qAll m d f := by
  rw [show (Finset.univ : Finset (Fin 32)) = insert 0 (Finset.univ.erase 0) from (Finset.insert_erase (Finset.mem_univ _)).symm,
    SparseCore.bigSep_insert' (Finset.notMem_erase _ _),
    show (bigSep (Finset.univ.erase (0 : Fin 32)) fun w => qOnly m d w f) = bigSep (Finset.univ.erase (0 : Fin 32)) fun _ => iprop(emp) from
      bigSep_congr fun w hw => by
        unfold qOnly; exact if_neg fun h => (Finset.ne_of_mem_erase hw) (Fin.ext h), bigSep_emp']
  unfold qOnly; rw [if_pos (by rfl)]
  exact sep_emp_eq _

theorem go0_eq (d : Dev nD) (f : Buf (Elt F) (p0Loc d)) (g : Buf (Elt F) (qLoc d)) :
    (bigSep Finset.univ fun w : Fin 32 => goT0 m d w f g)
      = iprop((uLoc d ↦{fullShare} m (uLoc d)) ∗ (tLoc d ↦{fullShare} m (tLoc d)) ∗ (p0Loc d ↦{fullShare} f) ∗ qAll m d g) := by
  rw [bigSep_sep', bigSep_sep', bigSep_sep', shares_eq, shares_eq, p0_eq, qOnly_eq]
theorem go1_eq (d : Dev nD) (f : Buf (Elt F) (p1Loc d)) :
    (bigSep Finset.univ fun w : Fin 32 => goT1 m d w f)
      = iprop((uLoc d ↦{fullShare} m (uLoc d)) ∗ (tLoc d ↦{fullShare} m (tLoc d)) ∗ (p1Loc d ↦{fullShare} f)) := by
  rw [bigSep_sep', bigSep_sep', shares_eq, shares_eq, p1_eq]

theorem st0_eq (d : Dev nD) : (bigSep Finset.univ fun c : Fin ((K (F := F)).nCore 0) => (P m).st 0 d c)
    = iprop((uLoc d ↦{fullShare} m (uLoc d)) ∗ (tLoc d ↦{fullShare} m (tLoc d)) ∗ (p0Loc d ↦{fullShare} m (p0Loc d)) ∗ qAll m d (m (qLoc d))) :=
  (cores_eq 0 (fun w => goT0 m d w (m (p0Loc d)) (m (qLoc d)))).trans (go0_eq m d _ _)
theorem dn0_eq (d : Dev nD) : (bigSep Finset.univ fun c : Fin ((K (F := F)).nCore 0) => (P m).dn 0 d c)
    = iprop((uLoc d ↦{fullShare} m (uLoc d)) ∗ (tLoc d ↦{fullShare} m (tLoc d)) ∗ (p0Loc d ↦{fullShare} p0V m d) ∗ qAll m d (qV m d)) :=
  (cores_eq 0 (fun w => goT0 m d w (p0V m d) (qV m d))).trans (go0_eq m d _ _)
theorem st1_eq (d : Dev nD) : (bigSep Finset.univ fun c : Fin ((K (F := F)).nCore 1) => (P m).st 1 d c)
    = iprop((uLoc d ↦{fullShare} m (uLoc d)) ∗ (tLoc d ↦{fullShare} m (tLoc d)) ∗ (p1Loc d ↦{fullShare} m (p1Loc d))) :=
  (cores_eq 1 (fun w => goT1 m d w (m (p1Loc d)))).trans (go1_eq m d _)
theorem dn1_eq (d : Dev nD) : (bigSep Finset.univ fun c : Fin ((K (F := F)).nCore 1) => (P m).dn 1 d c)
    = iprop((uLoc d ↦{fullShare} m (uLoc d)) ∗ (tLoc d ↦{fullShare} m (tLoc d)) ∗ (p1Loc d ↦{fullShare} p1V m d)) :=
  (cores_eq 1 (fun w => goT1 m d w (p1V m d))).trans (go1_eq m d _)

/-! ## The unscoped buffers, and the valuations between the calls -/

abbrev Vals : Type := (c : Dev nD) → (b : Ref sig .tc) → Buf (Elt F) ((c : Thread nD τ).loc b)

/-- At launch. -/
def V1 : Vals (F := F) := fun d b => m ((d : Thread nD τ).loc b)
/-- After the two SparseCore calls. -/
def V2 : Vals (F := F) := fun d =>
  Function.update (Function.update (Function.update (V1 m d) main_v0_0 (p0V m d)) main_v0_1 (qV m d)) main_v1 (p1V m d)
/-- After the first TensorCore call. -/
def V3 : Vals (F := F) := fun d =>
  Function.update (Function.update (Function.update (V2 m d) main_v2_0 (Region2.out0 (V2 m) 16 d)) main_v2_1 (Region2.out1 (V2 m) 16 d)) main_v2_2 (Region2.out2 (V2 m) 16 d)
/-- After the second. -/
def V4 : Vals (F := F) := fun d => Function.update (V3 m d) main_v3 (Region3.out0 (V3 m) 16 d)

theorem unscopedBufs_eq (d : Dev nD) (W : (b : Ref sig .tc) → Buf (Elt F) ((d : Thread nD τ).loc b)) :
    (unscopedBufs d W : sProp 𝕄) = iprop(((d : Thread nD τ).loc main_arg0 ↦{fullShare} W main_arg0) ∗ ((d : Thread nD τ).loc main_arg1 ↦{fullShare} W main_arg1) ∗ ((d : Thread nD τ).loc main_arg2 ↦{fullShare} W main_arg2) ∗ ((d : Thread nD τ).loc main_arg3 ↦{fullShare} W main_arg3) ∗ ((d : Thread nD τ).loc main_arg4 ↦{fullShare} W main_arg4) ∗ ((d : Thread nD τ).loc main_arg5 ↦{fullShare} W main_arg5) ∗ ((d : Thread nD τ).loc main_arg6 ↦{fullShare} W main_arg6) ∗ ((d : Thread nD τ).loc main_arg7 ↦{fullShare} W main_arg7) ∗ ((d : Thread nD τ).loc main_arg8 ↦{fullShare} W main_arg8) ∗ ((d : Thread nD τ).loc main_arg9 ↦{fullShare} W main_arg9) ∗ ((d : Thread nD τ).loc main_arg10 ↦{fullShare} W main_arg10) ∗ ((d : Thread nD τ).loc main_arg11 ↦{fullShare} W main_arg11) ∗ ((d : Thread nD τ).loc main_arg12 ↦{fullShare} W main_arg12) ∗ ((d : Thread nD τ).loc main_arg13 ↦{fullShare} W main_arg13) ∗ ((d : Thread nD τ).loc main_arg14 ↦{fullShare} W main_arg14) ∗ ((d : Thread nD τ).loc main_arg15 ↦{fullShare} W main_arg15) ∗ ((d : Thread nD τ).loc main_arg16 ↦{fullShare} W main_arg16) ∗ ((d : Thread nD τ).loc main_v0_0 ↦{fullShare} W main_v0_0) ∗ ((d : Thread nD τ).loc main_v0_1 ↦{fullShare} W main_v0_1) ∗ ((d : Thread nD τ).loc main_v1 ↦{fullShare} W main_v1) ∗ ((d : Thread nD τ).loc main_v2_0 ↦{fullShare} W main_v2_0) ∗ ((d : Thread nD τ).loc main_v2_1 ↦{fullShare} W main_v2_1) ∗ ((d : Thread nD τ).loc main_v2_2 ↦{fullShare} W main_v2_2) ∗ ((d : Thread nD τ).loc main_v3 ↦{fullShare} W main_v3)) := by
  unfold unscopedBufs
  rw [show (Finset.univ.filter fun b : Ref sig .tc => ¬ b.isScoped) = {main_arg0, main_arg1, main_arg2, main_arg3, main_arg4, main_arg5, main_arg6, main_arg7, main_arg8, main_arg9, main_arg10, main_arg11, main_arg12, main_arg13, main_arg14, main_arg15, main_arg16, main_v0_0, main_v0_1, main_v1, main_v2_0, main_v2_1, main_v2_2, main_v3} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem V2_main_arg0 (d : Dev nD) : V2 m d main_arg0 = m ((d : Thread nD τ).loc main_arg0) := rfl
theorem V2_main_arg1 (d : Dev nD) : V2 m d main_arg1 = m ((d : Thread nD τ).loc main_arg1) := rfl
theorem V2_main_arg2 (d : Dev nD) : V2 m d main_arg2 = m ((d : Thread nD τ).loc main_arg2) := rfl
theorem V2_main_arg3 (d : Dev nD) : V2 m d main_arg3 = m ((d : Thread nD τ).loc main_arg3) := rfl
theorem V2_main_arg4 (d : Dev nD) : V2 m d main_arg4 = m ((d : Thread nD τ).loc main_arg4) := rfl
theorem V2_main_arg5 (d : Dev nD) : V2 m d main_arg5 = m ((d : Thread nD τ).loc main_arg5) := rfl
theorem V2_main_arg6 (d : Dev nD) : V2 m d main_arg6 = m ((d : Thread nD τ).loc main_arg6) := rfl
theorem V2_main_arg7 (d : Dev nD) : V2 m d main_arg7 = m ((d : Thread nD τ).loc main_arg7) := rfl
theorem V2_main_arg8 (d : Dev nD) : V2 m d main_arg8 = m ((d : Thread nD τ).loc main_arg8) := rfl
theorem V2_main_arg9 (d : Dev nD) : V2 m d main_arg9 = m ((d : Thread nD τ).loc main_arg9) := rfl
theorem V2_main_arg10 (d : Dev nD) : V2 m d main_arg10 = m ((d : Thread nD τ).loc main_arg10) := rfl
theorem V2_main_arg11 (d : Dev nD) : V2 m d main_arg11 = m ((d : Thread nD τ).loc main_arg11) := rfl
theorem V2_main_arg12 (d : Dev nD) : V2 m d main_arg12 = m ((d : Thread nD τ).loc main_arg12) := rfl
theorem V2_main_arg13 (d : Dev nD) : V2 m d main_arg13 = m ((d : Thread nD τ).loc main_arg13) := rfl
theorem V2_main_arg14 (d : Dev nD) : V2 m d main_arg14 = m ((d : Thread nD τ).loc main_arg14) := rfl
theorem V2_main_arg15 (d : Dev nD) : V2 m d main_arg15 = m ((d : Thread nD τ).loc main_arg15) := rfl
theorem V2_main_arg16 (d : Dev nD) : V2 m d main_arg16 = m ((d : Thread nD τ).loc main_arg16) := rfl
theorem V2_main_v0_0 (d : Dev nD) : V2 m d main_v0_0 = p0V m d := rfl
theorem V2_main_v0_1 (d : Dev nD) : V2 m d main_v0_1 = qV m d := rfl
theorem V2_main_v1 (d : Dev nD) : V2 m d main_v1 = p1V m d := rfl
theorem V2_main_v2_0 (d : Dev nD) : V2 m d main_v2_0 = m ((d : Thread nD τ).loc main_v2_0) := rfl
theorem V2_main_v2_1 (d : Dev nD) : V2 m d main_v2_1 = m ((d : Thread nD τ).loc main_v2_1) := rfl
theorem V2_main_v2_2 (d : Dev nD) : V2 m d main_v2_2 = m ((d : Thread nD τ).loc main_v2_2) := rfl
theorem V2_main_v3 (d : Dev nD) : V2 m d main_v3 = m ((d : Thread nD τ).loc main_v3) := rfl

set_option maxHeartbeats 4000000 in
theorem unscoped2 (d : Dev nD) : (iprop(((d : Thread nD τ).loc main_arg0 ↦{fullShare} m ((d : Thread nD τ).loc main_arg0)) ∗ ((d : Thread nD τ).loc main_arg1 ↦{fullShare} m ((d : Thread nD τ).loc main_arg1)) ∗ ((d : Thread nD τ).loc main_arg2 ↦{fullShare} m ((d : Thread nD τ).loc main_arg2)) ∗ ((d : Thread nD τ).loc main_arg3 ↦{fullShare} m ((d : Thread nD τ).loc main_arg3)) ∗ ((d : Thread nD τ).loc main_arg4 ↦{fullShare} m ((d : Thread nD τ).loc main_arg4)) ∗ ((d : Thread nD τ).loc main_arg5 ↦{fullShare} m ((d : Thread nD τ).loc main_arg5)) ∗ ((d : Thread nD τ).loc main_arg6 ↦{fullShare} m ((d : Thread nD τ).loc main_arg6)) ∗ ((d : Thread nD τ).loc main_arg7 ↦{fullShare} m ((d : Thread nD τ).loc main_arg7)) ∗ ((d : Thread nD τ).loc main_arg8 ↦{fullShare} m ((d : Thread nD τ).loc main_arg8)) ∗ ((d : Thread nD τ).loc main_arg9 ↦{fullShare} m ((d : Thread nD τ).loc main_arg9)) ∗ ((d : Thread nD τ).loc main_arg10 ↦{fullShare} m ((d : Thread nD τ).loc main_arg10)) ∗ ((d : Thread nD τ).loc main_arg11 ↦{fullShare} m ((d : Thread nD τ).loc main_arg11)) ∗ ((d : Thread nD τ).loc main_arg12 ↦{fullShare} m ((d : Thread nD τ).loc main_arg12)) ∗ ((d : Thread nD τ).loc main_arg13 ↦{fullShare} m ((d : Thread nD τ).loc main_arg13)) ∗ ((d : Thread nD τ).loc main_arg14 ↦{fullShare} m ((d : Thread nD τ).loc main_arg14)) ∗ ((d : Thread nD τ).loc main_arg15 ↦{fullShare} m ((d : Thread nD τ).loc main_arg15)) ∗ ((d : Thread nD τ).loc main_arg16 ↦{fullShare} m ((d : Thread nD τ).loc main_arg16)) ∗ ((d : Thread nD τ).loc main_v0_0 ↦{fullShare} p0V m d) ∗ ((d : Thread nD τ).loc main_v0_1 ↦{fullShare} qV m d) ∗ ((d : Thread nD τ).loc main_v1 ↦{fullShare} p1V m d) ∗ ((d : Thread nD τ).loc main_v2_0 ↦{fullShare} m ((d : Thread nD τ).loc main_v2_0)) ∗ ((d : Thread nD τ).loc main_v2_1 ↦{fullShare} m ((d : Thread nD τ).loc main_v2_1)) ∗ ((d : Thread nD τ).loc main_v2_2 ↦{fullShare} m ((d : Thread nD τ).loc main_v2_2)) ∗ ((d : Thread nD τ).loc main_v3 ↦{fullShare} m ((d : Thread nD τ).loc main_v3))) : sProp 𝕄)
    ⊢ unscopedBufs d (V2 m d) := by
  rw [unscopedBufs_eq]
  exact BI.Entails.refl _

/-! ## The launch element of the ghost state -/

abbrev pcells := Pipeline.cells (nD := nD) (τ := τ) cfgs cellOf_inj
abbrev ptoks := Pipeline.launchToks (nD := nD) (τ := τ) cfgs cellOf_inj

def u₀ : UU := (initOf (K (F := F)).hsCells (K (F := F)).hsToks, (initOf pcells ptoks, 1))

/-- What the launch gives a TensorCore for its two pipelines. -/
def G (d : Dev nD) : sProp 𝕄 :=
  iprop((bigSep Finset.univ fun p : Fin 2 => Pipeline.cellsGhost cfgs EP p d) ∗ (bigSep Finset.univ fun p : Fin 2 => Pipeline.toksInit cfgs EP p d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks) ((initOf pcells ptoks, 1) : UP × Counters)) $$ Hu
  icases H with ⟨HH, HP⟩
  ihave HP' := (own_pair_emb (embR (A := UH) (B := UP × Counters)) (initOf pcells ptoks) (1 : Counters)) $$ HP
  icases HP' with ⟨HP, -⟩
  ihave HG := (Pipeline.fund_ghost (nD := nD) (τ := τ) cfgs (EP (F := F)) cellOf_inj) $$ HP
  imod HG with ⟨HG1, HG2⟩
  imodintro
  isplitl [HH]; · iexact HH
  isplitl [HG1 HG2]
  · unfold G
    rw [bigSep_sep']
    isplitl [HG1] <;> iassumption
  rw [show (bigSep Finset.univ fun thr : Thread nD τ => bigSep Finset.univ fun q : Fin 2 => (P (F := F) m).x q thr) = bigSep Finset.univ fun _ => iprop(emp) from
    bigSep_congr fun _ _ => bigSep_emp_const _, bigSep_emp']
  iempintro

/-! ## @main on the TensorCore -/

/-- A TensorCore call of `@main`, by its region. -/
theorem region_call {p : Fin 2} {pd : (p : Fin 2) → (c : Dev nD) → Pipeline.Dat τ (Elt F) (HIx 2) ℕ UU ℕ (Pipeline.pin (pcfgs (F := F)) Region2.adm p) c}
    (R : Pipeline.RegionSeg (pcfgs (F := F)) Region2.adm pd none defs₀ 𝒱₀ (K (F := F)).L (K (F := F)).lev p) (d : Dev nD) (Φ : PUnit → sProp 𝕄) :
    iprop((iprop(boundary (SparseCore.T d) ∗ R.post d) -∗ Φ ⟨⟩) ∗ boundary (SparseCore.T d) ∗ R.pre d ∗ levAts (K (F := F)).L (K (F := F)).lev
        ∗ Pipeline.cellsGhost cfgs EP p d ∗ Pipeline.toksInit cfgs EP p d)
      ⊢ wp frame (wpE ((K (F := F)).defs (D (F := F))) 𝒱 (SparseCore.T d) none) Set.univ
          (Prog.lift (.customCall (SparseCore.inner (Pipeline.entry p)) ())) Φ := by
  refine BIBase.Entails.trans ?_ ((K (F := F)).wp_liftProg (D (F := F)) 𝒱 (SparseCore.T d) Set.univ none (.op (.customCall (Pipeline.entry p) ()) .ret) Φ)
  refine BIBase.Entails.trans ?_ (Pipeline.RegionSeg.wp (pcfgs (F := F)) Region2.adm pd none cellOf_inj EP defs₀ 𝒱₀ (K (F := F)).L (K (F := F)).lev R d none (fun _ h => nomatch h) .ret Φ)
  iintro ⟨Hk, Hb, Hpre, Hlev, Hg, Ht⟩
  isplitl [Hk]
  · iintro H
    rw [wp_ret]
    imodintro
    iapply Hk; iexact H
  isplitl [Hb]; · iexact Hb
  isplitl [Hpre]; · iexact Hpre
  isplitl [Hlev]; · iexact Hlev
  isplitl [Hg] <;> iassumption

theorem V3_ne (d : Dev nD) (b : Ref sig .tc) (h0 : b ≠ main_v2_0) (h1 : b ≠ main_v2_1) (h2 : b ≠ main_v2_2) : V3 m d b = V2 m d b := by
  unfold V3; rw [Function.update_of_ne h2, Function.update_of_ne h1, Function.update_of_ne h0]
theorem V4_ne (d : Dev nD) (b : Ref sig .tc) (h : b ≠ main_v3) : V4 m d b = V3 m d b := by
  unfold V4; rw [Function.update_of_ne h]

def reg2 := Region2.reg (V2 m) 16 (V3 m) (fun _ => rfl) (fun _ => rfl) (fun _ => rfl) (V3_ne m)
def reg3 := Region3.reg (V3 m) 16 (V4 m) (fun _ => rfl) (V4_ne m)

theorem reg2_pre (d : Dev nD) : (reg2 m).pre d = (iprop(unscopedBufs d (V2 m d) ∗ ∃ W, ⌜(K (F := F)).WBelow (d : Thread nD τ) W 16⌝ ∗ owes (d : Thread nD τ) (0 : CellTallies nD τ sig (HIx 2)) W) : sProp 𝕄) := rfl
theorem reg2_post (d : Dev nD) : (reg2 m).post d = (iprop(unscopedBufs d (V3 m d) ∗ ∃ W, ⌜(K (F := F)).WBelow (d : Thread nD τ) W 16⌝ ∗ owes (d : Thread nD τ) (0 : CellTallies nD τ sig (HIx 2)) W) : sProp 𝕄) := rfl
theorem reg3_pre (d : Dev nD) : (reg3 m).pre d = (iprop(unscopedBufs d (V3 m d) ∗ ∃ W, ⌜(K (F := F)).WBelow (d : Thread nD τ) W 16⌝ ∗ owes (d : Thread nD τ) (0 : CellTallies nD τ sig (HIx 2)) W) : sProp 𝕄) := rfl
theorem reg3_post (d : Dev nD) : (reg3 m).post d = (iprop(unscopedBufs d (V4 m d) ∗ ∃ W, ⌜(K (F := F)).WBelow (d : Thread nD τ) W 16⌝ ∗ owes (d : Thread nD τ) (0 : CellTallies nD τ sig (HIx 2)) W) : sProp 𝕄) := rfl

abbrev FIN (d : Dev nD) : sProp 𝕄 := unscopedBufs d (V4 m d)

set_option maxHeartbeats 4000000 in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨a0, a1, a2, a3, a4, a5, a6, a7, a8, a9, a10, a11, a12, a13, a14, a15, a16, v0_0, v0_1, v1, v2_0, v2_1, v2_2, v3⟩, Hts, -⟩, HG⟩
  iapply ((K (F := F)).wp_run (D (F := F)) 𝒱 (EH := EH) (P := P m) κ d 0)
  isplitr; · iexact Hctx
  isplitl [Hst]; · iexact Hst
  isplitl [a0 a1 a4 a5 v0_0 v0_1]
  · rw [st0_eq]
    isplitl [a1]; · iexact a1
    isplitl [a4]; · iexact a4
    isplitl [v0_0]; · iexact v0_0
    isplitl [a0]; · iexact a0
    isplitl [a5]; · iexact a5
    iexact v0_1
  iintro ⟨Hst, Hdn⟩
  ihave Hdn' := (Entails.of_eq (dn0_eq m d)) $$ Hdn
  icases Hdn' with ⟨a1, a4, v0_0, a0, a5, v0_1⟩
  iapply ((K (F := F)).wp_run (D (F := F)) 𝒱 (EH := EH) (P := P m) κ d 1)
  isplitr; · iexact Hctx
  isplitl [Hst]; · iexact Hst
  isplitl [a1 a4 v1]
  · rw [st1_eq]
    isplitl [a1]; · iexact a1
    isplitl [a4]; · iexact a4
    iexact v1
  iintro ⟨Hst, Hdn⟩
  ihave Hdn' := (Entails.of_eq (dn1_eq m d)) $$ Hdn
  icases Hdn' with ⟨a1, a4, v1⟩
  ihave Hub := (unscoped2 m d) $$ [a0 a1 a2 a3 a4 a5 a6 a7 a8 a9 a10 a11 a12 a13 a14 a15 a16 v0_0 v0_1 v1 v2_0 v2_1 v2_2 v3]
  · isplitl [a0]; · iexact a0
    isplitl [a1]; · iexact a1
    isplitl [a2]; · iexact a2
    isplitl [a3]; · iexact a3
    isplitl [a4]; · iexact a4
    isplitl [a5]; · iexact a5
    isplitl [a6]; · iexact a6
    isplitl [a7]; · iexact a7
    isplitl [a8]; · iexact a8
    isplitl [a9]; · iexact a9
    isplitl [a10]; · iexact a10
    isplitl [a11]; · iexact a11
    isplitl [a12]; · iexact a12
    isplitl [a13]; · iexact a13
    isplitl [a14]; · iexact a14
    isplitl [a15]; · iexact a15
    isplitl [a16]; · iexact a16
    isplitl [v0_0]; · iexact v0_0
    isplitl [v0_1]; · iexact v0_1
    isplitl [v1]; · iexact v1
    isplitl [v2_0]; · iexact v2_0
    isplitl [v2_1]; · iexact v2_1
    isplitl [v2_2]; · iexact v2_2
    iexact v3
  unfold G
  rw [show (Finset.univ : Finset (Fin 2)) = {0, 1} from rfl, SparseCore.bigSep_insert' (by decide), bigSep_singleton, SparseCore.bigSep_insert' (by decide), bigSep_singleton]
  icases HG with ⟨⟨Hg0, Hg1⟩, ⟨Ht0, Ht1⟩⟩
  ihave Hlev := ((K (F := F)).ctx_levAts (EH := EH) (P := P m) κ) $$ Hctx
  unfold SparseCore.Cfg.tcSt
  icases Hst with ⟨⟨%W, %hW, HO⟩, Hst⟩
  rw [show (K (F := F)).Otc (N := 2) d ((1 : Fin 2).val + 1) = 0 from (K (F := F)).Otc_end d le_rfl]
  iapply (region_call (reg2 m) d)
  rw [reg2_pre, reg2_post]
  isplitr [Hb Hub HO Hg0 Ht0]
  swap
  · isplitl [Hb]; · iexact Hb
    isplitl [Hub HO]
    · isplitl [Hub]; · iexact Hub
      iexists W; isplitr; · ipureintro; exact hW
      iexact HO
    isplitr; · iexact Hlev
    isplitl [Hg0] <;> iassumption
  iintro ⟨Hb, Hub, HO⟩
  iapply (region_call (reg3 m) d)
  rw [reg3_pre, reg3_post]
  isplitr [Hb Hub HO Hg1 Ht1]
  swap
  · isplitl [Hb]; · iexact Hb
    isplitl [Hub HO]
    · isplitl [Hub]; · iexact Hub
      iexact HO
    isplitr; · iexact Hlev
    isplitl [Hg1] <;> iassumption
  iintro ⟨Hb, Hub, ⟨%W', %hW', HO⟩⟩
  imodintro
  rw [show (K (F := F)).Otc (N := 2) d 2 = 0 from (K (F := F)).Otc_end d le_rfl]
  isplitl [HO Hst]
  · isplitl [HO]
    · iexists W'; isplitr; · ipureintro; exact hW'
      iexact HO
    iexact Hst
  isplitl [Hub]; · iexact Hub
  isplitl [Hb] <;> iassumption

def fq (d : Dev nD) (s' : Phys nD τ sig (Elt F)) : Prop := ∀ b : Ref sig .tc, b.isScoped = false → s'.mem.mem ((d : Thread nD τ).loc b) = V4 m d b

theorem hfin (d : Dev nD) (s' : Phys nD τ sig (Elt F)) : iprop(FIN m d ∗ SI s') ⊢ (⌜fq m d s'⌝ : sProp 𝕄) := by
  have hone (b : Ref sig .tc) (hb : b.isScoped = false) : iprop(FIN m d ∗ SI s') ⊢ (⌜s'.mem.mem ((d : Thread nD τ).loc b) = V4 m d b⌝ : sProp 𝕄) := by
    have hmem : b ∈ (Finset.univ.filter fun b : Ref sig .tc => ¬ b.isScoped) := Finset.mem_filter.mpr ⟨Finset.mem_univ _, by simp [hb]⟩
    have hel : (unscopedBufs d (V4 m d) : sProp 𝕄) ⊢ ((d : Thread nD τ).loc b ↦{fullShare} V4 m d b) :=
      bigSep_elim (Φ := fun b : Ref sig .tc => ((d : Thread nD τ).loc b ↦{fullShare} V4 m d b : sProp 𝕄)) hmem
    iintro ⟨H, HSI⟩
    ihave H := hel $$ H
    ihave H := (SI_pointsTo_agree (st := s') (ℓ := (d : Thread nD τ).loc b) (I := Finset.univ) (q := fullShare) (f := V4 m d b)) $$ [HSI H]
    · isplitl [HSI] <;> iassumption
    icases H with %h
    ipureintro; exact funext fun i => h i (Finset.mem_univ i)
  by_cases hall : fq m d s'
  · iintro -; ipureintro; exact hall
  · unfold fq at hall
    push Not at hall
    obtain ⟨b, hb, hne⟩ := hall
    exact (hone b hb).trans (BI.pure_mono fun h => absurd h hne)

/-- What a run ends with: the result at `V4`'s contents, the arguments as launched, every counter zero. -/
def QC : PUnit × MemSt nD τ sig (Elt F) → Prop := fun r =>
  (∀ (d : Dev nD) (b : Ref sig .tc), b.isScoped = false → r.2.mem ((d : Thread nD τ).loc b) = V4 m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts hpre | 1 => tileObl1 m facts hpre)
    (fun q _ => SparseCore.Cfg.VecSplit.of_plain (vecSplit m q))
    m ρ main (fun d => G (F := F) d) (FIN m) (u₀ (F := F)) (sep_elim_left.trans (hu₀ m)) (hmain m ρ) (fq m) (hfin m) (QC m) (fun _ h hz => ⟨h, hz⟩)

end Cert.Proof.Run

end
-- ==== Proof.Same.lean ====
/-
  The kernel and its reading over the ideal instance are one text, so at any float instance their bodies, tables and
  threads are the same.
-/
module

public import proofs.«01_k».proof.Kernel
public import proofs.«01_k».proof.KernelIdeal
public import proofs.«01_k».proof.Proof.Gen.Kernel
public import proofs.«01_k».proof.Proof.Gen.KernelIdeal

@[expose] public section

set_option maxHeartbeats 4000000

noncomputable section

namespace Cert.Proof.Same

open Idealize.ShloMosaic

variable {F : FTy → Type} [FloatOps F]

theorem gather0_eq : Cert.Kernel.cc0_gather_kernel (F := F) = Cert.KernelIdeal.cc0_gather_kernel (F := F) := rfl
theorem gather1_eq : Cert.Kernel.cc1_gather_kernel (F := F) = Cert.KernelIdeal.cc1_gather_kernel (F := F) := rfl
theorem body2_eq : Cert.Kernel.cc2__tc_body (F := F) = Cert.KernelIdeal.cc2__tc_body (F := F) := rfl
theorem body3_eq : Cert.Kernel.cc3__tc_body (F := F) = Cert.KernelIdeal.cc3__tc_body (F := F) := rfl

theorem table_eq : Cert.Kernel.defs₀ (F := F) = Cert.KernelIdeal.defs₀ (F := F) := by
  funext p l a
  match p, l, a with
  | .scVector c s, 0, _ => unfold Cert.Kernel.defs₀; rw [gather0_eq]; rfl
  | .scVector c s, 1, _ => unfold Cert.Kernel.defs₀; rw [gather1_eq]; rfl
  | .scVector c s, 2, _ => rfl
  | .scVector c s, 3, _ => rfl
  | .scScalar c, 0, _ => rfl
  | .scScalar c, 1, _ => rfl
  | .scScalar c, 2, _ => rfl
  | .scScalar c, 3, _ => rfl
  | .tc, 0, _ => rfl
  | .tc, 1, _ => rfl
  | .tc, 2, (t, s) => unfold Cert.Kernel.defs₀; rw [body2_eq]; rfl
  | .tc, 3, (t, s) => unfold Cert.Kernel.defs₀; rw [body3_eq]; rfl

theorem defs_eq : Cert.Kernel.defs (F := F) = Cert.KernelIdeal.defs (F := F) :=
  congrArg (fun D => (Cert.Kernel.sc (F := F)).defs (Pipeline.defs Cert.Kernel.pcfgs D)) table_eq

theorem threads_eq : Cert.Kernel.threads (F := F) = Cert.KernelIdeal.threads (F := F) := rfl

end Cert.Proof.Same

end
-- ==== Proof.Frames.lean ====
/-
  What the preconditions say of the launch memory, and the frames: each program runs to its end, its arguments unchanged
  and every counter back at zero.
-/
module

public import proofs.«01_k».proof.Defs
public import proofs.«01_k».proof.Proof.Main
public import proofs.«01_k».proof.Proof.Same
public import proofs.«01_k».proof.Proof.Gen.Kernel
public import proofs.«01_k».proof.Proof.Gen.ReferenceIdeal.Run
public import proofs.«01_k».proof.Proof.Gen.Pre_rows_in_range
public import Idealize.ShloMosaic.Lib.ReduceAll
public import Idealize.ShloMosaic.Lib.WordCmp
public import Idealize.ShloMosaic.Lib.Quiescent

@[expose] public section

noncomputable section

namespace Cert.Proof

open Idealize.ShloMosaic Idealize.ShloMosaic.TcCoe Idealize.SL.Sem

theorem zero_le_lt {k : ℕ} (hk : k < 2 ^ 31) (v : BitVec 32)
    (e : IntOp.andi (IntOp.cmpi .sge v 0#32) (IntOp.cmpi .slt v (BitVec.ofNat 32 k)) = 1#1) : v.toNat < k := by
  rw [WordCmp.andi_sge_zero_slt_ofNat hk] at e
  by_cases h : v.toNat < k
  · exact h
  · simp [h] at e

instance : Subsingleton Cert.Pre_rows_in_range.S_.Idx := ⟨fun _ _ => funext fun d => d.elim0⟩

theorem rows_of_pre {F : FTy → Type} [FloatOps F] {a0 a1 a2 a3 } {a4 a5 a6 a7 a8 a9 a10 a11 a12 a13 a14 a15 a16}
    (h : Cert.Pre_rows_in_range.fn (F := F) a0 a1 a2 a3 a4 a5 a6 a7 a8 a9 a10 a11 a12 a13 a14 a15 a16 = fun _ => 1#1) :
    (∀ j, (a0 j).toNat < 100000) ∧ ∀ j, (a1 j).toNat < 100000 := by
  have e := congrFun h (fun d => d.elim0)
  simp only [Cert.Pre_rows_in_range.fn] at e
  obtain ⟨e0, e1⟩ := IntOp.andi_eq_one.1 e
  exact ⟨fun j => zero_le_lt (by norm_num) _ (Host.reduce_andi_all _ _ _ _ _ e0 j), fun j => zero_le_lt (by norm_num) _ (Host.reduce_andi_all _ _ _ _ _ e1 j)⟩

theorem ok_kernel (m : (ℓ : Loc Cert.Kernel.nD Cert.Kernel.τ Cert.Kernel.sig) → Buf (Elt Bits) ℓ) (h : Cert.Pre_Kernel m) : Run.PreOK (F := Bits) m :=
  fun d => ⟨(rows_of_pre (h d)).2, (rows_of_pre (h d)).1⟩

theorem ok_ideal (m : (ℓ : Loc Cert.KernelIdeal.nD Cert.KernelIdeal.τ Cert.KernelIdeal.sig) → Buf (Elt Ideal) ℓ) (h : Cert.Pre_KernelIdeal m) : Run.PreOK (F := Ideal) m :=
  fun d => ⟨(rows_of_pre (h d)).2, (rows_of_pre (h d)).1⟩

section
open Cert.KernelIdeal

variable {F : FTy → Type} [FloatOps F] (m : (ℓ : Loc nD τ sig) → Buf (Elt F) ℓ)

theorem V4_arg0 (c : Dev nD) : Run.V4 m c main_arg0 = m ((c : Thread nD τ).loc main_arg0) := by
  rw [Run.V4_ne m c _ (by decide), Run.V3_ne m c _ (by decide) (by decide) (by decide), Run.V2_main_arg0]
theorem V4_arg1 (c : Dev nD) : Run.V4 m c main_arg1 = m ((c : Thread nD τ).loc main_arg1) := by
  rw [Run.V4_ne m c _ (by decide), Run.V3_ne m c _ (by decide) (by decide) (by decide), Run.V2_main_arg1]
theorem V4_arg2 (c : Dev nD) : Run.V4 m c main_arg2 = m ((c : Thread nD τ).loc main_arg2) := by
  rw [Run.V4_ne m c _ (by decide), Run.V3_ne m c _ (by decide) (by decide) (by decide), Run.V2_main_arg2]
theorem V4_arg3 (c : Dev nD) : Run.V4 m c main_arg3 = m ((c : Thread nD τ).loc main_arg3) := by
  rw [Run.V4_ne m c _ (by decide), Run.V3_ne m c _ (by decide) (by decide) (by decide), Run.V2_main_arg3]
theorem V4_arg4 (c : Dev nD) : Run.V4 m c main_arg4 = m ((c : Thread nD τ).loc main_arg4) := by
  rw [Run.V4_ne m c _ (by decide), Run.V3_ne m c _ (by decide) (by decide) (by decide), Run.V2_main_arg4]
theorem V4_arg5 (c : Dev nD) : Run.V4 m c main_arg5 = m ((c : Thread nD τ).loc main_arg5) := by
  rw [Run.V4_ne m c _ (by decide), Run.V3_ne m c _ (by decide) (by decide) (by decide), Run.V2_main_arg5]
theorem V4_arg6 (c : Dev nD) : Run.V4 m c main_arg6 = m ((c : Thread nD τ).loc main_arg6) := by
  rw [Run.V4_ne m c _ (by decide), Run.V3_ne m c _ (by decide) (by decide) (by decide), Run.V2_main_arg6]
theorem V4_arg7 (c : Dev nD) : Run.V4 m c main_arg7 = m ((c : Thread nD τ).loc main_arg7) := by
  rw [Run.V4_ne m c _ (by decide), Run.V3_ne m c _ (by decide) (by decide) (by decide), Run.V2_main_arg7]
theorem V4_arg8 (c : Dev nD) : Run.V4 m c main_arg8 = m ((c : Thread nD τ).loc main_arg8) := by
  rw [Run.V4_ne m c _ (by decide), Run.V3_ne m c _ (by decide) (by decide) (by decide), Run.V2_main_arg8]
theorem V4_arg9 (c : Dev nD) : Run.V4 m c main_arg9 = m ((c : Thread nD τ).loc main_arg9) := by
  rw [Run.V4_ne m c _ (by decide), Run.V3_ne m c _ (by decide) (by decide) (by decide), Run.V2_main_arg9]
theorem V4_arg10 (c : Dev nD) : Run.V4 m c main_arg10 = m ((c : Thread nD τ).loc main_arg10) := by
  rw [Run.V4_ne m c _ (by decide), Run.V3_ne m c _ (by decide) (by decide) (by decide), Run.V2_main_arg10]
theorem V4_arg11 (c : Dev nD) : Run.V4 m c main_arg11 = m ((c : Thread nD τ).loc main_arg11) := by
  rw [Run.V4_ne m c _ (by decide), Run.V3_ne m c _ (by decide) (by decide) (by decide), Run.V2_main_arg11]
theorem V4_arg12 (c : Dev nD) : Run.V4 m c main_arg12 = m ((c : Thread nD τ).loc main_arg12) := by
  rw [Run.V4_ne m c _ (by decide), Run.V3_ne m c _ (by decide) (by decide) (by decide), Run.V2_main_arg12]
theorem V4_arg13 (c : Dev nD) : Run.V4 m c main_arg13 = m ((c : Thread nD τ).loc main_arg13) := by
  rw [Run.V4_ne m c _ (by decide), Run.V3_ne m c _ (by decide) (by decide) (by decide), Run.V2_main_arg13]
theorem V4_arg14 (c : Dev nD) : Run.V4 m c main_arg14 = m ((c : Thread nD τ).loc main_arg14) := by
  rw [Run.V4_ne m c _ (by decide), Run.V3_ne m c _ (by decide) (by decide) (by decide), Run.V2_main_arg14]
theorem V4_arg15 (c : Dev nD) : Run.V4 m c main_arg15 = m ((c : Thread nD τ).loc main_arg15) := by
  rw [Run.V4_ne m c _ (by decide), Run.V3_ne m c _ (by decide) (by decide) (by decide), Run.V2_main_arg15]
theorem V4_arg16 (c : Dev nD) : Run.V4 m c main_arg16 = m ((c : Thread nD τ).loc main_arg16) := by
  rw [Run.V4_ne m c _ (by decide), Run.V3_ne m c _ (by decide) (by decide) (by decide), Run.V2_main_arg16]

theorem args_kept {r : PUnit × MemSt nD τ sig (Elt F)} (h : Run.QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(h.1 c main_arg0 rfl).trans (V4_arg0 m c), (h.1 c main_arg1 rfl).trans (V4_arg1 m c), (h.1 c main_arg2 rfl).trans (V4_arg2 m c), (h.1 c main_arg3 rfl).trans (V4_arg3 m c), (h.1 c main_arg4 rfl).trans (V4_arg4 m c), (h.1 c main_arg5 rfl).trans (V4_arg5 m c), (h.1 c main_arg6 rfl).trans (V4_arg6 m c), (h.1 c main_arg7 rfl).trans (V4_arg7 m c), (h.1 c main_arg8 rfl).trans (V4_arg8 m c), (h.1 c main_arg9 rfl).trans (V4_arg9 m c), (h.1 c main_arg10 rfl).trans (V4_arg10 m c), (h.1 c main_arg11 rfl).trans (V4_arg11 m c), (h.1 c main_arg12 rfl).trans (V4_arg12 m c), (h.1 c main_arg13 rfl).trans (V4_arg13 m c), (h.1 c main_arg14 rfl).trans (V4_arg14 m c), (h.1 c main_arg15 rfl).trans (V4_arg15 m c), (h.1 c main_arg16 rfl).trans (V4_arg16 m c)⟩

end

/-- A run of equal tables and threads. -/
theorem run_of_eq {nD : ℕ} {τ : Topo} {sig : RefSig} {Val : EltTy → Type} {Λ : Idealize.SL.Sem.Labels} {D D' : Defs nD τ sig Val Λ} (hD : D = D')
    {T T' : (c : Thread nD τ) → Prog (TpuEff nD τ sig Val Λ c.2) PUnit} (hT : T = T') (s : MemSt nD τ sig Val)
    (Q : PUnit × MemSt nD τ sig Val → Prop) (h : θ_run D' T' s Q) : θ_run D T s Q := by
  subst hD hT; exact h

set_option maxHeartbeats 4000000 in
theorem frame_kernel : Cert.quiescent_Kernel := by
  intro m ρ hpre
  have h := Run.run_main (F := Bits) m ρ (ok_kernel m hpre)
  have h2 := (θ_run (Cert.KernelIdeal.defs (F := Bits)) (Cert.KernelIdeal.threads (F := Bits)) ⟨m, fun _ => 0, ρ⟩).mono
    (fun _ h => (⟨fun c => args_kept (F := Bits) m h c, h.2⟩ : (∀ c : Dev Cert.KernelIdeal.nD, _) ∧ _)) h
  exact run_of_eq (Same.defs_eq (F := Bits)) (Same.threads_eq (F := Bits)) _ _ h2

theorem frame_ideal : Cert.quiescent_KernelIdeal := fun m ρ hpre =>
  (θ_run Cert.KernelIdeal.defs _ _).mono (fun _ h => ⟨fun c => args_kept (F := Ideal) m h c, h.2⟩) (Run.run_main (F := Ideal) m ρ (ok_ideal m hpre))

theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run (F := Ideal) m ρ)

end Cert.Proof

end
-- ==== Proof.Fine.lean ====
/-
  What the finiteness precondition says of the launch memory, and the frames under it.
-/
module

public import proofs.«01_k».proof.Defs
public import proofs.«01_k».proof.Proof.Frames
public import proofs.«01_k».proof.Proof.Gen.Pre_in_range_finite

@[expose] public section

noncomputable section

namespace Cert.Proof

open Idealize.ShloMosaic Idealize.ShloMosaic.TcCoe Idealize.SL.Sem

/-- An entry whose absolute value is below +∞ is a real number. -/
theorem real_of_abs_lt (x : Ideal .f32)
    (e : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  have e' : Ideal.cmp .olt (max (x : EReal) (-(x : EReal))) (Ideal.ofBits .f32 0x7F800000#32) = 1#1 := e
  rw [htop] at e'
  unfold Ideal.cmp at e'
  have hlt : max (x : EReal) (-(x : EReal)) < ⊤ := by
    by_contra hn
    simp [hn] at e'
  rw [max_lt_iff] at hlt
  refine ⟨(show EReal from x).toReal, (EReal.coe_toReal hlt.1.ne ?_).symm⟩
  intro hx
  have := hlt.2
  rw [hx] at this
  simp at this

def Real' {s : Shape} (x : FVec Ideal s .f32) : Prop := ∀ i, ∃ r : ℝ, x i = (r : EReal)

/-- What `in_range_finite` says of the seventeen arguments. -/
structure Fine (a0 : IVec Cert.Pre_in_range_finite.S16 32) (a1 a2 a3 : IVec Cert.Pre_in_range_finite.S16384 32)
    (a4 a5 : FVec Ideal Cert.Pre_in_range_finite.S100000x128 .f32) (a6 : FVec Ideal Cert.Pre_in_range_finite.S5x128 .f32)
    (a7 : FVec Ideal Cert.Pre_in_range_finite.S128x256 .f32) (a8 : FVec Ideal Cert.Pre_in_range_finite.S128 .f32)
    (a9 : FVec Ideal Cert.Pre_in_range_finite.S128x128 .f32) (a10 : FVec Ideal Cert.Pre_in_range_finite.S128 .f32)
    (a11 : FVec Ideal Cert.Pre_in_range_finite.S128x256 .f32) (a12 : FVec Ideal Cert.Pre_in_range_finite.S128 .f32)
    (a13 : FVec Ideal Cert.Pre_in_range_finite.S128x128 .f32) (a14 : FVec Ideal Cert.Pre_in_range_finite.S128 .f32)
    (a15 : FVec Ideal Cert.Pre_in_range_finite.S1x128 .f32) (a16 : FVec Ideal Cert.Pre_in_range_finite.S1 .f32) : Prop where
  h0 : ∀ j, (a0 j).toNat < 100000
  h1 : ∀ j, (a1 j).toNat < 100000
  h2 : ∀ j, (a2 j).toNat < 5
  h3 : ∀ j, (a3 j).toNat < 16
  h4 : Real' a4
  h5 : Real' a5
  h6 : Real' a6
  h7 : Real' a7
  h8 : Real' a8
  h9 : Real' a9
  h10 : Real' a10
  h11 : Real' a11
  h12 : Real' a12
  h13 : Real' a13
  h14 : Real' a14
  h15 : Real' a15
  h16 : Real' a16

instance : Subsingleton Cert.Pre_in_range_finite.S_.Idx := ⟨fun _ _ => funext fun d => d.elim0⟩

set_option maxHeartbeats 4000000 in
theorem fine_of_pre {a0 a1 a2 a3 } {a4 a5 a6 a7 a8 a9 a10 a11 a12 a13 a14 a15 a16}
    (h : Cert.Pre_in_range_finite.fn (F := Ideal) a0 a1 a2 a3 a4 a5 a6 a7 a8 a9 a10 a11 a12 a13 a14 a15 a16 = fun _ => 1#1) : Fine a0 a1 a2 a3 a4 a5 a6 a7 a8 a9 a10 a11 a12 a13 a14 a15 a16 := by
  have e := congrFun h (fun d => d.elim0)
  simp only [Cert.Pre_in_range_finite.fn, Cert.Pre_in_range_finite.fn_part1, Cert.Pre_in_range_finite.fn_part2, Cert.Pre_in_range_finite.fn_part3, Cert.Pre_in_range_finite.fn_part4, Cert.Pre_in_range_finite.fn_part5] at e
  obtain ⟨e, e16⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  exact ⟨fun j => zero_le_lt (by norm_num) _ (Host.reduce_andi_all _ _ _ _ _ e j), fun j => zero_le_lt (by norm_num) _ (Host.reduce_andi_all _ _ _ _ _ e1 j), fun j => zero_le_lt (by norm_num) _ (Host.reduce_andi_all _ _ _ _ _ e2 j), fun j => zero_le_lt (by norm_num) _ (Host.reduce_andi_all _ _ _ _ _ e3 j), fun j => real_of_abs_lt _ (Host.reduce_andi_all _ _ _ _ _ e4 j), fun j => real_of_abs_lt _ (Host.reduce_andi_all _ _ _ _ _ e5 j), fun j => real_of_abs_lt _ (Host.reduce_andi_all _ _ _ _ _ e6 j), fun j => real_of_abs_lt _ (Host.reduce_andi_all _ _ _ _ _ e7 j), fun j => real_of_abs_lt _ (Host.reduce_andi_all _ _ _ _ _ e8 j), fun j => real_of_abs_lt _ (Host.reduce_andi_all _ _ _ _ _ e9 j), fun j => real_of_abs_lt _ (Host.reduce_andi_all _ _ _ _ _ e10 j), fun j => real_of_abs_lt _ (Host.reduce_andi_all _ _ _ _ _ e11 j), fun j => real_of_abs_lt _ (Host.reduce_andi_all _ _ _ _ _ e12 j), fun j => real_of_abs_lt _ (Host.reduce_andi_all _ _ _ _ _ e13 j), fun j => real_of_abs_lt _ (Host.reduce_andi_all _ _ _ _ _ e14 j), fun j => real_of_abs_lt _ (Host.reduce_andi_all _ _ _ _ _ e15 j), fun j => real_of_abs_lt _ (Host.reduce_andi_all _ _ _ _ _ e16 j)⟩

/-- The precondition of the frames, read at the index words. -/
theorem ok_fine (m : (ℓ : Loc Cert.KernelIdeal.nD Cert.KernelIdeal.τ Cert.KernelIdeal.sig) → Buf (Elt Ideal) ℓ) (h : Cert.Pre_KernelIdeal_in_range_finite m) : Run.PreOK (F := Ideal) m :=
  fun d => ⟨(fine_of_pre (h d)).h1, (fine_of_pre (h d)).h0⟩

theorem frame_ideal_fine : Cert.quiescent_KernelIdeal_pre_in_range_finite := fun m ρ hpre =>
  (θ_run Cert.KernelIdeal.defs _ _).mono (fun _ h => ⟨fun c => args_kept (F := Ideal) m h c, h.2⟩) (Run.run_main (F := Ideal) m ρ (ok_fine m hpre))

theorem frame_reference_fine : Cert.quiescent_ReferenceIdeal_pre_in_range_finite := fun m ρ _ =>
  (θ_run Cert.ReferenceIdeal.defs _ _).mono (fun _ h => ⟨fun c => (h c).2, sem_eq_zero_of_no_sems (by decide) _⟩) (Cert.ReferenceIdeal.Value.run (F := Ideal) m ρ)

end Cert.Proof

end
-- ==== Proof.Ops.lean ====
/-
  The operations of the two programs at arrays of real numbers: an array whose entries are real gives an array whose
  entries are real, and which ones.
-/
module

public import Idealize.ShloMosaic.PureOps
public import Idealize.ShloMosaic.PureOps.Ideal.Laws
public import Idealize.ShloMosaic.Lib.ValueIdx
public import Idealize.ShloMosaic.Lib.Pipeline.Value
public import Idealize.ShloMosaic.Lib.ReduceAll
public import Idealize.ShloMosaic.Lib.WordCmp

@[expose] public section

noncomputable section

namespace Cert.Proof.Ops

open Idealize.ShloMosaic Idealize.ShloMosaic.ValueIdx
open scoped BigOperators

/-- A rank-2 array holds the real numbers `X`. -/
def Is2 {M K : ℕ} (x : (⟨2, ![M, K]⟩ : Shape).Idx → EReal) (X : Fin M → Fin K → ℝ) : Prop :=
  ∀ i k, x (ix2 i k) = (X i k : EReal)
/-- A rank-1 array holds the real numbers `X`. -/
def Is1 {M : ℕ} (x : (⟨1, ![M]⟩ : Shape).Idx → EReal) (X : Fin M → ℝ) : Prop :=
  ∀ i, x (ix1 i) = (X i : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (a b : ℝ) : ((max a b : ℝ) : EReal) = max (a : EReal) b :=
  EReal.coe_strictMono.monotone.map_max

theorem exp_coe (a : ℝ) : Ideal.exp (a : EReal) = (Real.exp a : EReal) := rfl

theorem div_coe (a b : ℝ) (hb : b ≠ 0) : Ideal.div (a : EReal) (b : EReal) = ((a / b : ℝ) : EReal) := by
  have hb' : (b : EReal) ≠ 0 := fun h => hb (EReal.coe_eq_zero.mp h)
  unfold Ideal.div
  rw [if_neg hb', ← EReal.coe_inv, ← EReal.coe_mul, div_eq_mul_inv]

section Dots
variable {M K N : ℕ}

/-- Rows by columns. -/
abbrev nn (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf
/-- Rows by rows. -/
abbrev nt (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf
/-- Columns by columns. -/
abbrev tn (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- A sum over a contraction of one axis, of real products. -/
theorem contr_sum {sl sr so : Shape} (D : DotDims sl sr so) (n : ℕ) (hr : D.contr.rank = 1)
    (hs : D.contr.size ⟨0, by omega⟩ = n) (f : D.contr.Idx → EReal) (G : Fin n → ℝ)
    (hf : ∀ q, f q = (G (contrEquiv1 D n hr hs q) : EReal)) : ∑ q, f q = ((∑ k, G k : ℝ) : EReal) := by
  rw [coe_sum, ← Equiv.sum_comp (contrEquiv1 D n hr hs)]
  exact Finset.sum_congr rfl fun q _ => hf q

theorem sum_nn (wf) (l : (⟨2, ![M, K]⟩ : Shape).Idx → EReal) (r : (⟨2, ![K, N]⟩ : Shape).Idx → EReal)
    {L : Fin M → Fin K → ℝ} {R : Fin K → Fin N → ℝ} (hl : Is2 l L) (hr : Is2 r R) (i : Fin M) (j : Fin N) :
    (∑ k : (nn M K N wf).contr.Idx, l ((nn M K N wf).lhsIdx (ix2 i j) k) * r ((nn M K N wf).rhsIdx (ix2 i j) k))
      = ((∑ k, L i k * R k j : ℝ) : EReal) := by
  refine contr_sum (nn M K N wf) K rfl rfl _ _ fun q => ?_
  have h1 : (nn M K N wf).lhsIdx (ix2 i j) q = ix2 i (contrEquiv1 (nn M K N wf) K rfl rfl q) := by
    funext a; refine Fin.ext ?_
    match a with
    | ⟨0, _⟩ => rfl
    | ⟨1, _⟩ => rfl
  have h2 : (nn M K N wf).rhsIdx (ix2 i j) q = ix2 (contrEquiv1 (nn M K N wf) K rfl rfl q) j := by
    funext a; refine Fin.ext ?_
    match a with
    | ⟨0, _⟩ => rfl
    | ⟨1, _⟩ => rfl
  rw [h1, h2, hl, hr, ← EReal.coe_mul]

theorem sum_nt (wf) (l : (⟨2, ![M, K]⟩ : Shape).Idx → EReal) (r : (⟨2, ![N, K]⟩ : Shape).Idx → EReal)
    {L : Fin M → Fin K → ℝ} {R : Fin N → Fin K → ℝ} (hl : Is2 l L) (hr : Is2 r R) (i : Fin M) (j : Fin N) :
    (∑ k : (nt M K N wf).contr.Idx, l ((nt M K N wf).lhsIdx (ix2 i j) k) * r ((nt M K N wf).rhsIdx (ix2 i j) k))
      = ((∑ k, L i k * R j k : ℝ) : EReal) := by
  refine contr_sum (nt M K N wf) K rfl rfl _ _ fun q => ?_
  have h1 : (nt M K N wf).lhsIdx (ix2 i j) q = ix2 i (contrEquiv1 (nt M K N wf) K rfl rfl q) := by
    funext a; refine Fin.ext ?_
    match a with
    | ⟨0, _⟩ => rfl
    | ⟨1, _⟩ => rfl
  have h2 : (nt M K N wf).rhsIdx (ix2 i j) q = ix2 j (contrEquiv1 (nt M K N wf) K rfl rfl q) := by
    funext a; refine Fin.ext ?_
    match a with
    | ⟨0, _⟩ => rfl
    | ⟨1, _⟩ => rfl
  rw [h1, h2, hl, hr, ← EReal.coe_mul]

theorem sum_tn (wf) (l : (⟨2, ![K, M]⟩ : Shape).Idx → EReal) (r : (⟨2, ![K, N]⟩ : Shape).Idx → EReal)
    {L : Fin K → Fin M → ℝ} {R : Fin K → Fin N → ℝ} (hl : Is2 l L) (hr : Is2 r R) (i : Fin M) (j : Fin N) :
    (∑ k : (tn M K N wf).contr.Idx, l ((tn M K N wf).lhsIdx (ix2 i j) k) * r ((tn M K N wf).rhsIdx (ix2 i j) k))
      = ((∑ k, L k i * R k j : ℝ) : EReal) := by
  refine contr_sum (tn M K N wf) K rfl rfl _ _ fun q => ?_
  have h1 : (tn M K N wf).lhsIdx (ix2 i j) q = ix2 (contrEquiv1 (tn M K N wf) K rfl rfl q) i := by
    funext a; refine Fin.ext ?_
    match a with
    | ⟨0, _⟩ => rfl
    | ⟨1, _⟩ => rfl
  have h2 : (tn M K N wf).rhsIdx (ix2 i j) q = ix2 (contrEquiv1 (tn M K N wf) K rfl rfl q) j := by
    funext a; refine Fin.ext ?_
    match a with
    | ⟨0, _⟩ => rfl
    | ⟨1, _⟩ => rfl
  rw [h1, h2, hl, hr, ← EReal.coe_mul]

theorem Is2.mm_nn {φ₁ φ₂ : FTy} (wf) {l : FVec Ideal ⟨2, ![M, K]⟩ φ₁} {r : FVec Ideal ⟨2, ![K, N]⟩ φ₂}
    {L : Fin M → Fin K → ℝ} {R : Fin K → Fin N → ℝ} (hl : Is2 l L) (hr : Is2 r R) :
    Is2 (FloatOps.matmul (nn M K N wf) none l r (constant _ .f32 0x00000000#32)) fun i j => ∑ k, L i k * R k j := by
  intro i j; rw [Ideal.matmul_constant_zero_apply]; exact sum_nn wf l r hl hr i j
theorem Is2.mm_nt {φ₁ φ₂ : FTy} (wf) {l : FVec Ideal ⟨2, ![M, K]⟩ φ₁} {r : FVec Ideal ⟨2, ![N, K]⟩ φ₂}
    {L : Fin M → Fin K → ℝ} {R : Fin N → Fin K → ℝ} (hl : Is2 l L) (hr : Is2 r R) :
    Is2 (FloatOps.matmul (nt M K N wf) none l r (constant _ .f32 0x00000000#32)) fun i j => ∑ k, L i k * R j k := by
  intro i j; rw [Ideal.matmul_constant_zero_apply]; exact sum_nt wf l r hl hr i j
theorem Is2.mm_tn {φ₁ φ₂ : FTy} (wf) {l : FVec Ideal ⟨2, ![K, M]⟩ φ₁} {r : FVec Ideal ⟨2, ![K, N]⟩ φ₂}
    {L : Fin K → Fin M → ℝ} {R : Fin K → Fin N → ℝ} (hl : Is2 l L) (hr : Is2 r R) :
    Is2 (FloatOps.matmul (tn M K N wf) none l r (constant _ .f32 0x00000000#32)) fun i j => ∑ k, L k i * R k j := by
  intro i j; rw [Ideal.matmul_constant_zero_apply]; exact sum_tn wf l r hl hr i j
theorem Is2.dg_nn {φ₁ φ₂ : FTy} (wf) {l : FVec Ideal ⟨2, ![M, K]⟩ φ₁} {r : FVec Ideal ⟨2, ![K, N]⟩ φ₂}
    {L : Fin M → Fin K → ℝ} {R : Fin K → Fin N → ℝ} (hl : Is2 l L) (hr : Is2 r R) :
    Is2 (Host.dotGeneral (nn M K N wf) none l r) fun i j => ∑ k, L i k * R k j := by
  intro i j; simp only [Host.dotGeneral]; rw [Ideal.dotGeneral_apply]; exact sum_nn wf l r hl hr i j

end Dots

section Point
variable {M K : ℕ} {φ : FTy}

theorem Is2.add {x y : FVec Ideal ⟨2, ![M, K]⟩ φ} {X Y : Fin M → Fin K → ℝ} (hx : Is2 x X) (hy : Is2 y Y) :
    Is2 (addf x y) fun i k => X i k + Y i k := by
  intro i k; rw [addf_apply, hx, hy, EReal.coe_add]
theorem Is2.sub {x y : FVec Ideal ⟨2, ![M, K]⟩ φ} {X Y : Fin M → Fin K → ℝ} (hx : Is2 x X) (hy : Is2 y Y) :
    Is2 (subf x y) fun i k => X i k - Y i k := by
  intro i k; rw [subf_apply, hx, hy, EReal.coe_sub]
theorem Is2.mul {x y : FVec Ideal ⟨2, ![M, K]⟩ φ} {X Y : Fin M → Fin K → ℝ} (hx : Is2 x X) (hy : Is2 y Y) :
    Is2 (mulf x y) fun i k => X i k * Y i k := by
  intro i k; rw [mulf_apply, hx, hy, EReal.coe_mul]
theorem Is2.max {x y : FVec Ideal ⟨2, ![M, K]⟩ φ} {X Y : Fin M → Fin K → ℝ} (hx : Is2 x X) (hy : Is2 y Y) :
    Is2 (maximumf x y) fun i k => Max.max (X i k) (Y i k) := by
  intro i k; rw [maximumf_apply, hx, hy, coe_max']
theorem Is2.exp {x : FVec Ideal ⟨2, ![M, K]⟩ φ} {X : Fin M → Fin K → ℝ} (hx : Is2 x X) :
    Is2 (Idealize.ShloMosaic.exp x) fun i k => Real.exp (X i k) := by
  intro i k; show Ideal.exp (x (ix2 i k)) = _; rw [hx, exp_coe]
theorem Is2.trunc {ψ : FTy} {x : FVec Ideal ⟨2, ![M, K]⟩ φ} {X : Fin M → Fin K → ℝ} (hx : Is2 x X) (h : ψ.bits < φ.bits) :
    Is2 (truncf ψ x h : FVec Ideal _ ψ) X := hx
theorem Is2.zero : Is2 (broadcast (⟨2, ![M, K]⟩ : Shape) (Scalar.ofBits (F := Ideal) .f32 0x00000000#32)) fun _ _ => 0 := by
  intro i k; show Ideal.ofBits .f32 0x00000000#32 = _; rw [Ideal.ofBits_zero_f32, EReal.coe_zero]
theorem Is2.cast {x : (⟨2, ![M, K]⟩ : Shape).Idx → EReal} {X : Fin M → Fin K → ℝ} (hx : Is2 x X)
    (h : (⟨2, ![M, K]⟩ : Shape).ShapeCasts ⟨2, ![M, K]⟩) : Is2 (shapeCast _ x h) X := by
  intro i k; rw [shapeCast_apply x h _ (ix2 i k) rfl]; exact hx i k

/-- A row laid over every row. -/
theorem Is2.bias {M K : ℕ} (hK : K ≠ 1) {b : (⟨1, ![K]⟩ : Shape).Idx → EReal} {B : Fin K → ℝ} (hb : Is1 b B)
    (h : (⟨1, ![K]⟩ : Shape).ShapeCasts ⟨2, ![1, K]⟩) (h' : (⟨2, ![1, K]⟩ : Shape).Broadcasts ⟨2, ![M, K]⟩) :
    Is2 (broadcastTo ⟨2, ![M, K]⟩ (shapeCast ⟨2, ![1, K]⟩ b h) h') fun _ k => B k := by
  intro i k
  rw [broadcastTo_apply _ h' _ (ix2 (0 : Fin 1) k) (fun a => by
      match a with
      | ⟨0, _⟩ => rfl
      | ⟨1, _⟩ => exact (if_neg hK).symm),
    shapeCast_apply b h _ (ix1 k) (by rw [Shape.rowMajor_val_one, Shape.rowMajor_val_two]; show k.val = 0 * K + k.val; omega), hb]
/-- One row over every row. -/
theorem Is2.rowTo {M K : ℕ} (hK : K ≠ 1) {x : (⟨2, ![1, K]⟩ : Shape).Idx → EReal} {X : Fin 1 → Fin K → ℝ} (hx : Is2 x X)
    (h' : (⟨2, ![1, K]⟩ : Shape).Broadcasts ⟨2, ![M, K]⟩) :
    Is2 (broadcastTo ⟨2, ![M, K]⟩ x h') fun _ k => X 0 k := by
  intro i k
  rw [broadcastTo_apply _ h' _ (ix2 (0 : Fin 1) k) (fun a => by
      match a with
      | ⟨0, _⟩ => rfl
      | ⟨1, _⟩ => exact (if_neg hK).symm), hx]
/-- One column over every column. -/
theorem Is2.colTo {M K : ℕ} (hM : M ≠ 1) {x : (⟨2, ![M, 1]⟩ : Shape).Idx → EReal} {X : Fin M → Fin 1 → ℝ} (hx : Is2 x X)
    (h' : (⟨2, ![M, 1]⟩ : Shape).Broadcasts ⟨2, ![M, K]⟩) :
    Is2 (broadcastTo ⟨2, ![M, K]⟩ x h') fun i _ => X i 0 := by
  intro i k
  rw [broadcastTo_apply _ h' _ (ix2 i (0 : Fin 1)) (fun a => by
      match a with
      | ⟨0, _⟩ => exact (if_neg hM).symm
      | ⟨1, _⟩ => rfl), hx]
/-- A vector stood up as a column. -/
theorem Is2.col {M : ℕ} {x : (⟨1, ![M]⟩ : Shape).Idx → EReal} {X : Fin M → ℝ} (hx : Is1 x X)
    (h : (⟨1, ![M]⟩ : Shape).ShapeCasts ⟨2, ![M, 1]⟩) : Is2 (shapeCast ⟨2, ![M, 1]⟩ x h) fun i _ => X i := by
  intro i k
  rw [shapeCast_apply x h _ (ix1 i) (by rw [Shape.rowMajor_val_one, Shape.rowMajor_val_two]; have := k.isLt; show i.val = i.val * 1 + k.val; omega), hx]

end Point

section Words

/-- The bit of an equality, as a real number. -/
theorem onehot_coe (a b : BitVec 32) (h : 1 < 32) :
    (FloatOps.sitofp (F := Ideal) .f32 ((IntOp.cmpi .eq a b).setWidth 32) : EReal) = ((if a = b then 1 else 0 : ℝ) : EReal) := by
  show (((((IntOp.cmpi .eq a b).setWidth 32 : BitVec 32).toInt : ℝ)) : EReal) = _
  by_cases hab : a = b
  · subst hab
    have : IntOp.cmpi .eq a a = 1#1 := by simp [IntOp.cmpi]
    rw [this, if_pos rfl]; simp
  · have : IntOp.cmpi .eq a b = 0#1 := by
      show BitVec.ofBool (a == b) = 0#1
      rw [beq_eq_false_iff_ne.mpr hab]; rfl
    rw [this, if_neg hab]; simp

end Words

end Cert.Proof.Ops

end
-- ==== Proof.Spec.lean ====
/-
  The mathematics of the two programs over the real numbers: a token's score and its message, the softmax over a
  segment's tokens, and the two rearrangements of it, the reference's (shifted by the segment's maximum, with the
  score's constant term) and the kernel's (a running shift, rescaled from block to block).
-/
module

public import Mathlib.Analysis.SpecialFunctions.Exp
public import Mathlib.Algebra.BigOperators.Fin
public import Mathlib.Tactic.Ring
public import Mathlib.Tactic.FieldSimp

@[expose] public section

noncomputable section

namespace Cert.Proof.Spec

open scoped BigOperators

/-- The weights, as real numbers. -/
structure Wt where
  g1 : Fin 128 → Fin 256 → ℝ
  g1b : Fin 128 → ℝ
  g2 : Fin 128 → Fin 128 → ℝ
  g2b : Fin 128 → ℝ
  a1 : Fin 128 → Fin 256 → ℝ
  a1b : Fin 128 → ℝ
  a2 : Fin 128 → Fin 128 → ℝ
  a2b : Fin 128 → ℝ
  a3 : Fin 1 → Fin 128 → ℝ

def lo (j : Fin 128) : Fin 256 := ⟨j.val, by omega⟩
def hi (j : Fin 128) : Fin 256 := ⟨128 + j.val, by omega⟩

variable (W : Wt) (p e q : Fin 128 → ℝ)

/-- The hidden layer of a token's message: from its user's row and its rating's row. -/
def hid (k : Fin 128) : ℝ := max (∑ j, p j * W.g1 k (lo j) + ∑ j, e j * W.g1 k (hi j) + W.g1b k) 0
/-- A token's message. -/
def msg (k : Fin 128) : ℝ := max (∑ j, hid W p e j * W.g2 k j + W.g2b k) 0
/-- The attention's first layer: from the message and its segment's node's row. -/
def at1 (k : Fin 128) : ℝ := max (∑ j, msg W p e j * W.a1 k (lo j) + ∑ j, q j * W.a1 k (hi j) + W.a1b k) 0
/-- The attention's second layer. -/
def at2 (k : Fin 128) : ℝ := max (∑ j, at1 W p e q j * W.a2 k j + W.a2b k) 0
/-- A token's score, without the constant term. -/
def score : ℝ := ∑ j, at2 W p e q j * W.a3 0 j

theorem sum_halves (f : Fin 256 → ℝ) : ∑ j, f j = ∑ j : Fin 128, f (lo j) + ∑ j : Fin 128, f (hi j) := by
  have := Fin.sum_univ_add (M := ℝ) (a := 128) (b := 128) f
  exact this

section Segments
variable {n : ℕ} (seg : Fin n → Fin 16) (s : Fin n → ℝ) (f : Fin n → ℝ)

/-- The segment's sum of exponentials, and its sum of exponentials times a feature. -/
def den (b : Fin 16) : ℝ := ∑ t, if seg t = b then Real.exp (s t) else 0
def num (b : Fin 16) : ℝ := ∑ t, if seg t = b then Real.exp (s t) * f t else 0

theorem den_nonneg (b : Fin 16) : 0 ≤ den seg s b :=
  Finset.sum_nonneg fun t _ => by split_ifs <;> first | exact (Real.exp_pos _).le | exact le_refl _

theorem den_pos (t : Fin n) : 0 < den seg s (seg t) := by
  refine Finset.sum_pos' (fun t _ => by split_ifs <;> first | exact (Real.exp_pos _).le | exact le_refl _) ⟨t, Finset.mem_univ t, ?_⟩
  rw [if_pos rfl]; exact Real.exp_pos _

theorem num_of_den (b : Fin 16) (h : den seg s b = 0) : num seg s f b = 0 := by
  have hz := (Finset.sum_eq_zero_iff_of_nonneg (fun t _ => by split_ifs <;> first | exact (Real.exp_pos _).le | exact le_refl _)).mp h
  refine Finset.sum_eq_zero fun t ht => ?_
  have := hz t ht
  split_ifs with hb
  · rw [if_pos hb] at this; exact absurd this (Real.exp_pos _).ne'
  · rfl

/-- The reference's order: each exponential shifted by its segment's number and by a constant, each divided by its
    segment's sum, the quotients times the feature summed. -/
theorem softmax_shift (m : Fin 16 → ℝ) (c : ℝ) (b : Fin 16) :
    (∑ t, if seg t = b then f t * (Real.exp (s t + c - m (seg t))
        / ∑ u, if seg u = seg t then Real.exp (s u + c - m (seg u)) else 0) else 0)
      = num seg s f b / den seg s b := by
  have hD : ∀ b, (∑ u, if seg u = b then Real.exp (s u + c - m (seg u)) else 0) = Real.exp (c - m b) * den seg s b := by
    intro b
    unfold den; rw [Finset.mul_sum]
    refine Finset.sum_congr rfl fun u _ => ?_
    split_ifs with h
    · rw [← Real.exp_add, h]; congr 1; ring
    · rw [mul_zero]
  unfold num; rw [div_eq_mul_inv, Finset.sum_mul]
  refine Finset.sum_congr rfl fun t _ => ?_
  split_ifs with h
  · rw [hD, h, show s t + c - m b = (c - m b) + s t by ring, Real.exp_add, mul_div_mul_left _ _ (Real.exp_pos _).ne']
    ring
  · rw [zero_mul]

/-- One block of the kernel's running form: an accumulated sum `exp (-m) * E`, rescaled to `m'`, plus the block's. -/
theorem den_step (m m' : Fin 16 → ℝ) (E : Fin 16 → ℝ) (b : Fin 16) :
    Real.exp (-m b) * E b * Real.exp (m b - m' b) + (∑ t, if seg t = b then Real.exp (s t - m' (seg t)) else 0)
      = Real.exp (-m' b) * (E b + den seg s b) := by
  unfold den
  rw [mul_add, Finset.mul_sum]
  congr 1
  · rw [show -m' b = -m b + (m b - m' b) by ring, Real.exp_add]; ring
  · refine Finset.sum_congr rfl fun t _ => ?_
    split_ifs with h
    · rw [← Real.exp_add, h]; congr 1; ring
    · rw [mul_zero]

theorem num_step (m m' : Fin 16 → ℝ) (Y : Fin 16 → ℝ) (b : Fin 16) :
    Real.exp (-m b) * Y b * Real.exp (m b - m' b) + (∑ t, if seg t = b then Real.exp (s t - m' (seg t)) * f t else 0)
      = Real.exp (-m' b) * (Y b + num seg s f b) := by
  unfold num
  rw [mul_add, Finset.mul_sum]
  congr 1
  · rw [show -m' b = -m b + (m b - m' b) by ring, Real.exp_add]; ring
  · refine Finset.sum_congr rfl fun t _ => ?_
    split_ifs with h
    · rw [← mul_assoc, ← Real.exp_add, h]; congr 2; ring
    · rw [mul_zero]

/-- The common factor cancels. -/
theorem quot_shift (m : ℝ) (E Y : ℝ) : Real.exp (-m) * Y / (Real.exp (-m) * E) = Y / E :=
  mul_div_mul_left _ _ (Real.exp_pos _).ne'

end Segments

/-- Two blocks of tokens. -/
def fst' (t : Fin 8192) : Fin 16384 := ⟨t.val, by omega⟩
def snd' (t : Fin 8192) : Fin 16384 := ⟨8192 + t.val, by omega⟩

theorem sum_blocks (f : Fin 16384 → ℝ) : ∑ t, f t = ∑ t : Fin 8192, f (fst' t) + ∑ t : Fin 8192, f (snd' t) :=
  Fin.sum_univ_add (M := ℝ) (a := 8192) (b := 8192) f

theorem den_blocks (seg : Fin 16384 → Fin 16) (s : Fin 16384 → ℝ) (b : Fin 16) :
    den seg s b = den (fun t => seg (fst' t)) (fun t => s (fst' t)) b + den (fun t => seg (snd' t)) (fun t => s (snd' t)) b :=
  sum_blocks _
theorem num_blocks (seg : Fin 16384 → Fin 16) (s f : Fin 16384 → ℝ) (b : Fin 16) :
    num seg s f b = num (fun t => seg (fst' t)) (fun t => s (fst' t)) (fun t => f (fst' t)) b
      + num (fun t => seg (snd' t)) (fun t => s (snd' t)) (fun t => f (snd' t)) b :=
  sum_blocks _

end Cert.Proof.Spec

end
-- ==== Proof.TcValue.lean ====
/-
  What one block of tokens does to the running softmax, over the real numbers: from real inputs, and from a denominator
  and a numerator that are `exp (-m)` times accumulated sums for some real shift `m`, the block leaves `exp (-m')` times
  the sums with the block's tokens added, for some real shift `m'`; and the last block's result is their quotient.
-/
module

public import proofs.«01_k».proof.Proof.Gen.KernelIdeal.Skeleton
public import proofs.«01_k».proof.Proof.Ops
public import proofs.«01_k».proof.Proof.Spec

@[expose] public section

noncomputable section

namespace Cert.Proof.Tc

open Cert.KernelIdeal Cert.KernelIdeal.Gen
open Idealize.ShloMosaic Idealize.ShloMosaic.ValueIdx
open Cert.Proof.Ops Cert.Proof.Spec
open scoped BigOperators

theorem congr2 {M K : ℕ} {x : (⟨2, ![M, K]⟩ : Shape).Idx → EReal} {X Y : Fin M → Fin K → ℝ} (h : Is2 x X)
    (e : ∀ i k, X i k = Y i k) : Is2 x Y := fun i k => by rw [h, e]

/-- A maximum of finitely many real numbers, at least one, is real. -/
theorem fold_max_real {n : ℕ} (f : Fin n → ℝ) (i0 : Fin n) :
    ∃ r : ℝ, (Finset.univ : Finset (Fin n)).fold max (⊥ : EReal) (fun k => (f k : EReal)) = (r : EReal) := by
  classical
  have key : ∀ s : Finset (Fin n), s = ∅ ∨ ∃ r : ℝ, s.fold max (⊥ : EReal) (fun k => (f k : EReal)) = (r : EReal) := by
    intro s
    induction s using Finset.induction_on with
    | empty => exact Or.inl rfl
    | insert a s ha ih =>
      refine Or.inr ?_
      rw [Finset.fold_insert ha]
      rcases ih with rfl | ⟨r, hr⟩
      · exact ⟨f a, by rw [Finset.fold_empty]; exact max_bot_right _⟩
      · exact ⟨Max.max (f a) r, by rw [hr, coe_max']⟩
  rcases key Finset.univ with h | h
  · exact absurd (h ▸ Finset.mem_univ i0) (Finset.notMem_empty i0)
  · exact h

theorem rowBits {α : Type} {M K : ℕ} (hK : K ≠ 1) (v : (⟨1, ![K]⟩ : Shape).Idx → α)
    (h : (⟨1, ![K]⟩ : Shape).ShapeCasts ⟨2, ![1, K]⟩) (h' : (⟨2, ![1, K]⟩ : Shape).Broadcasts ⟨2, ![M, K]⟩) (i : Fin M) (k : Fin K) :
    broadcastTo ⟨2, ![M, K]⟩ (shapeCast ⟨2, ![1, K]⟩ v h) h' (ix2 i k) = v (ix1 k) := by
  rw [broadcastTo_apply _ h' _ (ix2 (0 : Fin 1) k) (fun a => by
      match a with
      | ⟨0, _⟩ => rfl
      | ⟨1, _⟩ => exact (if_neg hK).symm),
    shapeCast_apply v h _ (ix1 k) (by rw [Shape.rowMajor_val_one, Shape.rowMajor_val_two]; show k.val = 0 * K + k.val; omega)]

theorem ofNat_inj {M : ℕ} (hM : M ≤ 4294967296) (a b : Fin M) : BitVec.ofNat 32 a.val = BitVec.ofNat 32 b.val ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- A one-hot matrix of row numbers. -/
theorem onehot {M : ℕ} (hM : M ≤ 4294967296) (v : (⟨1, ![8192]⟩ : Shape).Idx → BitVec 32) (rt : Fin 8192 → Fin M)
    (hv : ∀ t, v (ix1 t) = BitVec.ofNat 32 (rt t).val)
    (hi : (⟨2, ![M, 8192]⟩ : Shape).Iotas .tc 32 [0])
    (h : (⟨1, ![8192]⟩ : Shape).ShapeCasts ⟨2, ![1, 8192]⟩) (h' : (⟨2, ![1, 8192]⟩ : Shape).Broadcasts ⟨2, ![M, 8192]⟩) (h1 : 1 < 32) :
    Is2 (sitofp .f32 (extui 32 (cmpi .eq (iota .tc ⟨2, ![M, 8192]⟩ 32 [0] hi)
      (broadcastTo ⟨2, ![M, 8192]⟩ (shapeCast ⟨2, ![1, 8192]⟩ v h) h')) h1) : FVec Ideal _ .f32)
      fun c t => if c = rt t then 1 else 0 := by
  intro c t
  show FloatOps.sitofp (F := Ideal) .f32 ((IntOp.cmpi .eq (iota .tc ⟨2, ![M, 8192]⟩ 32 [0] hi (ix2 c t))
      (broadcastTo ⟨2, ![M, 8192]⟩ (shapeCast ⟨2, ![1, 8192]⟩ v h) h' (ix2 c t))).setWidth 32) = _
  rw [iota_single_apply, rowBits (by decide), hv, onehot_coe _ _ h1]
  congr 1
  exact if_congr (ofNat_inj hM c (rt t)) rfl rfl

/-- A row's entry, as a reduction over the columns names it. -/
theorem lift_row {M K : ℕ} (h : (⟨2, ![M, K]⟩ : Shape).Reduces [1] ⟨1, ![M]⟩) (b : Fin M) (t : Fin K) : h.lift (ix1 b) t = ix2 b t := by
  funext a; refine Fin.ext ?_
  match a with
  | ⟨0, _⟩ => rfl
  | ⟨1, _⟩ => rfl

section Block

variable {v3 : Vec Ideal S8192x128 .f32} {v5 v7 : Vec Ideal S8192 .i32} {v17 : Vec Ideal S8x128 .f32}
  {v19 v30 v44 v55 : Vec Ideal S128x128 .f32} {v24 v34 v49 v59 : Vec Ideal S128 .f32}
  {v42 : Vec Ideal S16x128 .f32} {v65 : Vec Ideal S1x128 .f32}
  {v37 v38 : FVec Ideal S8192x128 .f32}
  {rt : Fin 8192 → Fin 8} {sg : Fin 8192 → Fin 16}

theorem fj_is {P : Fin 8192 → Fin 128 → ℝ} {RT : Fin 8 → Fin 128 → ℝ} {G1 G2 : Fin 128 → Fin 128 → ℝ} {b1 b2 : Fin 128 → ℝ}
    (h3 : Is2 v3 P) (h5 : ∀ t, v5 (ix1 t) = BitVec.ofNat 32 (rt t).val) (h17 : Is2 v17 RT) (h19 : Is2 v19 G1) (h24 : Is1 v24 b1)
    (h30 : Is2 v30 G2) (h34 : Is1 v34 b2) :
    Is2 (k2_pay14 (k2_pay12 v3 v5 v17 v19 v24 v30 v34) k2_pay13)
      fun t k => max (∑ j, max (∑ i, P t i * G1 j i + RT (rt t) j + b1 j) 0 * G2 k j + b2 k) 0 := by
  have hoh := onehot (M := 8) (by decide) v5 rt h5 iota_S8x8192_d0_w32 shapeCasts_S8192_S1x8192 broadcasts_S1x8192_S8x8192 natLt_1_32
  have h18 := congr2 (Y := fun t k => RT (rt t) k) (Is2.mm_tn (φ₁ := .f32) (φ₂ := .f32) (by exact dot_S8x8192_S8x128_S8192x128_0_0_1_1_n_n.wf) hoh h17)
    (fun t k => by simp only [ite_mul, one_mul, zero_mul, Finset.sum_ite_eq', Finset.mem_univ, if_true])
  have h22 := Is2.mm_nt (by exact dot_S8192x128_S128x128_S8192x128_1_1_0_0_n_n.wf)
    (Is2.trunc (ψ := .bf16) (h3.cast shapeCasts_S8192x128_S8192x128) bitsLt_bf16_f32) (Is2.trunc (ψ := .bf16) (φ := .f32) h19 bitsLt_bf16_f32)
  have h27 := Is2.add (φ := .f32) (Is2.add (φ := .f32) h22 h18) (Is2.bias (M := 8192) (by decide) h24 shapeCasts_S128_S1x128 broadcasts_S1x128_S8192x128)
  have h29 := Is2.max (φ := .f32) h27 Is2.zero
  have h33 := Is2.mm_nt (by exact dot_S8192x128_S128x128_S8192x128_1_1_0_0_n_n.wf)
    (Is2.trunc (ψ := .bf16) h29 bitsLt_bf16_f32) (Is2.trunc (ψ := .bf16) (φ := .f32) h30 bitsLt_bf16_f32)
  exact Is2.max (φ := .f32) (Is2.add (φ := .f32) h33 (Is2.bias (M := 8192) (by decide) h34 shapeCasts_S128_S1x128 broadcasts_S1x128_S8192x128)) Is2.zero

theorem segf_is (h7 : ∀ t, v7 (ix1 t) = BitVec.ofNat 32 (sg t).val) :
    Is2 (k2_pay16 (F := Ideal) (k2_pay11 v7)) fun b t => if b = sg t then 1 else 0 :=
  onehot (M := 16) (by decide) v7 sg h7 iota_S16x8192_d0_w32 shapeCasts_S8192_S1x8192 broadcasts_S1x8192_S16x8192 natLt_1_32

theorem s_is {FJ : Fin 8192 → Fin 128 → ℝ} {ST : Fin 16 → Fin 128 → ℝ} {A1 A2 : Fin 128 → Fin 128 → ℝ} {b1 b2 : Fin 128 → ℝ}
    {A3 : Fin 1 → Fin 128 → ℝ}
    (hfj : Is2 (k2_pay14 v37 v38) FJ) (h7 : ∀ t, v7 (ix1 t) = BitVec.ofNat 32 (sg t).val) (h42 : Is2 v42 ST) (h44 : Is2 v44 A1) (h49 : Is1 v49 b1)
    (h55 : Is2 v55 A2) (h59 : Is1 v59 b2) (h65 : Is2 v65 A3) :
    Is2 (k2_pay15 (k2_pay11 v7) v37 v38 v42 v44 v49 v55 v59 v65)
      fun _ t => ∑ j, A3 0 j * max (∑ i, max (∑ l, FJ t l * A1 i l + ST (sg t) i + b1 i) 0 * A2 j i + b2 j) 0 := by
  have hoh := segf_is h7
  have h43 := congr2 (Y := fun t k => ST (sg t) k) (Is2.mm_tn (φ₁ := .f32) (φ₂ := .f32) (by exact dot_S16x8192_S16x128_S8192x128_0_0_1_1_n_n.wf) hoh h42)
    (fun t k => by simp only [ite_mul, one_mul, zero_mul, Finset.sum_ite_eq', Finset.mem_univ, if_true])
  have h47 := Is2.mm_nt (by exact dot_S8192x128_S128x128_S8192x128_1_1_0_0_n_n.wf)
    (Is2.trunc (ψ := .bf16) hfj bitsLt_bf16_f32) (Is2.trunc (ψ := .bf16) (φ := .f32) h44 bitsLt_bf16_f32)
  have h52 := Is2.add (φ := .f32) (Is2.add (φ := .f32) h47 h43) (Is2.bias (M := 8192) (by decide) h49 shapeCasts_S128_S1x128 broadcasts_S1x128_S8192x128)
  have h54 := Is2.max (φ := .f32) h52 Is2.zero
  have h58 := Is2.mm_nt (by exact dot_S8192x128_S128x128_S8192x128_1_1_0_0_n_n.wf)
    (Is2.trunc (ψ := .bf16) h54 bitsLt_bf16_f32) (Is2.trunc (ψ := .bf16) (φ := .f32) h55 bitsLt_bf16_f32)
  have h62 := Is2.add (φ := .f32) h58 (Is2.bias (M := 8192) (by decide) h59 shapeCasts_S128_S1x128 broadcasts_S1x128_S8192x128)
  have h64 := Is2.max (φ := .f32) h62 Is2.zero
  have h66 := Is2.mm_nt (φ₁ := .f32) (φ₂ := .f32) (by exact dot_S1x128_S8192x128_S1x8192_1_1_0_0_n_n.wf) h65 h64
  exact congr2 h66 fun i t => by rw [Subsingleton.elim i 0]

theorem lit_real : ∃ r : ℝ, Ideal.ofBits .f32 0xF149F2CA#32 = (r : EReal) := by
  simp [Ideal.ofBits, Ideal.ieee]
  exact ⟨_, rfl⟩

theorem bot_lit : Ideal.ofBits .f32 0xFF800000#32 = ⊥ := by
  simp [Ideal.ofBits, Ideal.ieee]

theorem m_is {S : Fin 8192 → ℝ} {M : Fin 16 → ℝ} {v16 : IVec S16x8192 1} {v75 : Vec Ideal S16x1 .f32}
    (hs : Is2 (k2_pay15 v16 v37 v38 v42 v44 v49 v55 v59 v65) fun _ t => S t) (h75 : Is2 v75 fun b _ => M b) :
    ∃ M' : Fin 16 → ℝ, Is2 (k2_pay17 v16 v37 v38 v42 v44 v49 v55 v59 v65 v75) fun b _ => M' b := by
  obtain ⟨r, hr⟩ := lit_real
  have h70 := Is2.rowTo (M := 16) (by decide) (hs.cast shapeCasts_S1x8192_S1x8192) broadcasts_S1x8192_S16x8192
  have h72 : Is2 (select v16 (broadcastTo S16x8192 (shapeCast S1x8192 (k2_pay15 v16 v37 v38 v42 v44 v49 v55 v59 v65) shapeCasts_S1x8192_S1x8192)
      broadcasts_S1x8192_S16x8192) (broadcast S16x8192 (Scalar.ofBits (F := Ideal) .f32 0xF149F2CA#32)))
      fun b t => if v16 (ix2 b t) = 1#1 then S t else r := by
    intro b t
    show (if v16 (ix2 b t) = 1#1 then _ else _) = _
    beta_reduce
    by_cases h : v16 (ix2 b t) = 1#1
    · rw [if_pos h, if_pos h]; exact h70 b t
    · rw [if_neg h, if_neg h]; exact hr
  have hrow : ∀ b : Fin 16, ∃ y : ℝ, multiReduction .maximumf [1] S16 (select v16 (broadcastTo S16x8192 (shapeCast S1x8192 (k2_pay15 v16 v37 v38 v42 v44 v49 v55 v59 v65) shapeCasts_S1x8192_S1x8192)
      broadcasts_S1x8192_S16x8192) (broadcast S16x8192 (Scalar.ofBits (F := Ideal) .f32 0xF149F2CA#32))) 0xFF800000#32 reduces_S16x8192_S16 (.inl rfl) rfl (ix1 b) = (y : EReal) := by
    intro b
    obtain ⟨y, hy⟩ := fold_max_real (fun t : Fin 8192 => if v16 (ix2 b t) = 1#1 then S t else r) 0
    refine ⟨y, (Ideal.multiReduction_maximumf_single _ _ _ _ _ _).trans ?_⟩
    rw [← hy]
    have hb : (FloatOps.ofBits FTy.f32 0xFF800000#32 : Ideal .f32) = (⊥ : EReal) := bot_lit
    rw [hb]
    refine congrArg (fun f => (Finset.univ : Finset (Fin 8192)).fold max (⊥ : EReal) f) ?_
    funext t
    rw [← h72 b t]
    exact congrArg _ (lift_row reduces_S16x8192_S16 b t)
  choose R hR using hrow
  exact ⟨fun b => max (M b) (R b), Is2.max (φ := .f32) h75 (Is2.col hR shapeCasts_S16_S16x1)⟩

theorem et_is {S : Fin 8192 → ℝ} {M' : Fin 16 → ℝ} {v66 : FVec Ideal S1x8192 .f32} {v68 : FVec Ideal S16x8192 .f32} {v76 : FVec Ideal S16x1 .f32}
    (h66 : Is2 v66 fun _ t => S t) (h68 : Is2 v68 fun b t => if b = sg t then 1 else 0) (h76 : Is2 v76 fun b _ => M' b) :
    Is2 (k2_pay1 v66 v68 v76) fun b t => if sg t = b then Real.exp (S t - M' (sg t)) else 0 := by
  have h79 := congr2 (Y := fun _ t => M' (sg t)) (Is2.mm_tn (φ₁ := .f32) (φ₂ := .f32) (by exact dot_S16x1_S16x8192_S1x8192_0_0_1_1_n_n.wf) h76 h68)
    (fun t k => by simp only [mul_ite, mul_one, mul_zero, Finset.sum_ite_eq', Finset.mem_univ, if_true])
  have h81 := Is2.exp (φ := .f32) (Is2.sub (φ := .f32) h66 h79)
  have h82 := Is2.rowTo (M := 16) (by decide) h81 broadcasts_S1x8192_S16x8192
  refine congr2 (Is2.mul (φ := .f32) h68 h82) fun b t => ?_
  by_cases h : sg t = b
  · rw [if_pos h, if_pos h.symm, one_mul]
  · rw [if_neg h, if_neg (fun h' => h h'.symm), zero_mul]

theorem rowsum_is {x : FVec Ideal S16x8192 .f32} {X : Fin 16 → Fin 8192 → ℝ} (hx : Is2 x X) :
    Is1 (multiReduction .add [1] S16 x 0x00000000#32 reduces_S16x8192_S16 (.inl rfl) rfl) fun b => ∑ t, X b t := by
  intro b
  refine (Ideal.multiReduction_add_single _ _ _ _ _ _).trans ?_
  rw [coe_sum]
  refine Finset.sum_congr rfl fun t _ => ?_
  rw [← hx b t]
  exact congrArg x (lift_row reduces_S16x8192_S16 b t)

theorem d_is {S : Fin 8192 → ℝ} {M M' E : Fin 16 → ℝ} {v66 : FVec Ideal S1x8192 .f32} {v68 : FVec Ideal S16x8192 .f32} {v76 v78 : FVec Ideal S16x1 .f32}
    {v87 : Vec Ideal S16x1 .f32}
    (h66 : Is2 v66 fun _ t => S t) (h68 : Is2 v68 fun b t => if b = sg t then 1 else 0) (h76 : Is2 v76 fun b _ => M' b)
    (h78 : Is2 v78 fun b _ => Real.exp (M b - M' b)) (h87 : Is2 v87 fun b _ => Real.exp (-M b) * E b) :
    Is2 (k2_pay3 v66 v68 v76 v78 v87) fun b _ => Real.exp (-M' b) * (E b + den sg S b) := by
  have h90 := Is2.col (rowsum_is (et_is h66 h68 h76)) shapeCasts_S16_S16x1
  exact congr2 ((Is2.add (φ := .f32) (Is2.mul (φ := .f32) h87 h78) h90).cast shapeCasts_S16x1_S16x1) fun b _ => den_step sg S M M' E b

theorem z_is {S : Fin 8192 → ℝ} {M M' : Fin 16 → ℝ} {Y : Fin 16 → Fin 128 → ℝ} {FJ : Fin 8192 → Fin 128 → ℝ} {v39 : FVec Ideal S8192x128 .f32}
    {v66 : FVec Ideal S1x8192 .f32} {v68 : FVec Ideal S16x8192 .f32} {v76 v78 : FVec Ideal S16x1 .f32} {v95 : Vec Ideal S16x128 .f32}
    (h39 : Is2 v39 FJ)
    (h66 : Is2 v66 fun _ t => S t) (h68 : Is2 v68 fun b t => if b = sg t then 1 else 0) (h76 : Is2 v76 fun b _ => M' b)
    (h78 : Is2 v78 fun b _ => Real.exp (M b - M' b)) (h95 : Is2 v95 fun b k => Real.exp (-M b) * Y b k) :
    Is2 (k2_pay4 v39 v66 v68 v76 v78 v95) fun b k => Real.exp (-M' b) * (Y b k + num sg S (fun t => FJ t k) b) := by
  have h98 := Is2.mm_nn (φ₁ := .f32) (φ₂ := .f32) (by exact dot_S16x8192_S8192x128_S16x128_1_0_0_1_n_n.wf) (et_is h66 h68 h76) h39
  have h96 := Is2.colTo (K := 128) (by decide) h78 broadcasts_S16x1_S16x128
  refine congr2 ((Is2.add (φ := .f32) (Is2.mul (φ := .f32) h95 h96) h98).cast shapeCasts_S16x128_S16x128) fun b k => ?_
  rw [← num_step sg S (fun t => FJ t k) M M' (fun b => Y b k) b]
  exact congrArg (HAdd.hAdd _) (Finset.sum_congr rfl fun t _ => by rw [ite_mul, zero_mul])

end Block

/-- What the inputs of one block of tokens hold: each token's user row `P t`, its rating's row `Em t`, and the row
    `Q b` of its segment's node. -/
structure In (W : Wt) (P Em : Fin 8192 → Fin 128 → ℝ) (Q : Fin 16 → Fin 128 → ℝ) (sg : Fin 8192 → Fin 16)
    (v3 : Vec Ideal S8192x128 .f32) (v5 v7 : Vec Ideal S8192 .i32) (v17 : Vec Ideal S8x128 .f32)
    (v19 : Vec Ideal S128x128 .f32) (v24 : Vec Ideal S128 .f32) (v30 : Vec Ideal S128x128 .f32) (v34 : Vec Ideal S128 .f32)
    (v42 : Vec Ideal S16x128 .f32) (v44 : Vec Ideal S128x128 .f32) (v49 : Vec Ideal S128 .f32) (v55 : Vec Ideal S128x128 .f32) (v59 : Vec Ideal S128 .f32)
    (v65 : Vec Ideal S1x128 .f32) : Prop where
  h3 : Is2 v3 P
  h17 : ∃ (rt : Fin 8192 → Fin 8) (RT : Fin 8 → Fin 128 → ℝ), (∀ t, v5 (ix1 t) = BitVec.ofNat 32 (rt t).val) ∧ Is2 v17 RT
    ∧ ∀ t k, RT (rt t) k = ∑ j, Em t j * W.g1 k (hi j)
  h7 : ∀ t, v7 (ix1 t) = BitVec.ofNat 32 (sg t).val
  h19 : Is2 v19 fun k j => W.g1 k (lo j)
  h24 : Is1 v24 W.g1b
  h30 : Is2 v30 W.g2
  h34 : Is1 v34 W.g2b
  h42 : Is2 v42 fun b k => ∑ j, Q b j * W.a1 k (hi j)
  h44 : Is2 v44 fun k j => W.a1 k (lo j)
  h49 : Is1 v49 W.a1b
  h55 : Is2 v55 W.a2
  h59 : Is1 v59 W.a2b
  h65 : Is2 v65 W.a3

/-- The running state: for some real shift `m`, the shift, `exp (-m)` times the sums `E` and `Y`. -/
def State (E : Fin 16 → ℝ) (Y : Fin 16 → Fin 128 → ℝ) (m d : Vec Ideal S16x1 .f32) (z : Vec Ideal S16x128 .f32) : Prop :=
  ∃ M : Fin 16 → ℝ, Is2 m (fun b _ => M b) ∧ Is2 d (fun b _ => Real.exp (-M b) * E b) ∧ Is2 z (fun b k => Real.exp (-M b) * Y b k)

theorem state_init : State (fun _ => 0) (fun _ _ => 0) (k2_pay5 (F := Ideal)) (k2_pay6 (F := Ideal)) (k2_pay7 (F := Ideal)) := by
  obtain ⟨r, hr⟩ := lit_real
  refine ⟨fun _ => r, Is2.cast (X := fun _ _ => r) (fun _ _ => hr) shapeCasts_S16x1_S16x1, congr2 (Is2.zero.cast shapeCasts_S16x1_S16x1) fun _ _ => ?_,
    congr2 (Is2.zero.cast shapeCasts_S16x128_S16x128) fun _ _ => ?_⟩ <;> simp

theorem block {W : Wt} {P Em : Fin 8192 → Fin 128 → ℝ} {Q : Fin 16 → Fin 128 → ℝ} {sg : Fin 8192 → Fin 16}
    {v3 : Vec Ideal S8192x128 .f32} {v5 v7 : Vec Ideal S8192 .i32} {v17 : Vec Ideal S8x128 .f32}
    {v19 : Vec Ideal S128x128 .f32} {v24 : Vec Ideal S128 .f32} {v30 : Vec Ideal S128x128 .f32} {v34 : Vec Ideal S128 .f32}
    {v42 : Vec Ideal S16x128 .f32} {v44 : Vec Ideal S128x128 .f32} {v49 : Vec Ideal S128 .f32} {v55 : Vec Ideal S128x128 .f32} {v59 : Vec Ideal S128 .f32}
    {v65 : Vec Ideal S1x128 .f32} (H : In W P Em Q sg v3 v5 v7 v17 v19 v24 v30 v34 v42 v44 v49 v55 v59 v65)
    {E : Fin 16 → ℝ} {Y : Fin 16 → Fin 128 → ℝ} {m d : Vec Ideal S16x1 .f32} {z : Vec Ideal S16x128 .f32} (hst : State E Y m d z) :
    State (fun b => E b + den sg (fun t => score W (P t) (Em t) (Q (sg t))) b)
      (fun b k => Y b k + num sg (fun t => score W (P t) (Em t) (Q (sg t))) (fun t => msg W (P t) (Em t) k) b)
      (k2_pay2 (k2_pay17 (k2_pay11 v7) (k2_pay12 v3 v5 v17 v19 v24 v30 v34) k2_pay13 v42 v44 v49 v55 v59 v65 m))
      (k2_pay3 (k2_pay15 (k2_pay11 v7) (k2_pay12 v3 v5 v17 v19 v24 v30 v34) k2_pay13 v42 v44 v49 v55 v59 v65) (k2_pay16 (k2_pay11 v7))
        (k2_pay17 (k2_pay11 v7) (k2_pay12 v3 v5 v17 v19 v24 v30 v34) k2_pay13 v42 v44 v49 v55 v59 v65 m)
        (k2_pay18 (k2_pay11 v7) (k2_pay12 v3 v5 v17 v19 v24 v30 v34) k2_pay13 v42 v44 v49 v55 v59 v65 m) d)
      (k2_pay4 (k2_pay14 (k2_pay12 v3 v5 v17 v19 v24 v30 v34) k2_pay13)
        (k2_pay15 (k2_pay11 v7) (k2_pay12 v3 v5 v17 v19 v24 v30 v34) k2_pay13 v42 v44 v49 v55 v59 v65) (k2_pay16 (k2_pay11 v7))
        (k2_pay17 (k2_pay11 v7) (k2_pay12 v3 v5 v17 v19 v24 v30 v34) k2_pay13 v42 v44 v49 v55 v59 v65 m)
        (k2_pay18 (k2_pay11 v7) (k2_pay12 v3 v5 v17 v19 v24 v30 v34) k2_pay13 v42 v44 v49 v55 v59 v65 m) z) := by
  obtain ⟨M, hm, hd, hz⟩ := hst
  obtain ⟨rt, RT, h5, h17, hRT⟩ := H.h17
  have hfj : Is2 (k2_pay14 (k2_pay12 v3 v5 v17 v19 v24 v30 v34) k2_pay13) fun t k => msg W (P t) (Em t) k :=
    congr2 (fj_is H.h3 h5 h17 H.h19 H.h24 H.h30 H.h34) fun t k => by
      unfold msg hid; simp only [hRT]
  have hs : Is2 (k2_pay15 (k2_pay11 v7) (k2_pay12 v3 v5 v17 v19 v24 v30 v34) k2_pay13 v42 v44 v49 v55 v59 v65)
      fun _ t => score W (P t) (Em t) (Q (sg t)) :=
    congr2 (s_is hfj H.h7 H.h42 H.h44 H.h49 H.h55 H.h59 H.h65) fun _ t => by
      unfold score at2 at1
      exact Finset.sum_congr rfl fun j _ => mul_comm _ _
  obtain ⟨M', hm'⟩ := m_is hs hm
  have hsc : Is2 (k2_pay18 (k2_pay11 v7) (k2_pay12 v3 v5 v17 v19 v24 v30 v34) k2_pay13 v42 v44 v49 v55 v59 v65 m)
      fun b _ => Real.exp (M b - M' b) := Is2.exp (φ := .f32) (Is2.sub (φ := .f32) hm hm')
  have hsf := segf_is H.h7
  exact ⟨M', hm'.cast shapeCasts_S16x1_S16x1, d_is hs hsf hm' hsc hd, z_is hfj hs hsf hm' hsc hz⟩

/-- The quotient the last block writes. -/
theorem out_is {E : Fin 16 → ℝ} {Y : Fin 16 → Fin 128 → ℝ} {m d : Vec Ideal S16x1 .f32} {z : Vec Ideal S16x128 .f32} (hst : State E Y m d z)
    (hE : ∀ b, 0 ≤ E b) (hY : ∀ b k, E b = 0 → Y b k = 0) : Is2 (k3_pay5 d z) fun b k => Y b k / E b := by
  obtain ⟨M, -, hd, hz⟩ := hst
  intro b k
  have hdb := Is2.colTo (K := 128) (by decide) hd broadcasts_S16x1_S16x128
  have hc : broadcastTo S16x128 (shapeCast S16x1 (cmpf .ogt d (broadcast S16x1 (Scalar.ofBits (F := Ideal) .f32 0x00000000#32)))
      shapeCasts_S16x1_S16x1) broadcasts_S16x1_S16x128 (ix2 b k) = FloatOps.cmpf .ogt (d (ix2 b 0)) (Scalar.ofBits (F := Ideal) .f32 0x00000000#32) := by
    rw [broadcastTo_apply _ _ _ (ix2 b (0 : Fin 1)) (fun a => by
      match a with
      | ⟨0, _⟩ => rfl
      | ⟨1, _⟩ => rfl), shapeCast_apply _ _ _ (ix2 b (0 : Fin 1)) rfl]
    rfl
  show (if broadcastTo S16x128 (shapeCast S16x1 (cmpf .ogt d (broadcast S16x1 (Scalar.ofBits (F := Ideal) .f32 0x00000000#32)))
      shapeCasts_S16x1_S16x1) broadcasts_S16x1_S16x128 (ix2 b k) = 1#1 then Ideal.div (z (ix2 b k)) (broadcastTo S16x128 d broadcasts_S16x1_S16x128 (ix2 b k))
      else Ideal.ofBits .f32 0x00000000#32) = _
  rw [hc, hz, hdb, hd]
  beta_reduce
  by_cases h : E b = 0
  · rw [h, hY b k h, mul_zero]
    rw [if_neg, Ideal.ofBits_zero_f32]
    · simp
    · show ¬ (BitVec.ofBool (decide ((Ideal.ofBits .f32 0x00000000#32 : EReal) < ((0 : ℝ) : EReal))) = 1#1)
      rw [Ideal.ofBits_zero_f32]; simp
  · have hp : 0 < Real.exp (-M b) * E b := mul_pos (Real.exp_pos _) (lt_of_le_of_ne (hE b) (Ne.symm h))
    rw [if_pos, div_coe _ _ hp.ne', quot_shift]
    show (BitVec.ofBool (decide ((Ideal.ofBits .f32 0x00000000#32 : EReal) < ((Real.exp (-M b) * E b : ℝ) : EReal))) = 1#1)
    rw [Ideal.ofBits_zero_f32, decide_eq_true (by exact_mod_cast hp)]; rfl

/-! The second call's payloads are the first's. -/
theorem p1 : @k3_pay1 = @k2_pay1 := rfl
theorem p2 : @k3_pay2 = @k2_pay2 := rfl
theorem p3 : @k3_pay3 = @k2_pay3 := rfl
theorem p4 : @k3_pay4 = @k2_pay4 := rfl
theorem p9 : @k3_pay9 = @k2_pay8 := rfl
theorem p10 : @k3_pay10 = @k2_pay9 := rfl
theorem p13 : @k3_pay13 = @k2_pay11 := rfl
theorem p14 : @k3_pay14 = @k2_pay12 := rfl
theorem p15 : @k3_pay15 = @k2_pay13 := rfl
theorem p16 : @k3_pay16 = @k2_pay14 := rfl
theorem p17 : @k3_pay17 = @k2_pay15 := rfl
theorem p18 : @k3_pay18 = @k2_pay16 := rfl
theorem p19 : @k3_pay19 = @k2_pay17 := rfl
theorem p20 : @k3_pay20 = @k2_pay18 := rfl

end Cert.Proof.Tc

end
-- ==== Proof.Out.lean ====
/-
  What the two TensorCore calls leave in their outputs, over the real numbers: the staged windows, the rating and node
  tables made in scratch, the running state read back, and the last call's quotient.
-/
module

public import proofs.«01_k».proof.Proof.Region2
public import proofs.«01_k».proof.Proof.Region3
public import proofs.«01_k».proof.Proof.TcValue
public import Idealize.ShloMosaic.Lib.VecWindow
public import Idealize.ShloMosaic.Lib.Pipeline.Value

@[expose] public section

noncomputable section

namespace Cert.Proof.Tc

open Cert.KernelIdeal Cert.KernelIdeal.Gen
open Idealize.ShloMosaic Idealize.ShloMosaic.ValueIdx Idealize.ShloMosaic.TcCoe
open Cert.Proof.Ops Cert.Proof.Spec
open scoped BigOperators

section Reads
variable {M K : ℕ} {sp : Space}

/-- All of a view, read. -/
theorem full2 (v : View sig .tc sp ⟨2, ![M, K]⟩ .f32) {f : v.ty.Contents (Elt Ideal)} {X : Fin M → Fin K → ℝ} (h : Is2 (v.read (Elt Ideal) f) X)
    (inb : ∀ a, (![0, 0] : Fin 2 → ℕ) a + (![M, K] : Fin 2 → ℕ) a ≤ (⟨2, ![M, K]⟩ : Shape).size a) :
    Is2 (v.readAt (Elt Ideal) (Rect.unit (s := ⟨2, ![M, K]⟩) ![0, 0] ![M, K] inb).toLoadRect f) X := fun i k =>
  (congrFun (View.readAt_full (s := ⟨2, ![M, K]⟩) v f inb) (ix2 i k)).trans (h i k)
theorem full1 (v : View sig .tc sp ⟨1, ![M]⟩ .f32) {f : v.ty.Contents (Elt Ideal)} {X : Fin M → ℝ} (h : Is1 (v.read (Elt Ideal) f) X)
    (inb : ∀ a, (![0] : Fin 1 → ℕ) a + (![M] : Fin 1 → ℕ) a ≤ (⟨1, ![M]⟩ : Shape).size a) :
    Is1 (v.readAt (Elt Ideal) (Rect.unit (s := ⟨1, ![M]⟩) ![0] ![M] inb).toLoadRect f) X := fun i =>
  (congrFun (View.readAt_full (s := ⟨1, ![M]⟩) v f inb) (ix1 i)).trans (h i)
theorem fullw (v : View sig .tc sp ⟨1, ![M]⟩ .i32) {f : v.ty.Contents (Elt Ideal)} {X : Fin M → BitVec 32} (h : ∀ t, v.read (Elt Ideal) f (ix1 t) = X t)
    (inb : ∀ a, (![0] : Fin 1 → ℕ) a + (![M] : Fin 1 → ℕ) a ≤ (⟨1, ![M]⟩ : Shape).size a) :
    ∀ t, v.readAt (Elt Ideal) (Rect.unit (s := ⟨1, ![M]⟩) ![0] ![M] inb).toLoadRect f (ix1 t) = X t := fun i =>
  (congrFun (View.readAt_full (s := ⟨1, ![M]⟩) v f inb) (ix1 i)).trans (h i)

/-- The left and the right half of a matrix of 256 columns. -/
theorem left2 (v : View sig .tc sp S128x256 .f32) {f : v.ty.Contents (Elt Ideal)} {X : Fin 128 → Fin 256 → ℝ} (h : Is2 (v.read (Elt Ideal) f) X)
    (inb : ∀ a, (![0, 0] : Fin 2 → ℕ) a + (![128, 128] : Fin 2 → ℕ) a ≤ S128x256.size a) :
    Is2 (v.readAt (Elt Ideal) (Rect.unit (s := S128x256) ![0, 0] ![128, 128] inb).toLoadRect f) fun k j => X k (lo j) := fun k j =>
  (congrArg (v.read (Elt Ideal) f) (funext fun a => Fin.ext (by
    match a with
    | ⟨0, _⟩ => show 0 + 1 * k.val = k.val; omega
    | ⟨1, _⟩ => show 0 + 1 * j.val = j.val; omega))).trans (h k (lo j))
theorem right2 (v : View sig .tc sp S128x256 .f32) {f : v.ty.Contents (Elt Ideal)} {X : Fin 128 → Fin 256 → ℝ} (h : Is2 (v.read (Elt Ideal) f) X)
    (inb : ∀ a, (![0, 128] : Fin 2 → ℕ) a + (![128, 128] : Fin 2 → ℕ) a ≤ S128x256.size a) :
    Is2 (v.readAt (Elt Ideal) (Rect.unit (s := S128x256) ![0, 128] ![128, 128] inb).toLoadRect f) fun k j => X k (hi j) := fun k j =>
  (congrArg (v.read (Elt Ideal) f) (funext fun a => Fin.ext (by
    match a with
    | ⟨0, _⟩ => show 0 + 1 * k.val = k.val; omega
    | ⟨1, _⟩ => show 128 + 1 * j.val = 128 + j.val; omega))).trans (h k (hi j))

/-- A store of all of a view, then a read of all of it. -/
theorem back2 (v : View sig .tc sp ⟨2, ![M, K]⟩ .f32) (inb inb' : ∀ a, (![0, 0] : Fin 2 → ℕ) a + (![M, K] : Fin 2 → ℕ) a ≤ (⟨2, ![M, K]⟩ : Shape).size a)
    (w : (⟨2, ![M, K]⟩ : Shape).Idx → EReal) (L : List (View.Piece (Elt Ideal) ⟨2, ![M, K]⟩ .f32)) :
    v.readCov (⟨Rect.unit (s := ⟨2, ![M, K]⟩) ![0, 0] ![M, K] inb', w⟩ :: L) (Rect.unit (s := ⟨2, ![M, K]⟩) ![0, 0] ![M, K] inb).toLoadRect = w :=
  View.readCov_full (s := ⟨2, ![M, K]⟩) v inb inb' w L
end Reads

/-- The rating table made in scratch: five rows computed, three of zeros. -/
theorem rtab (v : View sig .tc .vmem S8x128 .f32) (inb5 inb0 inb) {p5 : S5x128.Idx → EReal} {p3 : S3x128.Idx → EReal} {X : Fin 5 → Fin 128 → ℝ}
    (h5 : Is2 p5 X) (h3 : Is2 p3 fun _ _ => 0) :
    Is2 (M := 8) (K := 128) (v.readCov (Val := Elt Ideal) [⟨Rect.unit (s := S8x128) ![5, 0] ![3, 128] inb5, p3⟩, ⟨Rect.unit (s := S8x128) ![0, 0] ![5, 128] inb0, p5⟩]
      (Rect.unit (s := S8x128) ![0, 0] ![8, 128] inb).toLoadRect)
      fun c k => if h : c.val < 5 then X ⟨c.val, h⟩ k else 0 := by
  intro c k
  refine (congrFun (View.readAt_full (s := S8x128) v _ inb) (ix2 c k)).trans ?_
  refine (congrFun ((View.read_writes_cons_put (Val := Elt Ideal) (s := S8x128) v v.junk (off := ![5, 0]) (off' := ![5, 0]) inb5 p3 _ rfl).trans
    (congrArg (fun y => VecWindow.put y ![5, 0] ![3, 128] p3) (View.read_writes_cons_put (Val := Elt Ideal) (s := S8x128) v v.junk (off := ![0, 0]) (off' := ![0, 0]) inb0 p5 _ rfl)))
    (ix2 c k)).trans ?_
  unfold VecWindow.put
  by_cases h : c.val < 5
  · rw [dif_neg (fun hh => by
      have := (hh 0).1
      have h' : (5 : ℕ) ≤ c.val := this
      omega), dif_pos (fun a => by
      match a with
      | ⟨0, _⟩ => exact ⟨Nat.zero_le _, by show c.val < 0 + 5; omega⟩
      | ⟨1, _⟩ => exact ⟨Nat.zero_le _, by show k.val < 0 + 128; omega⟩)]
    refine Eq.trans ?_ (congrArg (fun r : ℝ => (r : EReal)) (dif_pos h).symm)
    exact (congrArg p5 (funext fun a => Fin.ext (by
      match a with
      | ⟨0, _⟩ => rfl
      | ⟨1, _⟩ => rfl))).trans (h5 ⟨c.val, h⟩ k)
  · rw [dif_pos (fun a => by
      match a with
      | ⟨0, _⟩ => exact ⟨by show 5 ≤ c.val; omega, by show c.val < 5 + 3; omega⟩
      | ⟨1, _⟩ => exact ⟨Nat.zero_le _, by show k.val < 0 + 128; omega⟩)]
    refine Eq.trans ?_ (congrArg (fun r : ℝ => (r : EReal)) (dif_neg h).symm)
    exact (congrArg p3 (funext fun a => Fin.ext (by
      match a with
      | ⟨0, _⟩ => rfl
      | ⟨1, _⟩ => rfl))).trans (h3 ⟨c.val - 5, by omega⟩ k)

theorem pay8_is {x : Vec Ideal S5x128 .f32} {y : Vec Ideal S128x128 .f32} {X : Fin 5 → Fin 128 → ℝ} {Y : Fin 128 → Fin 128 → ℝ} (hx : Is2 x X) (hy : Is2 y Y) :
    Is2 (k2_pay8 x y) fun c k => ∑ j, X c j * Y k j :=
  (Is2.mm_nt (φ₁ := .f32) (φ₂ := .f32) (by exact dot_S5x128_S128x128_S5x128_1_1_0_0_n_n.wf) hx hy).cast shapeCasts_S5x128_S5x128
theorem pay9_is : Is2 (k2_pay9 (F := Ideal)) fun _ _ => 0 := Is2.zero.cast shapeCasts_S3x128_S3x128
theorem pay10_is {x : Vec Ideal S16x128 .f32} {y : Vec Ideal S128x128 .f32} {X : Fin 16 → Fin 128 → ℝ} {Y : Fin 128 → Fin 128 → ℝ} (hx : Is2 x X) (hy : Is2 y Y) :
    Is2 (k2_pay10 x y) fun b k => ∑ j, X b j * Y k j :=
  (Is2.mm_nt (φ₁ := .f32) (φ₂ := .f32) (by exact dot_S16x128_S128x128_S16x128_1_1_0_0_n_n.wf) (hx.cast shapeCasts_S16x128_S16x128) hy).cast shapeCasts_S16x128_S16x128

theorem again6 (x : Vec Ideal S16x1 .f32) : k3_pay6 x = x := by
  unfold k3_pay6; exact (shapeCast_self _ _).trans (shapeCast_self _ _)
theorem again7 (x : Vec Ideal S16x1 .f32) : k3_pay7 x = x := by
  unfold k3_pay7; exact (shapeCast_self _ _).trans (shapeCast_self _ _)
theorem again8 (x : Vec Ideal S16x128 .f32) : k3_pay8 x = x := by
  unfold k3_pay8; exact (shapeCast_self _ _).trans (shapeCast_self _ _)
theorem pay12_is {x : Vec Ideal S16x128 .f32} {y : Vec Ideal S128x128 .f32} {X : Fin 16 → Fin 128 → ℝ} {Y : Fin 128 → Fin 128 → ℝ} (hx : Is2 x X) (hy : Is2 y Y) :
    Is2 (k3_pay12 (k3_pay11 x) y (constant S16x128 .f32 0x00000000#32)) fun b k => ∑ j, X b j * Y k j := pay10_is hx hy

theorem State.eq {E : Fin 16 → ℝ} {Y : Fin 16 → Fin 128 → ℝ} {m d m' d' : Vec Ideal S16x1 .f32} {z z' : Vec Ideal S16x128 .f32} (h : State E Y m d z)
    (hm : m' = m) (hd : d' = d) (hz : z' = z) : State E Y m' d' z' := by
  subst hm hd hz; exact h

/-- What the windows of one call hold. -/
structure Wins (W : Wt) (P : Fin 8192 → Fin 128 → ℝ) (R : Fin 5 → Fin 128 → ℝ) (rt : Fin 8192 → Fin 5) (Q : Fin 16 → Fin 128 → ℝ) (sg : Fin 8192 → Fin 16)
    (x0 x1 : S8192.Idx → BitVec 32) (x2 : S8192x128.Idx → EReal) (x3 : S16x128.Idx → EReal) (x4 : S5x128.Idx → EReal) (x5 : S128x256.Idx → EReal)
    (x6 : S128.Idx → EReal) (x7 : S128x128.Idx → EReal) (x8 : S128.Idx → EReal) (x9 : S128x256.Idx → EReal) (x10 : S128.Idx → EReal)
    (x11 : S128x128.Idx → EReal) (x12 : S128.Idx → EReal) (x13 : S1x128.Idx → EReal) : Prop where
  h0 : ∀ t, x0 (ix1 t) = BitVec.ofNat 32 (rt t).val
  h1 : ∀ t, x1 (ix1 t) = BitVec.ofNat 32 (sg t).val
  h2 : Is2 x2 P
  h3 : Is2 x3 Q
  h4 : Is2 x4 R
  h5 : Is2 x5 W.g1
  h6 : Is1 x6 W.g1b
  h7 : Is2 x7 W.g2
  h8 : Is1 x8 W.g2b
  h9 : Is2 x9 W.a1
  h10 : Is1 x10 W.a1b
  h11 : Is2 x11 W.a2
  h12 : Is1 x12 W.a2b
  h13 : Is2 x13 W.a3

end Cert.Proof.Tc

namespace Cert.Proof.Run.Region2

open Cert.KernelIdeal Cert.KernelIdeal.Gen
open Idealize.ShloMosaic Idealize.ShloMosaic.ValueIdx Idealize.ShloMosaic.TcCoe
open Cert.Proof.Ops Cert.Proof.Spec Cert.Proof.Tc
open scoped BigOperators

variable (V : (c : Dev nD) → (b : Ref sig .tc) → Buf (Elt Ideal) ((c : Thread nD τ).loc b)) (B : ℕ)
variable {W : Wt} {P : Fin 8192 → Fin 128 → ℝ} {R : Fin 5 → Fin 128 → ℝ} {rt : Fin 8192 → Fin 5} {Q : Fin 16 → Fin 128 → ℝ} {sg : Fin 8192 → Fin 16}

theorem w2 (c : Dev nD) : stg2 V c = V c main_v0_0 := by
  funext i
  refine congrArg (V c main_v0_0) (funext fun a => ?_)
  apply Fin.ext
  match a with
  | ⟨0, _⟩ => show 0 * 8192 + 1 * (i 0).val = (i 0).val; omega
  | ⟨1, _⟩ => show 0 * 128 + 1 * (i 1).val = (i 1).val; omega
theorem w3 (c : Dev nD) : stg3 V c = V c main_v0_1 := by
  funext i
  refine congrArg (V c main_v0_1) (funext fun a => ?_)
  apply Fin.ext
  match a with
  | ⟨0, _⟩ => show 0 * 16 + 1 * (i 0).val = (i 0).val; omega
  | ⟨1, _⟩ => show 0 * 128 + 1 * (i 1).val = (i 1).val; omega
theorem w4 (c : Dev nD) : stg4 V c = V c main_arg6 := by
  funext i
  refine congrArg (V c main_arg6) (funext fun a => ?_)
  apply Fin.ext
  match a with
  | ⟨0, _⟩ => show 0 * 5 + 1 * (i 0).val = (i 0).val; omega
  | ⟨1, _⟩ => show 0 * 128 + 1 * (i 1).val = (i 1).val; omega
theorem w5 (c : Dev nD) : stg5 V c = V c main_arg7 := by
  funext i
  refine congrArg (V c main_arg7) (funext fun a => ?_)
  apply Fin.ext
  match a with
  | ⟨0, _⟩ => show 0 * 128 + 1 * (i 0).val = (i 0).val; omega
  | ⟨1, _⟩ => show 0 * 256 + 1 * (i 1).val = (i 1).val; omega
theorem w6 (c : Dev nD) : stg6 V c = V c main_arg8 := by
  funext i
  refine congrArg (V c main_arg8) (funext fun a => ?_)
  apply Fin.ext
  match a with
  | ⟨0, _⟩ => show 0 * 128 + 1 * (i 0).val = (i 0).val; omega
theorem w7 (c : Dev nD) : stg7 V c = V c main_arg9 := by
  funext i
  refine congrArg (V c main_arg9) (funext fun a => ?_)
  apply Fin.ext
  match a with
  | ⟨0, _⟩ => show 0 * 128 + 1 * (i 0).val = (i 0).val; omega
  | ⟨1, _⟩ => show 0 * 128 + 1 * (i 1).val = (i 1).val; omega
theorem w8 (c : Dev nD) : stg8 V c = V c main_arg10 := by
  funext i
  refine congrArg (V c main_arg10) (funext fun a => ?_)
  apply Fin.ext
  match a with
  | ⟨0, _⟩ => show 0 * 128 + 1 * (i 0).val = (i 0).val; omega
theorem w9 (c : Dev nD) : stg9 V c = V c main_arg11 := by
  funext i
  refine congrArg (V c main_arg11) (funext fun a => ?_)
  apply Fin.ext
  match a with
  | ⟨0, _⟩ => show 0 * 128 + 1 * (i 0).val = (i 0).val; omega
  | ⟨1, _⟩ => show 0 * 256 + 1 * (i 1).val = (i 1).val; omega
theorem w10 (c : Dev nD) : stg10 V c = V c main_arg12 := by
  funext i
  refine congrArg (V c main_arg12) (funext fun a => ?_)
  apply Fin.ext
  match a with
  | ⟨0, _⟩ => show 0 * 128 + 1 * (i 0).val = (i 0).val; omega
theorem w11 (c : Dev nD) : stg11 V c = V c main_arg13 := by
  funext i
  refine congrArg (V c main_arg13) (funext fun a => ?_)
  apply Fin.ext
  match a with
  | ⟨0, _⟩ => show 0 * 128 + 1 * (i 0).val = (i 0).val; omega
  | ⟨1, _⟩ => show 0 * 128 + 1 * (i 1).val = (i 1).val; omega
theorem w12 (c : Dev nD) : stg12 V c = V c main_arg14 := by
  funext i
  refine congrArg (V c main_arg14) (funext fun a => ?_)
  apply Fin.ext
  match a with
  | ⟨0, _⟩ => show 0 * 128 + 1 * (i 0).val = (i 0).val; omega
theorem w13 (c : Dev nD) : stg13 V c = V c main_arg15 := by
  funext i
  refine congrArg (V c main_arg15) (funext fun a => ?_)
  apply Fin.ext
  match a with
  | ⟨0, _⟩ => show 0 * 1 + 1 * (i 0).val = (i 0).val; omega
  | ⟨1, _⟩ => show 0 * 128 + 1 * (i 1).val = (i 1).val; omega
theorem w0 (c : Dev nD) (t : Fin 8192) : stg0 V c (ix1 t) = V c main_arg2 (ix1 (fst' t)) := by
  refine congrArg (V c main_arg2) (funext fun a => Fin.ext ?_)
  match a with
  | ⟨0, _⟩ => show 0 * 8192 + 1 * t.val = t.val; omega
theorem w1 (c : Dev nD) (t : Fin 8192) : stg1 V c (ix1 t) = V c main_arg3 (ix1 (fst' t)) := by
  refine congrArg (V c main_arg3) (funext fun a => Fin.ext ?_)
  match a with
  | ⟨0, _⟩ => show 0 * 8192 + 1 * t.val = t.val; omega
theorem out0_eq (c : Dev nD) : out0 V B c = (run V c).1.1 := by
  unfold out0
  refine Pipeline.Dat.arrAt_eq_of_cover (dat V B c) 14 _ (fun t _ => ?_) (fun i => ⟨t2_0, by decide, ?_⟩)
  · obtain rfl := fin_N2 t
    funext i
    refine congrArg ((run V c).1.1) (funext fun a => Fin.ext ?_)
    match a with
    | ⟨0, _⟩ => show (i 0).val = 0 * 16 + 1 * (i 0).val; omega
    | ⟨1, _⟩ => show (i 1).val = 0 * 1 + 1 * (i 1).val; omega
  · have e : ((cfg2.win 14).blk t2_0).view.emb i = i := funext fun a => Fin.ext (by
      match a with
      | ⟨0, _⟩ => show 0 * 16 + 1 * (i 0).val = (i 0).val; omega
      | ⟨1, _⟩ => show 0 * 1 + 1 * (i 1).val = (i 1).val; omega)
    rw [← e]; exact View.emb_mem_set _ i
theorem out1_eq (c : Dev nD) : out1 V B c = (run V c).1.2.1 := by
  unfold out1
  refine Pipeline.Dat.arrAt_eq_of_cover (dat V B c) 15 _ (fun t _ => ?_) (fun i => ⟨t2_0, by decide, ?_⟩)
  · obtain rfl := fin_N2 t
    funext i
    refine congrArg ((run V c).1.2.1) (funext fun a => Fin.ext ?_)
    match a with
    | ⟨0, _⟩ => show (i 0).val = 0 * 16 + 1 * (i 0).val; omega
    | ⟨1, _⟩ => show (i 1).val = 0 * 1 + 1 * (i 1).val; omega
  · have e : ((cfg2.win 15).blk t2_0).view.emb i = i := funext fun a => Fin.ext (by
      match a with
      | ⟨0, _⟩ => show 0 * 16 + 1 * (i 0).val = (i 0).val; omega
      | ⟨1, _⟩ => show 0 * 1 + 1 * (i 1).val = (i 1).val; omega)
    rw [← e]; exact View.emb_mem_set _ i
theorem out2_eq (c : Dev nD) : out2 V B c = (run V c).1.2.2 := by
  unfold out2
  refine Pipeline.Dat.arrAt_eq_of_cover (dat V B c) 16 _ (fun t _ => ?_) (fun i => ⟨t2_0, by decide, ?_⟩)
  · obtain rfl := fin_N2 t
    funext i
    refine congrArg ((run V c).1.2.2) (funext fun a => Fin.ext ?_)
    match a with
    | ⟨0, _⟩ => show (i 0).val = 0 * 16 + 1 * (i 0).val; omega
    | ⟨1, _⟩ => show (i 1).val = 0 * 128 + 1 * (i 1).val; omega
  · have e : ((cfg2.win 16).blk t2_0).view.emb i = i := funext fun a => Fin.ext (by
      match a with
      | ⟨0, _⟩ => show 0 * 16 + 1 * (i 0).val = (i 0).val; omega
      | ⟨1, _⟩ => show 0 * 128 + 1 * (i 1).val = (i 1).val; omega)
    rw [← e]; exact View.emb_mem_set _ i
theorem put14 (f) (inb) (w : S16x1.Idx → EReal) (L) :
    (View.whole cc2_stg14_0).writes (Elt Ideal) f (⟨Rect.unit (s := S16x1) ![0, 0] ![16, 1] inb, w⟩ :: L) = w :=
  View.read_writes_full (s := S16x1) (View.whole cc2_stg14_0) f inb w L
theorem put15 (f) (inb) (w : S16x1.Idx → EReal) (L) :
    (View.whole cc2_stg15_0).writes (Elt Ideal) f (⟨Rect.unit (s := S16x1) ![0, 0] ![16, 1] inb, w⟩ :: L) = w :=
  View.read_writes_full (s := S16x1) (View.whole cc2_stg15_0) f inb w L
theorem put16 (f) (inb) (w : S16x128.Idx → EReal) (L) :
    (View.whole cc2_stg16_0).writes (Elt Ideal) f (⟨Rect.unit (s := S16x128) ![0, 0] ![16, 128] inb, w⟩ :: L) = w :=
  View.read_writes_full (s := S16x128) (View.whole cc2_stg16_0) f inb w L

set_option maxHeartbeats 1000000 in
/-- The first call's running state. -/
theorem state (c : Dev nD) (H : Wins W P R rt Q sg (stg0 V c) (stg1 V c) (stg2 V c) (stg3 V c) (stg4 V c) (stg5 V c) (stg6 V c) (stg7 V c) (stg8 V c) (stg9 V c) (stg10 V c) (stg11 V c) (stg12 V c) (stg13 V c)) :
    State (fun b => 0 + den sg (fun t => score W (P t) (R (rt t)) (Q (sg t))) b) (fun b k => 0 + num sg (fun t => score W (P t) (R (rt t)) (Q (sg t))) (fun t => msg W (P t) (R (rt t)) k) b)
      (run V c).1.1 (run V c).1.2.1 (run V c).1.2.2 := by
  dsimp only [run, bodyRun2]
  dsimp only [bodyRun2.sl.H14_1, bodyRun2.sl.H15_1, bodyRun2.sl.H16_1, bodyRun2.sl.H17_1, bodyRun2.sl.H17_2, bodyRun2.sl.H18_1, bodyRun2.sl.H18_2, bodyRun2.sl.H19_1, bodyRun2.sl.H19_2, bodyRun2.sl.H20_2, bodyRun2.sl.H21_1, bodyRun2.sl.v0, bodyRun2.sl.v1, bodyRun2.sl.v2, bodyRun2.sl.v17, bodyRun2.sl.v42, bodyRun2.sl.v75, bodyRun2.sl.v87, bodyRun2.sl.v95, bodyRun2.sl.v106, bodyRun2.sl.v108, bodyRun2.sl.v110, bodyRun2.sl.r]
  refine State.eq ?_ ((put14 _ _ _ _).trans (back2 _ _ _ _ _)) ((put15 _ _ _ _).trans (back2 _ _ _ _ _)) ((put16 _ _ _ _).trans (back2 _ _ _ _ _))
  repeat rw [back2]
  refine block (W := W) (P := P) (Em := fun t => R (rt t)) (Q := Q) (sg := sg) (E := fun _ => 0) (Y := fun _ _ => 0) ?_ state_init
  refine ⟨?_, ⟨fun t => ⟨(rt t).val, by omega⟩, fun c k => if h : c.val < 5 then ∑ j, R ⟨c.val, h⟩ j * W.g1 k (hi j) else 0, ?_, ?_, fun t k => dif_pos (rt t).isLt⟩,
    ?_, ?_, ?_, ?_, ?_, ?_, ?_, ?_, ?_, ?_, ?_⟩
  · exact full2 _ H.h2 _
  · exact fullw _ H.h0 _
  · exact rtab _ _ _ _ (pay8_is (full2 _ H.h4 _) (right2 _ H.h5 _)) pay9_is
  · exact fullw _ H.h1 _
  · exact left2 _ H.h5 _
  · exact full1 _ H.h6 _
  · exact full2 _ H.h7 _
  · exact full1 _ H.h8 _
  · exact pay10_is (full2 _ H.h3 _) (right2 _ H.h9 _)
  · exact left2 _ H.h9 _
  · exact full1 _ H.h10 _
  · exact full2 _ H.h11 _
  · exact full1 _ H.h12 _
  · exact full2 _ H.h13 _

end Cert.Proof.Run.Region2

end
-- ==== Proof.Out3.lean ====
/-
  What the second TensorCore call leaves in its output, over the real numbers.
-/
module

public import proofs.«01_k».proof.Proof.Out

@[expose] public section

noncomputable section

namespace Cert.Proof.Run.Region3

open Cert.KernelIdeal Cert.KernelIdeal.Gen
open Idealize.ShloMosaic Idealize.ShloMosaic.ValueIdx Idealize.ShloMosaic.TcCoe
open Cert.Proof.Ops Cert.Proof.Spec Cert.Proof.Tc
open scoped BigOperators

variable (V : (c : Dev nD) → (b : Ref sig .tc) → Buf (Elt Ideal) ((c : Thread nD τ).loc b)) (B : ℕ)
variable {W : Wt} {P : Fin 8192 → Fin 128 → ℝ} {R : Fin 5 → Fin 128 → ℝ} {rt : Fin 8192 → Fin 5} {Q : Fin 16 → Fin 128 → ℝ} {sg : Fin 8192 → Fin 16}

theorem w2 (c : Dev nD) : stg2 V c = V c main_v1 := by
  funext i
  refine congrArg (V c main_v1) (funext fun a => ?_)
  apply Fin.ext
  match a with
  | ⟨0, _⟩ => show 0 * 8192 + 1 * (i 0).val = (i 0).val; omega
  | ⟨1, _⟩ => show 0 * 128 + 1 * (i 1).val = (i 1).val; omega
theorem w3 (c : Dev nD) : stg3 V c = V c main_v0_1 := by
  funext i
  refine congrArg (V c main_v0_1) (funext fun a => ?_)
  apply Fin.ext
  match a with
  | ⟨0, _⟩ => show 0 * 16 + 1 * (i 0).val = (i 0).val; omega
  | ⟨1, _⟩ => show 0 * 128 + 1 * (i 1).val = (i 1).val; omega
theorem w4 (c : Dev nD) : stg4 V c = V c main_arg6 := by
  funext i
  refine congrArg (V c main_arg6) (funext fun a => ?_)
  apply Fin.ext
  match a with
  | ⟨0, _⟩ => show 0 * 5 + 1 * (i 0).val = (i 0).val; omega
  | ⟨1, _⟩ => show 0 * 128 + 1 * (i 1).val = (i 1).val; omega
theorem w5 (c : Dev nD) : stg5 V c = V c main_arg7 := by
  funext i
  refine congrArg (V c main_arg7) (funext fun a => ?_)
  apply Fin.ext
  match a with
  | ⟨0, _⟩ => show 0 * 128 + 1 * (i 0).val = (i 0).val; omega
  | ⟨1, _⟩ => show 0 * 256 + 1 * (i 1).val = (i 1).val; omega
theorem w6 (c : Dev nD) : stg6 V c = V c main_arg8 := by
  funext i
  refine congrArg (V c main_arg8) (funext fun a => ?_)
  apply Fin.ext
  match a with
  | ⟨0, _⟩ => show 0 * 128 + 1 * (i 0).val = (i 0).val; omega
theorem w7 (c : Dev nD) : stg7 V c = V c main_arg9 := by
  funext i
  refine congrArg (V c main_arg9) (funext fun a => ?_)
  apply Fin.ext
  match a with
  | ⟨0, _⟩ => show 0 * 128 + 1 * (i 0).val = (i 0).val; omega
  | ⟨1, _⟩ => show 0 * 128 + 1 * (i 1).val = (i 1).val; omega
theorem w8 (c : Dev nD) : stg8 V c = V c main_arg10 := by
  funext i
  refine congrArg (V c main_arg10) (funext fun a => ?_)
  apply Fin.ext
  match a with
  | ⟨0, _⟩ => show 0 * 128 + 1 * (i 0).val = (i 0).val; omega
theorem w9 (c : Dev nD) : stg9 V c = V c main_arg11 := by
  funext i
  refine congrArg (V c main_arg11) (funext fun a => ?_)
  apply Fin.ext
  match a with
  | ⟨0, _⟩ => show 0 * 128 + 1 * (i 0).val = (i 0).val; omega
  | ⟨1, _⟩ => show 0 * 256 + 1 * (i 1).val = (i 1).val; omega
theorem w10 (c : Dev nD) : stg10 V c = V c main_arg12 := by
  funext i
  refine congrArg (V c main_arg12) (funext fun a => ?_)
  apply Fin.ext
  match a with
  | ⟨0, _⟩ => show 0 * 128 + 1 * (i 0).val = (i 0).val; omega
theorem w11 (c : Dev nD) : stg11 V c = V c main_arg13 := by
  funext i
  refine congrArg (V c main_arg13) (funext fun a => ?_)
  apply Fin.ext
  match a with
  | ⟨0, _⟩ => show 0 * 128 + 1 * (i 0).val = (i 0).val; omega
  | ⟨1, _⟩ => show 0 * 128 + 1 * (i 1).val = (i 1).val; omega
theorem w12 (c : Dev nD) : stg12 V c = V c main_arg14 := by
  funext i
  refine congrArg (V c main_arg14) (funext fun a => ?_)
  apply Fin.ext
  match a with
  | ⟨0, _⟩ => show 0 * 128 + 1 * (i 0).val = (i 0).val; omega
theorem w13 (c : Dev nD) : stg13 V c = V c main_arg15 := by
  funext i
  refine congrArg (V c main_arg15) (funext fun a => ?_)
  apply Fin.ext
  match a with
  | ⟨0, _⟩ => show 0 * 1 + 1 * (i 0).val = (i 0).val; omega
  | ⟨1, _⟩ => show 0 * 128 + 1 * (i 1).val = (i 1).val; omega
theorem w14 (c : Dev nD) : stg14 V c = V c main_v2_0 := by
  funext i
  refine congrArg (V c main_v2_0) (funext fun a => ?_)
  apply Fin.ext
  match a with
  | ⟨0, _⟩ => show 0 * 16 + 1 * (i 0).val = (i 0).val; omega
  | ⟨1, _⟩ => show 0 * 1 + 1 * (i 1).val = (i 1).val; omega
theorem w15 (c : Dev nD) : stg15 V c = V c main_v2_1 := by
  funext i
  refine congrArg (V c main_v2_1) (funext fun a => ?_)
  apply Fin.ext
  match a with
  | ⟨0, _⟩ => show 0 * 16 + 1 * (i 0).val = (i 0).val; omega
  | ⟨1, _⟩ => show 0 * 1 + 1 * (i 1).val = (i 1).val; omega
theorem w16 (c : Dev nD) : stg16 V c = V c main_v2_2 := by
  funext i
  refine congrArg (V c main_v2_2) (funext fun a => ?_)
  apply Fin.ext
  match a with
  | ⟨0, _⟩ => show 0 * 16 + 1 * (i 0).val = (i 0).val; omega
  | ⟨1, _⟩ => show 0 * 128 + 1 * (i 1).val = (i 1).val; omega
theorem w0 (c : Dev nD) (t : Fin 8192) : stg0 V c (ix1 t) = V c main_arg2 (ix1 (snd' t)) := by
  refine congrArg (V c main_arg2) (funext fun a => Fin.ext ?_)
  match a with
  | ⟨0, _⟩ => show 1 * 8192 + 1 * t.val = 8192 + t.val; omega
theorem w1 (c : Dev nD) (t : Fin 8192) : stg1 V c (ix1 t) = V c main_arg3 (ix1 (snd' t)) := by
  refine congrArg (V c main_arg3) (funext fun a => Fin.ext ?_)
  match a with
  | ⟨0, _⟩ => show 1 * 8192 + 1 * t.val = 8192 + t.val; omega
theorem out0_eq (c : Dev nD) : out0 V B c = (run V c).1 := by
  unfold out0
  refine Pipeline.Dat.arrAt_eq_of_cover (dat V B c) 17 _ (fun t _ => ?_) (fun i => ⟨t3_0, by decide, ?_⟩)
  · obtain rfl := fin_N3 t
    funext i
    refine congrArg ((run V c).1) (funext fun a => Fin.ext ?_)
    match a with
    | ⟨0, _⟩ => show (i 0).val = 0 * 16 + 1 * (i 0).val; omega
    | ⟨1, _⟩ => show (i 1).val = 0 * 128 + 1 * (i 1).val; omega
  · have e : ((cfg3.win 17).blk t3_0).view.emb i = i := funext fun a => Fin.ext (by
      match a with
      | ⟨0, _⟩ => show 0 * 16 + 1 * (i 0).val = (i 0).val; omega
      | ⟨1, _⟩ => show 0 * 128 + 1 * (i 1).val = (i 1).val; omega)
    rw [← e]; exact View.emb_mem_set _ i
theorem put17 (f) (inb) (w : S16x128.Idx → EReal) (L) :
    (View.whole cc3_stg17_0).writes (Elt Ideal) f (⟨Rect.unit (s := S16x128) ![0, 0] ![16, 128] inb, w⟩ :: L) = w :=
  View.read_writes_full (s := S16x128) (View.whole cc3_stg17_0) f inb w L

set_option maxHeartbeats 1000000 in
/-- The second call's quotient. -/
theorem quot (c : Dev nD) (H : Wins W P R rt Q sg (stg0 V c) (stg1 V c) (stg2 V c) (stg3 V c) (stg4 V c) (stg5 V c) (stg6 V c) (stg7 V c) (stg8 V c) (stg9 V c) (stg10 V c) (stg11 V c) (stg12 V c) (stg13 V c)) {E : Fin 16 → ℝ} {Y : Fin 16 → Fin 128 → ℝ}
    (hst : State E Y (stg14 V c) (stg15 V c) (stg16 V c))
    (hE : ∀ b, 0 ≤ E b + den sg (fun t => score W (P t) (R (rt t)) (Q (sg t))) b)
    (hY : ∀ b k, E b + den sg (fun t => score W (P t) (R (rt t)) (Q (sg t))) b = 0 →
      Y b k + num sg (fun t => score W (P t) (R (rt t)) (Q (sg t))) (fun t => msg W (P t) (R (rt t)) k) b = 0) :
    Is2 (M := 16) (K := 128) (run V c).1 fun b k =>
      (Y b k + num sg (fun t => score W (P t) (R (rt t)) (Q (sg t))) (fun t => msg W (P t) (R (rt t)) k) b)
        / (E b + den sg (fun t => score W (P t) (R (rt t)) (Q (sg t))) b) := by
  dsimp only [run, bodyRun3]
  dsimp only [bodyRun3.sl.H17_1, bodyRun3.sl.H18_1, bodyRun3.sl.H18_2, bodyRun3.sl.H19_1, bodyRun3.sl.H19_2, bodyRun3.sl.H20_1, bodyRun3.sl.H20_2, bodyRun3.sl.H21_2, bodyRun3.sl.H22_1, bodyRun3.sl.v0, bodyRun3.sl.v17, bodyRun3.sl.v42, bodyRun3.sl.v75, bodyRun3.sl.v87, bodyRun3.sl.v95, bodyRun3.sl.cst_75, bodyRun3.sl.r, bodyRun3.sl.r_1, bodyRun3.sl.v106, bodyRun3.sl.v109]
  rw [put17]
  repeat rw [back2]
  simp only [p2, p3, p4, p9, p10, p13, p14, p15, p16, p17, p18, p19, p20]
  refine out_is (block (W := W) (P := P) (Em := fun t => R (rt t)) (Q := Q) (sg := sg) (E := E) (Y := Y) ?_ (State.eq hst
    ((again6 _).trans (View.readAt_full (s := S16x1) (View.whole cc3_stg14_0) _ _)) ((again7 _).trans (View.readAt_full (s := S16x1) (View.whole cc3_stg15_0) _ _))
    ((again8 _).trans (View.readAt_full (s := S16x128) (View.whole cc3_stg16_0) _ _)))) hE hY
  refine ⟨?_, ⟨fun t => ⟨(rt t).val, by omega⟩, fun c k => if h : c.val < 5 then ∑ j, R ⟨c.val, h⟩ j * W.g1 k (hi j) else 0, ?_, ?_, fun t k => dif_pos (rt t).isLt⟩,
    ?_, ?_, ?_, ?_, ?_, ?_, ?_, ?_, ?_, ?_, ?_⟩
  · exact full2 _ H.h2 _
  · exact fullw _ H.h0 _
  · exact rtab _ _ _ _ (pay8_is (full2 _ H.h4 _) (right2 _ H.h5 _)) pay9_is
  · exact fullw _ H.h1 _
  · exact left2 _ H.h5 _
  · exact full1 _ H.h6 _
  · exact full2 _ H.h7 _
  · exact full1 _ H.h8 _
  · exact pay12_is (full2 _ H.h3 _) (right2 _ H.h9 _)
  · exact left2 _ H.h9 _
  · exact full1 _ H.h10 _
  · exact full2 _ H.h11 _
  · exact full1 _ H.h12 _
  · exact full2 _ H.h13 _

end Cert.Proof.Run.Region3

end
-- ==== Proof.HostOps.lean ====
/-
  The reference's indexed operations read at an index: a gather of rows, a gather of single entries, their range masks,
  a concatenation of two halves, a scatter that adds rows, and one that adds single entries.
-/
module

public import proofs.«01_k».proof.Proof.Ops

@[expose] public section

noncomputable section

namespace Cert.Proof.Ops

open Idealize.ShloMosaic Idealize.ShloMosaic.ValueIdx
open scoped BigOperators

section Gather
variable {α : Type}

/-- Rows of a table at row numbers. -/
abbrev rowsDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Entries of a vector at positions. -/
abbrev entsDims (N B : ℕ) (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

theorem gather_rows {N C B : ℕ} (hN : 0 < N) (wf)
    (x : (⟨2, ![N, C]⟩ : Shape).Idx → α) (idx : IVec ⟨2, ![B, 1]⟩ 32) (b : Fin B) (k : Fin C) :
    Host.gather (rowsDims N C B wf) x idx (ix2 b k) = x (ix2 ⟨min (idx (ix2 b 0)).toInt.toNat (N - 1), by omega⟩ k) := by
  have h0 : (rowsDims N C B wf).start (ix2 b k) idx 0 = min (idx (ix2 b 0)).toInt.toNat (N - 1) := by
    unfold GatherDims.start
    rw [dif_pos (show (0 : Fin 2) ∈ (rowsDims N C B wf).startIndexMap from List.mem_singleton.mpr rfl)]
    have hsi : (rowsDims N C B wf).siIdx (ix2 b k) ⟨List.idxOf (0 : Fin 2) (rowsDims N C B wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  have h1 : (rowsDims N C B wf).start (ix2 b k) idx 1 = 0 := by
    unfold GatherDims.start
    rw [dif_neg (show ¬ (1 : Fin 2) ∈ [(0 : Fin 2)] from by decide)]
  have o0 : (rowsDims N C B wf).offCoord (ix2 b k) 0 = 0 :=
    GatherDims.offCoord_eq_zero _ _ _ (fun h => ((GatherDims.mem_sKept _ _).mp h).1 (List.mem_singleton.mpr rfl))
  have o1 : (rowsDims N C B wf).offCoord (ix2 b k) 1 = k.val := rfl
  unfold Host.gather
  congr 1
  funext a
  refine Fin.ext ?_
  show (rowsDims N C B wf).start (ix2 b k) idx a + (rowsDims N C B wf).batchCoord (ix2 b k) a
      + (rowsDims N C B wf).offCoord (ix2 b k) a = _
  rw [GatherDims.batchCoord_eq_zero _ _ _ List.not_mem_nil]
  match a with
  | ⟨0, _⟩ =>
    show (rowsDims N C B wf).start (ix2 b k) idx 0 + 0 + (rowsDims N C B wf).offCoord (ix2 b k) 0 = _
    rw [h0, o0]
    rfl
  | ⟨1, _⟩ =>
    show (rowsDims N C B wf).start (ix2 b k) idx 1 + 0 + (rowsDims N C B wf).offCoord (ix2 b k) 1 = k.val
    rw [h1, o1]; omega

theorem gather_ents {N B : ℕ} (hN : 0 < N) (wf)
    (x : (⟨1, ![N]⟩ : Shape).Idx → α) (idx : IVec ⟨2, ![B, 1]⟩ 32) (b : Fin B) :
    Host.gather (entsDims N B wf) x idx (ix1 b) = x (ix1 ⟨min (idx (ix2 b 0)).toInt.toNat (N - 1), by omega⟩) := by
  unfold Host.gather
  congr 1
  funext a
  obtain rfl : a = 0 := Subsingleton.elim _ _
  refine Fin.ext ?_
  show (entsDims N B wf).start (ix1 b) idx 0 + (entsDims N B wf).batchCoord (ix1 b) 0 + (entsDims N B wf).offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entsDims N B wf).startIndexMap from List.mem_singleton.mpr rfl)]
  have hsi : (entsDims N B wf).siIdx (ix1 b) ⟨List.idxOf (0 : Fin 1) (entsDims N B wf).startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

end Gather

section Scatter

/-- Rows added into a table at row numbers. -/
abbrev addRows (N C B : ℕ) (wf : ScatterDims.WF ⟨2, ![N, C]⟩ ⟨2, ![B, 1]⟩ ⟨2, ![B, C]⟩ [1] [0] [0] 1) :
    ScatterDims ⟨2, ![N, C]⟩ ⟨2, ![B, 1]⟩ ⟨2, ![B, C]⟩ where
  updateWindowDims := [1]
  insertedWindowDims := [0]
  scatterDimsToOperandDims := [0]
  indexVectorDim := 1
  wf := wf

/-- Entries added into a vector at positions. -/
abbrev addEnts (N B : ℕ) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

theorem addRows_at {N C B : ℕ} (wf) (idx : IVec ⟨2, ![B, 1]⟩ 32) (p : Fin B → Fin N)
    (hp : ∀ b, (idx (ix2 b 0)).toInt = ((p b).val : ℤ)) (b : Fin B) (k : Fin C) :
    (addRows N C B wf).resultIdx? (ix2 b k) idx = some (ix2 (p b) k) := by
  have h0 : (addRows N C B wf).start (ix2 b k) idx 0 = ((p b).val : ℤ) := by
    unfold ScatterDims.start
    rw [dif_pos (show (0 : Fin 2) ∈ (addRows N C B wf).scatterDimsToOperandDims from List.mem_singleton.mpr rfl), ← hp b]
    congr 2
    funext c; refine Fin.ext ?_
    match c with
    | ⟨0, _⟩ => rfl
    | ⟨1, _⟩ => rfl
  have h1 : (addRows N C B wf).start (ix2 b k) idx 1 = 0 := by
    unfold ScatterDims.start
    rw [dif_neg (show ¬ (1 : Fin 2) ∈ [(0 : Fin 2)] from by decide)]
  have w0 : (addRows N C B wf).window (ix2 b k) 0 = 0 := rfl
  have w1 : (addRows N C B wf).window (ix2 b k) 1 = k.val := rfl
  unfold ScatterDims.resultIdx?
  rw [dif_pos (by
    intro a
    match a with
    | ⟨0, _⟩ =>
      show 0 ≤ (addRows N C B wf).start (ix2 b k) idx 0 + (addRows N C B wf).window (ix2 b k) 0
        ∧ (addRows N C B wf).start (ix2 b k) idx 0 + (addRows N C B wf).window (ix2 b k) 0 < (N : ℤ)
      rw [h0, w0]; have := (p b).isLt; omega
    | ⟨1, _⟩ =>
      show 0 ≤ (addRows N C B wf).start (ix2 b k) idx 1 + (addRows N C B wf).window (ix2 b k) 1
        ∧ (addRows N C B wf).start (ix2 b k) idx 1 + (addRows N C B wf).window (ix2 b k) 1 < (C : ℤ)
      rw [h1, w1]; have := k.isLt; omega)]
  congr 1
  funext a; refine Fin.ext ?_
  match a with
  | ⟨0, _⟩ =>
    show ((addRows N C B wf).start (ix2 b k) idx 0 + (addRows N C B wf).window (ix2 b k) 0).toNat = (p b).val
    rw [h0, w0]; omega
  | ⟨1, _⟩ =>
    show ((addRows N C B wf).start (ix2 b k) idx 1 + (addRows N C B wf).window (ix2 b k) 1).toNat = k.val
    rw [h1, w1]; omega

theorem addEnts_at {N B : ℕ} (wf) (idx : IVec ⟨2, ![B, 1]⟩ 32) (p : Fin B → Fin N)
    (hp : ∀ b, (idx (ix2 b 0)).toInt = ((p b).val : ℤ)) (b : Fin B) :
    (addEnts N B wf).resultIdx? (ix1 b) idx = some (ix1 (p b)) := by
  have h0 : (addEnts N B wf).start (ix1 b) idx 0 = ((p b).val : ℤ) := by
    unfold ScatterDims.start
    rw [dif_pos (show (0 : Fin 1) ∈ (addEnts N B wf).scatterDimsToOperandDims from List.mem_singleton.mpr rfl), ← hp b]
    congr 2
    funext c; refine Fin.ext ?_
    match c with
    | ⟨0, _⟩ => rfl
    | ⟨1, _⟩ => rfl
  have w0 : (addEnts N B wf).window (ix1 b) 0 = 0 := rfl
  unfold ScatterDims.resultIdx?
  rw [dif_pos (by
    intro a
    obtain rfl : a = 0 := Subsingleton.elim _ _
    show 0 ≤ (addEnts N B wf).start (ix1 b) idx 0 + (addEnts N B wf).window (ix1 b) 0
      ∧ (addEnts N B wf).start (ix1 b) idx 0 + (addEnts N B wf).window (ix1 b) 0 < (N : ℤ)
    rw [h0, w0]; have := (p b).isLt; omega)]
  congr 1
  funext a; refine Fin.ext ?_
  obtain rfl : a = 0 := Subsingleton.elim _ _
  show ((addEnts N B wf).start (ix1 b) idx 0 + (addEnts N B wf).window (ix1 b) 0).toNat = (p b).val
  rw [h0, w0]; omega

/-- Adding rows to zeros: each row is the sum of the rows sent to it. -/
theorem Is2.scatter {N C B : ℕ} (wf) {x : FVec Ideal ⟨2, ![N, C]⟩ .f32} {idx : IVec ⟨2, ![B, 1]⟩ 32}
    {u : FVec Ideal ⟨2, ![B, C]⟩ .f32} {U : Fin B → Fin C → ℝ} (p : Fin B → Fin N)
    (hp : ∀ b, (idx (ix2 b 0)).toInt = ((p b).val : ℤ)) (hx : Is2 x fun _ _ => 0) (hu : Is2 u U) :
    Is2 (Host.scatterAdd (addRows N C B wf) x idx u) fun n k => ∑ b, if p b = n then U b k else 0 := by
  intro n k
  show x (ix2 n k) + ∑ j ∈ Finset.univ.filter (fun j => (addRows N C B wf).resultIdx? j idx = some (ix2 n k)), u j = _
  rw [hx, EReal.coe_zero, zero_add, Finset.sum_filter, sum_idx2, coe_sum]
  refine Finset.sum_congr rfl fun b _ => ?_
  have : ∀ k' : Fin C, (if (addRows N C B wf).resultIdx? (ix2 b k') idx = some (ix2 n k) then u (ix2 b k') else 0)
      = if k' = k then (if p b = n then (U b k : EReal) else 0) else 0 := by
    intro k'
    rw [addRows_at wf idx p hp b k']
    by_cases h : p b = n ∧ k' = k
    · obtain ⟨rfl, rfl⟩ := h
      rw [if_pos rfl, if_pos rfl, if_pos rfl, hu]
    · rw [if_neg (fun e => h ⟨congrFun (Option.some.inj e) 0, congrFun (Option.some.inj e) 1⟩)]
      by_cases hk : k' = k
      · rw [if_pos hk, if_neg fun e => h ⟨e, hk⟩]
      · rw [if_neg hk]
  rw [Finset.sum_congr rfl fun k' _ => this k', Finset.sum_ite_eq' Finset.univ k, if_pos (Finset.mem_univ k)]
  split_ifs <;> simp

/-- Adding entries to zeros. -/
theorem Is1.scatter {N B : ℕ} (wf) {x : FVec Ideal ⟨1, ![N]⟩ .f32} {idx : IVec ⟨2, ![B, 1]⟩ 32}
    {u : FVec Ideal ⟨1, ![B]⟩ .f32} {U : Fin B → ℝ} (p : Fin B → Fin N)
    (hp : ∀ b, (idx (ix2 b 0)).toInt = ((p b).val : ℤ)) (hx : Is1 x fun _ => 0) (hu : Is1 u U) :
    Is1 (Host.scatterAdd (addEnts N B wf) x idx u) fun n => ∑ b, if p b = n then U b else 0 := by
  intro n
  show x (ix1 n) + ∑ j ∈ Finset.univ.filter (fun j => (addEnts N B wf).resultIdx? j idx = some (ix1 n)), u j = _
  rw [hx, EReal.coe_zero, zero_add, Finset.sum_filter, coe_sum]
  let e : Fin B ≃ (⟨1, ![B]⟩ : Shape).Idx := ⟨fun b => ix1 b, fun j => j 0, fun _ => rfl, fun j => (eq_ix1 j).symm⟩
  rw [← Equiv.sum_comp e]
  refine Finset.sum_congr rfl fun b _ => ?_
  show (if (addEnts N B wf).resultIdx? (ix1 b) idx = some (ix1 n) then u (ix1 b) else 0) = _
  rw [addEnts_at wf idx p hp b]
  by_cases h : p b = n
  · subst h; rw [if_pos rfl, if_pos rfl, hu]
  · rw [if_neg (fun e => h (congrFun (Option.some.inj e) 0)), if_neg h, EReal.coe_zero]

end Scatter

section Mask

/-- A row number in range, read by the reference: the wrapped number is itself, in range by its bits. -/
theorem wrap_eq (w : BitVec 32) (n : ℕ) (hn : n ≤ 2 ^ 31) (h : w.toNat < n) :
    Scalar.select (IntOp.cmpi .slt w 0#32) (w + BitVec.ofNat 32 n) w = w := by
  have : IntOp.cmpi .slt w 0#32 = 0#1 := by
    show BitVec.ofBool (w.slt 0#32) = 0#1
    have : w.slt 0#32 = false := by
      rw [BitVec.slt_eq_decide, decide_eq_false_iff_not, BitVec.toInt_eq_toNat_of_lt (by omega)]; simp
    rw [this]; rfl
  rw [this]; rfl

theorem toInt_small (w : BitVec 32) (n : ℕ) (hn : n ≤ 2 ^ 31) (h : w.toNat < n) : w.toInt = (w.toNat : ℤ) :=
  BitVec.toInt_eq_toNat_of_lt (by omega)

theorem in_bits (w : BitVec 32) (n : ℕ) (hn : n < 2 ^ 31) (h : w.toNat < n + 1) :
    IntOp.andi (IntOp.cmpi .sge w 0#32) (IntOp.cmpi .sle w (BitVec.ofNat 32 n)) = 1#1 := by
  have e1 : IntOp.cmpi .sge w 0#32 = 1#1 := by
    show BitVec.ofBool ((0#32 : BitVec 32).sle w) = 1#1
    have : (0#32 : BitVec 32).sle w = true := by
      rw [BitVec.sle_eq_decide, decide_eq_true_iff, BitVec.toInt_eq_toNat_of_lt (x := w) (by omega)]; simp
    rw [this]; rfl
  have e2 : IntOp.cmpi .sle w (BitVec.ofNat 32 n) = 1#1 := by
    show BitVec.ofBool (w.sle (BitVec.ofNat 32 n)) = 1#1
    have : w.sle (BitVec.ofNat 32 n) = true := by
      have hm : (BitVec.ofNat 32 n).toNat = n := by rw [BitVec.toNat_ofNat, Nat.mod_eq_of_lt (by omega)]
      rw [BitVec.sle_eq_decide, decide_eq_true_iff, BitVec.toInt_eq_toNat_of_lt (x := w) (by omega),
        BitVec.toInt_eq_toNat_of_lt (x := BitVec.ofNat 32 n) (by omega), hm]; omega
    rw [this]; rfl
  rw [e1, e2]; rfl

end Mask

end Cert.Proof.Ops

end
-- ==== Proof.RefValue.lean ====
/-
  The reference's result over the real numbers: from real weights, tables and biases and from indices in range, each
  result is the softmax's numerator over its denominator.
-/
module

public import proofs.«01_k».proof.Proof.Gen.ReferenceIdeal.Run
public import proofs.«01_k».proof.Proof.HostOps
public import proofs.«01_k».proof.Proof.Spec

@[expose] public section

noncomputable section

namespace Cert.Proof.Ref

open Cert.ReferenceIdeal Cert.ReferenceIdeal.Gen Cert.ReferenceIdeal.Value
open Idealize.ShloMosaic Idealize.ShloMosaic.ValueIdx Idealize.ShloMosaic.StableHlo
open Cert.Proof.Ops Cert.Proof.Spec
open scoped BigOperators

theorem congr2 {M K : ℕ} {x : (⟨2, ![M, K]⟩ : Shape).Idx → EReal} {X Y : Fin M → Fin K → ℝ} (h : Is2 x X)
    (e : ∀ i k, X i k = Y i k) : Is2 x Y := fun i k => by rw [h, e]

theorem congr1 {M : ℕ} {x : (⟨1, ![M]⟩ : Shape).Idx → EReal} {X Y : Fin M → ℝ} (h : Is1 x X)
    (e : ∀ i, X i = Y i) : Is1 x Y := fun i => by rw [h, e]

section Generic
variable {M K N B C : ℕ} {α : Type}

theorem sel_at {s : Shape} (c : s.Idx → BitVec 1) (x y : s.Idx → α) (i : s.Idx) : select c x y i = if c i = 1#1 then x i else y i := rfl

/-- A vector stood up as a column, read. -/
theorem col_at (hB : B ≠ 1) (h : (⟨1, ![B]⟩ : Shape).BroadcastsInDim ⟨2, ![B, 1]⟩ (![0] : Fin 1 → Fin 2)) (x : (⟨1, ![B]⟩ : Shape).Idx → α) (b : Fin B)
    (k : Fin 1) : broadcastInDim ⟨2, ![B, 1]⟩ ![0] h x (ix2 b k) = x (ix1 b) := by
  refine broadcastInDim_apply _ h x _ (ix1 b) fun a => ?_
  match a with
  | ⟨0, _⟩ => exact (if_neg hB).symm

/-- A vector over every column. -/
theorem over_at (hB : B ≠ 1) (h : (⟨1, ![B]⟩ : Shape).BroadcastsInDim ⟨2, ![B, C]⟩ (![0] : Fin 1 → Fin 2)) (x : (⟨1, ![B]⟩ : Shape).Idx → α) (b : Fin B)
    (k : Fin C) : broadcastInDim ⟨2, ![B, C]⟩ ![0] h x (ix2 b k) = x (ix1 b) := by
  refine broadcastInDim_apply _ h x _ (ix1 b) fun a => ?_
  match a with
  | ⟨0, _⟩ => exact (if_neg hB).symm

/-- A column over every column. -/
theorem colover_at (hB : B ≠ 1) (h : (⟨2, ![B, 1]⟩ : Shape).BroadcastsInDim ⟨2, ![B, C]⟩ (![0, 1] : Fin 2 → Fin 2)) (x : (⟨2, ![B, 1]⟩ : Shape).Idx → α) (b : Fin B)
    (k : Fin C) : broadcastInDim ⟨2, ![B, C]⟩ ![0, 1] h x (ix2 b k) = x (ix2 b 0) := by
  refine broadcastInDim_apply _ h x _ (ix2 b (0 : Fin 1)) fun a => ?_
  match a with
  | ⟨0, _⟩ => exact (if_neg hB).symm
  | ⟨1, _⟩ => rfl

/-- A vector laid as a row over every row. -/
theorem row_at (hK : K ≠ 1) (h : (⟨2, ![1, K]⟩ : Shape).BroadcastsInDim ⟨2, ![M, K]⟩ (![0, 1] : Fin 2 → Fin 2))
    (h' : (⟨1, ![K]⟩ : Shape).BroadcastsInDim ⟨2, ![1, K]⟩ (![1] : Fin 1 → Fin 2)) (x : (⟨1, ![K]⟩ : Shape).Idx → α) (i : Fin M) (k : Fin K) :
    broadcastInDim ⟨2, ![M, K]⟩ ![0, 1] h (broadcastInDim ⟨2, ![1, K]⟩ ![1] h' x) (ix2 i k) = x (ix1 k) := by
  rw [broadcastInDim_apply _ h _ _ (ix2 (0 : Fin 1) k) (fun a => by
      match a with
      | ⟨0, _⟩ => rfl
      | ⟨1, _⟩ => exact (if_neg hK).symm)]
  refine broadcastInDim_apply _ h' x _ (ix1 k) fun a => ?_
  match a with
  | ⟨0, _⟩ => exact (if_neg hK).symm

/-- One entry over a column. -/
theorem one_at (h : (⟨2, ![1, 1]⟩ : Shape).BroadcastsInDim ⟨2, ![M, 1]⟩ (![0, 1] : Fin 2 → Fin 2))
    (h' : (⟨1, ![1]⟩ : Shape).BroadcastsInDim ⟨2, ![1, 1]⟩ (![1] : Fin 1 → Fin 2)) (x : (⟨1, ![1]⟩ : Shape).Idx → α) (i : Fin M) (k : Fin 1) :
    broadcastInDim ⟨2, ![M, 1]⟩ ![0, 1] h (broadcastInDim ⟨2, ![1, 1]⟩ ![1] h' x) (ix2 i k) = x (ix1 0) := by
  rw [broadcastInDim_apply _ h _ _ (ix2 (0 : Fin 1) (0 : Fin 1)) (fun a => by
      match a with
      | ⟨0, _⟩ => rfl
      | ⟨1, _⟩ => rfl)]
  refine broadcastInDim_apply _ h' x _ (ix1 0) fun a => ?_
  match a with
  | ⟨0, _⟩ => rfl

theorem exp_sub {x y : FVec Ideal (⟨1, ![M]⟩ : Shape) .f32} {i : (⟨1, ![M]⟩ : Shape).Idx} {a b : ℝ} (hx : x i = (a : EReal)) (hy : y i = (b : EReal)) :
    Host.exp (subf x y) i = ((Real.exp (a - b) : ℝ) : EReal) := by
  show Ideal.exp ((x i : EReal) - y i) = _
  rw [hx, hy, ← EReal.coe_sub, exp_coe]

theorem div_at {x y : FVec Ideal (⟨1, ![M]⟩ : Shape) .f32} {i : (⟨1, ![M]⟩ : Shape).Idx} {a b : ℝ} (hb : b ≠ 0) (hx : x i = (a : EReal)) (hy : y i = (b : EReal)) :
    Host.divf x y i = ((a / b : ℝ) : EReal) := by
  show Ideal.div (x i) (y i) = _
  rw [hx, hy]; exact div_coe _ _ hb

/-- A vector stood up and laid over every column. -/
theorem colvec (hB : B ≠ 1) (h : (⟨2, ![B, 1]⟩ : Shape).BroadcastsInDim ⟨2, ![B, C]⟩ (![0, 1] : Fin 2 → Fin 2))
    (h' : (⟨1, ![B]⟩ : Shape).BroadcastsInDim ⟨2, ![B, 1]⟩ (![0] : Fin 1 → Fin 2)) {x : (⟨1, ![B]⟩ : Shape).Idx → EReal} {X : Fin B → ℝ} (hx : Is1 x X) :
    Is2 (broadcastInDim ⟨2, ![B, C]⟩ ![0, 1] h (broadcastInDim ⟨2, ![B, 1]⟩ ![0] h' x)) fun b _ => X b := by
  intro b k
  rw [colover_at hB, col_at hB, hx]

/-- A column as a vector. -/
theorem flat {x : (⟨2, ![M, 1]⟩ : Shape).Idx → EReal} {X : Fin M → Fin 1 → ℝ} (hx : Is2 x X) (h : (⟨2, ![M, 1]⟩ : Shape).ShapeCasts ⟨1, ![M]⟩) :
    Is1 (shapeCast ⟨1, ![M]⟩ x h) fun t => X t 0 := by
  intro t
  rw [shapeCast_apply x h (ix1 t) (ix2 t (0 : Fin 1)) (by
    rw [Shape.rowMajor_val_one, Shape.rowMajor_val_two]; show t.val * 1 + 0 = t.val; omega), hx]

theorem zeros2 (h : (⟨0, ![]⟩ : Shape).BroadcastsInDim ⟨2, ![M, K]⟩ (![] : Fin 0 → Fin 2)) :
    Is2 (broadcastInDim ⟨2, ![M, K]⟩ ![] h (constant (F := Ideal) ⟨0, ![]⟩ .f32 0x00000000#32)) fun _ _ => 0 := by
  intro i k; show Ideal.ofBits .f32 0x00000000#32 = _; rw [Ideal.ofBits_zero_f32, EReal.coe_zero]
theorem zeros1 (h : (⟨0, ![]⟩ : Shape).BroadcastsInDim ⟨1, ![M]⟩ (![] : Fin 0 → Fin 1)) :
    Is1 (broadcastInDim ⟨1, ![M]⟩ ![] h (constant (F := Ideal) ⟨0, ![]⟩ .f32 0x00000000#32)) fun _ => 0 := by
  intro i; show Ideal.ofBits .f32 0x00000000#32 = _; rw [Ideal.ofBits_zero_f32, EReal.coe_zero]

theorem transp {x : (⟨2, ![M, K]⟩ : Shape).Idx → EReal} {X : Fin M → Fin K → ℝ} (hx : Is2 x X)
    (h : (⟨2, ![M, K]⟩ : Shape).Transposes [1, 0] ⟨2, ![K, M]⟩) : Is2 (transpose ⟨2, ![K, M]⟩ [1, 0] x h) fun i k => X k i := by
  intro i k
  rw [transpose_apply _ x h _ (ix2 k i) (fun b => by
    match b with
    | ⟨0, _⟩ => rfl
    | ⟨1, _⟩ => rfl), hx]

theorem rowbias (hK : K ≠ 1) {x : (⟨1, ![K]⟩ : Shape).Idx → EReal} {X : Fin K → ℝ} (hx : Is1 x X)
    (h : (⟨2, ![1, K]⟩ : Shape).BroadcastsInDim ⟨2, ![M, K]⟩ (![0, 1] : Fin 2 → Fin 2))
    (h' : (⟨1, ![K]⟩ : Shape).BroadcastsInDim ⟨2, ![1, K]⟩ (![1] : Fin 1 → Fin 2)) :
    Is2 (broadcastInDim ⟨2, ![M, K]⟩ ![0, 1] h (broadcastInDim ⟨2, ![1, K]⟩ ![1] h' x)) fun _ k => X k := by
  intro i k; rw [row_at hK, hx]

/-- Two halves side by side. -/
theorem halves {x y : (⟨2, ![M, 128]⟩ : Shape).Idx → EReal} {X Y : Fin M → Fin 128 → ℝ} (hx : Is2 x X) (hy : Is2 y Y)
    (h : Shape.Concatenates [(⟨2, ![M, 128]⟩ : Shape), ⟨2, ![M, 128]⟩] ⟨2, ![M, 256]⟩ (1 : Fin 2)) :
    Is2 (concatenate ⟨2, ![M, 256]⟩ (1 : Fin 2) [⟨⟨2, ![M, 128]⟩, x⟩, ⟨⟨2, ![M, 128]⟩, y⟩] h)
      fun i k => if hk : k.val < 128 then X i ⟨k.val, hk⟩ else Y i ⟨k.val - 128, by omega⟩ := by
  intro i k
  beta_reduce
  by_cases hk : k.val < 128
  · rw [dif_pos hk, ← hx]
    refine concatenate_pair_apply_left (t := ⟨2, ![M, 256]⟩) (1 : Fin 2) x y h (ix2 i k) rfl (ix2 i ⟨k.val, hk⟩) fun b => ?_
    match b with
    | ⟨0, _⟩ => rfl
    | ⟨1, _⟩ => rfl
  · rw [dif_neg hk, ← hy]
    refine concatenate_pair_apply_right (t := ⟨2, ![M, 256]⟩) (1 : Fin 2) x y h (ix2 i k) rfl rfl (ix2 i ⟨k.val - 128, by omega⟩) (fun b hb => ?_) ?_
    · match b with
      | ⟨0, _⟩ => rfl
      | ⟨1, _⟩ => exact absurd rfl hb
    · show k.val - 128 + 128 = k.val; omega

theorem halves_sum {X Y : Fin 128 → ℝ} (g : Fin 256 → ℝ) :
    ∑ k : Fin 256, (if hk : k.val < 128 then X ⟨k.val, hk⟩ else Y ⟨k.val - 128, by omega⟩) * g k
      = ∑ j, X j * g (lo j) + ∑ j, Y j * g (hi j) := by
  rw [sum_halves]
  congr 1

/-- Row numbers in range, as the reference wraps them and stands them up. -/
theorem wrapped (hB : B ≠ 1) (hN : N ≤ 2 ^ 31) (w : (⟨1, ![B]⟩ : Shape).Idx → BitVec 32) (hw : ∀ b, (w (ix1 b)).toNat < N)
    (h : (⟨1, ![B]⟩ : Shape).BroadcastsInDim ⟨2, ![B, 1]⟩ (![0] : Fin 1 → Fin 2))
    (h0 : (⟨0, ![]⟩ : Shape).BroadcastsInDim ⟨1, ![B]⟩ (![] : Fin 0 → Fin 1)) (b : Fin B) (k : Fin 1) :
    broadcastInDim ⟨2, ![B, 1]⟩ ![0] h (select (cmpi .slt w (broadcastInDim ⟨1, ![B]⟩ ![] h0 (constantI ⟨0, ![]⟩ 32 0#32)))
      (addi w (broadcastInDim ⟨1, ![B]⟩ ![] h0 (constantI ⟨0, ![]⟩ 32 (BitVec.ofNat 32 N)))) w) (ix2 b k) = w (ix1 b) := by
  rw [col_at hB]
  exact wrap_eq (w (ix1 b)) N hN (hw b)

/-- The range mask of row numbers in range. -/
theorem masked {N' : ℕ} (hN' : N' < 2 ^ 31) (col : (⟨2, ![B, 1]⟩ : Shape).Idx → BitVec 32) (w : (⟨1, ![B]⟩ : Shape).Idx → BitVec 32)
    (hw : ∀ b, (w (ix1 b)).toNat < N' + 1) (hc : ∀ b k, col (ix2 b k) = w (ix1 b))
    (h1 : (⟨0, ![]⟩ : Shape).BroadcastsInDim ⟨2, ![B, 1]⟩ (![] : Fin 0 → Fin 2))
    (h2 : (⟨2, ![1, 1]⟩ : Shape).BroadcastsInDim ⟨2, ![B, 1]⟩ (![0, 1] : Fin 2 → Fin 2))
    (h3 : (⟨1, ![1]⟩ : Shape).BroadcastsInDim ⟨2, ![1, 1]⟩ (![1] : Fin 1 → Fin 2))
    (h4 : (⟨2, ![B, 1]⟩ : Shape).ReducesTo [1] ⟨1, ![B]⟩) (h5 : 0 < (⟨0, ![]⟩ : Shape).numel) (b : Fin B) :
    Host.reduce IntOp.andi (andi (cmpi .sge col (broadcastInDim ⟨2, ![B, 1]⟩ ![] h1 (constantI ⟨0, ![]⟩ 32 0#32)))
      (cmpi .sle col (broadcastInDim ⟨2, ![B, 1]⟩ ![0, 1] h2 (broadcastInDim ⟨2, ![1, 1]⟩ ![1] h3 (constantI ⟨1, ![1]⟩ 32 (BitVec.ofNat 32 N'))))))
      (constantI ⟨0, ![]⟩ 1 1#1) h4 h5 (ix1 b) = 1#1 := by
  refine Host.reduce_andi_one _ _ h4 h5 _ rfl fun i => ?_
  obtain ⟨b', k', rfl⟩ : ∃ (b' : Fin B) (k' : Fin 1), i = ix2 b' k' := ⟨_, _, eq_ix2 i⟩
  show IntOp.andi (IntOp.cmpi .sge (col (ix2 b' k')) 0#32) (IntOp.cmpi .sle (col (ix2 b' k')) (BitVec.ofNat 32 N')) = 1#1
  rw [hc]
  exact in_bits _ N' hN' (hw b')

/-- Rows taken at row numbers in range. -/
theorem take_rows {N' : ℕ} (hN : N = N' + 1) (hN' : N' < 2 ^ 31) (hB : B ≠ 1) (col : (⟨2, ![B, 1]⟩ : Shape).Idx → BitVec 32)
    (w : (⟨1, ![B]⟩ : Shape).Idx → BitVec 32)
    (hw : ∀ b, (w (ix1 b)).toNat < N) (hc : ∀ b k, col (ix2 b k) = w (ix1 b))
    (h0 : (⟨1, ![B]⟩ : Shape).BroadcastsInDim ⟨2, ![B, C]⟩ (![0] : Fin 1 → Fin 2))
    (h1 : (⟨0, ![]⟩ : Shape).BroadcastsInDim ⟨2, ![B, 1]⟩ (![] : Fin 0 → Fin 2))
    (h2 : (⟨2, ![1, 1]⟩ : Shape).BroadcastsInDim ⟨2, ![B, 1]⟩ (![0, 1] : Fin 2 → Fin 2))
    (h3 : (⟨1, ![1]⟩ : Shape).BroadcastsInDim ⟨2, ![1, 1]⟩ (![1] : Fin 1 → Fin 2))
    (h4 : (⟨2, ![B, 1]⟩ : Shape).ReducesTo [1] ⟨1, ![B]⟩) (h5 : 0 < (⟨0, ![]⟩ : Shape).numel)
    (wf) {x : FVec Ideal ⟨2, ![N, C]⟩ .f32} {X : Fin N → Fin C → ℝ} (hx : Is2 x X) (y : FVec Ideal ⟨2, ![B, C]⟩ .f32) :
    Is2 (select (broadcastInDim ⟨2, ![B, C]⟩ ![0] h0 (Host.reduce IntOp.andi (andi (cmpi .sge col (broadcastInDim ⟨2, ![B, 1]⟩ ![] h1 (constantI ⟨0, ![]⟩ 32 0#32)))
      (cmpi .sle col (broadcastInDim ⟨2, ![B, 1]⟩ ![0, 1] h2 (broadcastInDim ⟨2, ![1, 1]⟩ ![1] h3 (constantI ⟨1, ![1]⟩ 32 (BitVec.ofNat 32 N'))))))
      (constantI ⟨0, ![]⟩ 1 1#1) h4 h5)) (Host.gather (rowsDims N C B wf) x col) y) fun b k => X ⟨(w (ix1 b)).toNat, hw b⟩ k := by
  intro b k
  rw [sel_at]
  rw [over_at hB, masked hN' col w (fun b => hN ▸ hw b) hc, if_pos rfl, gather_rows (by omega) wf, hx]
  have : min (col (ix2 b 0)).toInt.toNat (N - 1) = (w (ix1 b)).toNat := by
    have := hw b
    rw [hc, toInt_small _ N (by omega) (hw b)]; simp; omega
  congr 2
  exact Fin.ext this

/-- Entries taken at positions in range. -/
theorem take_ents {N' : ℕ} (hN : N = N' + 1) (hN' : N' < 2 ^ 31) (col : (⟨2, ![B, 1]⟩ : Shape).Idx → BitVec 32)
    (w : (⟨1, ![B]⟩ : Shape).Idx → BitVec 32)
    (hw : ∀ b, (w (ix1 b)).toNat < N) (hc : ∀ b k, col (ix2 b k) = w (ix1 b))
    (h1 : (⟨0, ![]⟩ : Shape).BroadcastsInDim ⟨2, ![B, 1]⟩ (![] : Fin 0 → Fin 2))
    (h2 : (⟨2, ![1, 1]⟩ : Shape).BroadcastsInDim ⟨2, ![B, 1]⟩ (![0, 1] : Fin 2 → Fin 2))
    (h3 : (⟨1, ![1]⟩ : Shape).BroadcastsInDim ⟨2, ![1, 1]⟩ (![1] : Fin 1 → Fin 2))
    (h4 : (⟨2, ![B, 1]⟩ : Shape).ReducesTo [1] ⟨1, ![B]⟩) (h5 : 0 < (⟨0, ![]⟩ : Shape).numel)
    (wf) (x : FVec Ideal ⟨1, ![N]⟩ .f32) (y : FVec Ideal ⟨1, ![B]⟩ .f32) (b : Fin B) :
    select (Host.reduce IntOp.andi (andi (cmpi .sge col (broadcastInDim ⟨2, ![B, 1]⟩ ![] h1 (constantI ⟨0, ![]⟩ 32 0#32)))
      (cmpi .sle col (broadcastInDim ⟨2, ![B, 1]⟩ ![0, 1] h2 (broadcastInDim ⟨2, ![1, 1]⟩ ![1] h3 (constantI ⟨1, ![1]⟩ 32 (BitVec.ofNat 32 N'))))))
      (constantI ⟨0, ![]⟩ 1 1#1) h4 h5) (Host.gather (entsDims N B wf) x col) y (ix1 b) = x (ix1 ⟨(w (ix1 b)).toNat, hw b⟩) := by
  rw [sel_at]
  rw [masked hN' col w (fun b => hN ▸ hw b) hc, if_pos rfl, gather_ents (by omega) wf]
  have : min (col (ix2 b 0)).toInt.toNat (N - 1) = (w (ix1 b)).toNat := by
    have := hw b
    rw [hc, toInt_small _ N (by omega) (hw b)]; simp; omega
  congr 2
  exact Fin.ext this

end Generic

/-- A running maximum is at least its start and each entry it meets, and stays below the top. -/
theorem foldl_max_ge {ι : Type*} (g : ι → EReal) (l : List ι) (r : EReal) :
    r ≤ l.foldl (fun r n => max r (g n)) r ∧ ∀ n ∈ l, g n ≤ l.foldl (fun r n => max r (g n)) r := by
  induction l generalizing r with
  | nil => exact ⟨le_refl _, fun n hn => absurd hn List.not_mem_nil⟩
  | cons a l ih =>
    obtain ⟨h1, h2⟩ := ih (max r (g a))
    refine ⟨(le_max_left _ _).trans h1, fun n hn => ?_⟩
    rcases List.mem_cons.mp hn with rfl | hn
    · exact (le_max_right _ _).trans h1
    · exact h2 n hn
theorem foldl_max_lt {ι : Type*} (g : ι → EReal) (l : List ι) (r : EReal) (hr : r < ⊤) (hg : ∀ n, g n < ⊤) :
    l.foldl (fun r n => max r (g n)) r < ⊤ := by
  induction l generalizing r with
  | nil => exact hr
  | cons a l ih => exact ih _ (max_lt hr (hg a))

section Run

variable (V0 : Valuation τ sig (Elt Ideal))

abbrev a0 : S16.Idx → BitVec 32 := V0 (Proc.devRef .tc main_arg0)
abbrev a1 : S16384.Idx → BitVec 32 := V0 (Proc.devRef .tc main_arg1)
abbrev a2 : S16384.Idx → BitVec 32 := V0 (Proc.devRef .tc main_arg2)
abbrev a3 : S16384.Idx → BitVec 32 := V0 (Proc.devRef .tc main_arg3)

variable {W : Wt} {U I : Fin 100000 → Fin 128 → ℝ} {R : Fin 5 → Fin 128 → ℝ} {cst : ℝ}

/-- The reference's inputs: real numbers, and indices in range. -/
structure In (W : Wt) (U I : Fin 100000 → Fin 128 → ℝ) (R : Fin 5 → Fin 128 → ℝ) (cst : ℝ) : Prop where
  r0 : ∀ b, (a0 V0 (ix1 b)).toNat < 100000
  r1 : ∀ t, (a1 V0 (ix1 t)).toNat < 100000
  r2 : ∀ t, (a2 V0 (ix1 t)).toNat < 5
  r3 : ∀ t, (a3 V0 (ix1 t)).toNat < 16
  h4 : Is2 (M := 100000) (K := 128) (V0 (Proc.devRef .tc main_arg4)) U
  h5 : Is2 (M := 100000) (K := 128) (V0 (Proc.devRef .tc main_arg5)) I
  h6 : Is2 (M := 5) (K := 128) (V0 (Proc.devRef .tc main_arg6)) R
  h7 : Is2 (M := 128) (K := 256) (V0 (Proc.devRef .tc main_arg7)) W.g1
  h8 : Is1 (M := 128) (V0 (Proc.devRef .tc main_arg8)) W.g1b
  h9 : Is2 (M := 128) (K := 128) (V0 (Proc.devRef .tc main_arg9)) W.g2
  h10 : Is1 (M := 128) (V0 (Proc.devRef .tc main_arg10)) W.g2b
  h11 : Is2 (M := 128) (K := 256) (V0 (Proc.devRef .tc main_arg11)) W.a1
  h12 : Is1 (M := 128) (V0 (Proc.devRef .tc main_arg12)) W.a1b
  h13 : Is2 (M := 128) (K := 128) (V0 (Proc.devRef .tc main_arg13)) W.a2
  h14 : Is1 (M := 128) (V0 (Proc.devRef .tc main_arg14)) W.a2b
  h15 : Is2 (M := 1) (K := 128) (V0 (Proc.devRef .tc main_arg15)) W.a3
  h16 : Is1 (M := 1) (V0 (Proc.devRef .tc main_arg16)) fun _ => cst

variable {V0} (H : In V0 W U I R cst)

def In.P (t : Fin 16384) : Fin 128 → ℝ := U ⟨_, H.r1 t⟩
def In.Em (t : Fin 16384) : Fin 128 → ℝ := R ⟨_, H.r2 t⟩
def In.Q (b : Fin 16) : Fin 128 → ℝ := I ⟨_, H.r0 b⟩
def In.seg (t : Fin 16384) : Fin 16 := ⟨_, H.r3 t⟩
def In.S (t : Fin 16384) : ℝ := score W (H.P t) (H.Em t) (H.Q (H.seg t))
def In.Fj (t : Fin 16384) (k : Fin 128) : ℝ := msg W (H.P t) (H.Em t) k

include H in
theorem c0 : ∀ b k, res_main_call0_v5 V0 (ix2 b k) = a1 V0 (ix1 b) :=
  wrapped (by decide) (by decide) (a1 V0) H.r1 bcast_S16384_S16384x1_0 bcast_S_S16384
include H in
theorem c1 : ∀ b k, res_main_call1_v5 V0 (ix2 b k) = a2 V0 (ix1 b) :=
  wrapped (by decide) (by decide) (a2 V0) H.r2 bcast_S16384_S16384x1_0 bcast_S_S16384
include H in
theorem c2 : ∀ b k, res_main_call2_v5 V0 (ix2 b k) = a0 V0 (ix1 b) :=
  wrapped (by decide) (by decide) (a0 V0) H.r0 bcast_S16_S16x1_0 bcast_S_S16
include H in
theorem c3 : ∀ b k, res_main_call3_v5 V0 (ix2 b k) = a3 V0 (ix1 b) :=
  wrapped (by decide) (by decide) (a3 V0) H.r3 bcast_S16384_S16384x1_0 bcast_S_S16384
include H in
theorem c5 : ∀ b k, res_main_call5_v5 V0 (ix2 b k) = a3 V0 (ix1 b) :=
  wrapped (by decide) (by decide) (a3 V0) H.r3 bcast_S16384_S16384x1_0 bcast_S_S16384
include H in
theorem c6 : ∀ b k, res_main_call6_v5 V0 (ix2 b k) = a3 V0 (ix1 b) :=
  wrapped (by decide) (by decide) (a3 V0) H.r3 bcast_S16384_S16384x1_0 bcast_S_S16384

include H in
theorem v16_is : Is2 (M := 16384) (K := 128) (res_main_v16 V0) H.Fj := by
  have hp := take_rows (N := 100000) (N' := 99999) rfl (by decide) (by decide) _ (a1 V0) H.r1 (c0 H) bcast_S16384_S16384x128_0 bcast_S_S16384x1
    bcast_S1x1_S16384x1_0_1 bcast_S1_S1x1_1 reducesTo_S16384x1_S16384_d1 h_S_ (by exact gather_S100000x128_S16384x1_S16384x128_1_0_n_n_0_1_1128.wf) H.h4
    (broadcastInDim S16384x128 ![] bcast_S_S16384x128 (constant S_ .f32 0x7FC00000#32))
  have he := take_rows (N := 5) (N' := 4) rfl (by decide) (by decide) _ (a2 V0) H.r2 (c1 H) bcast_S16384_S16384x128_0 bcast_S_S16384x1
    bcast_S1x1_S16384x1_0_1 bcast_S1_S1x1_1 reducesTo_S16384x1_S16384_d1 h_S_ (by exact gather_S5x128_S16384x1_S16384x128_1_0_n_n_0_1_1128.wf) H.h6
    (broadcastInDim S16384x128 ![] bcast_S_S16384x128 (constant S_ .f32 0x7FC00000#32))
  have hc := halves hp he concatenates_S16384x128_S16384x128_S16384x256_d1
  have h1 := Is2.max (φ := .f32) (Is2.add (φ := .f32) (Is2.dg_nn (φ₁ := .f32) (φ₂ := .f32) (by exact dot_S16384x256_S256x128_S16384x128_1_0_0_1_n_n.wf) hc
    (transp H.h7 transposes_S128x256_S256x128_1_0)) (rowbias (M := 16384) (by decide) H.h8 bcast_S1x128_S16384x128_0_1 bcast_S128_S1x128_1))
    (zeros2 bcast_S_S16384x128)
  have h2 := Is2.max (φ := .f32) (Is2.add (φ := .f32) (Is2.dg_nn (φ₁ := .f32) (φ₂ := .f32) (by exact dot_S16384x128_S128x128_S16384x128_1_0_0_1_n_n.wf) h1
    (transp H.h9 transposes_S128x128_S128x128_1_0)) (rowbias (M := 16384) (by decide) H.h10 bcast_S1x128_S16384x128_0_1 bcast_S128_S1x128_1))
    (zeros2 bcast_S_S16384x128)
  refine congr2 (x := res_main_v16 V0) h2 fun t k => ?_
  unfold In.Fj msg hid In.P In.Em
  congr 2
  refine Finset.sum_congr rfl fun j _ => ?_
  congr 3
  exact halves_sum (fun k => W.g1 j k)

include H in
theorem v39_is : Is1 (M := 16384) (res_main_v39 V0) fun t => H.S t + cst := by
  have hq := take_rows (N := 100000) (N' := 99999) rfl (by decide) (by decide) _ (a0 V0) H.r0 (c2 H) bcast_S16_S16x128_0 bcast_S_S16x1
    bcast_S1x1_S16x1_0_1 bcast_S1_S1x1_1 reducesTo_S16x1_S16_d1 h_S_ (by exact gather_S100000x128_S16x1_S16x128_1_0_n_n_0_1_1128.wf) H.h5
    (broadcastInDim S16x128 ![] bcast_S_S16x128 (constant S_ .f32 0x7FC00000#32))
  have hpi := take_rows (N := 16) (N' := 15) rfl (by decide) (by decide) _ (a3 V0) H.r3 (c3 H) bcast_S16384_S16384x128_0 bcast_S_S16384x1
    bcast_S1x1_S16384x1_0_1 bcast_S1_S1x1_1 reducesTo_S16384x1_S16384_d1 h_S_ (by exact gather_S16x128_S16384x1_S16384x128_1_0_n_n_0_1_1128.wf) hq
    (broadcastInDim S16384x128 ![] bcast_S_S16384x128 (constant S_ .f32 0x7FC00000#32))
  have hc := halves (v16_is H) hpi concatenates_S16384x128_S16384x128_S16384x256_d1
  have h1 := Is2.max (φ := .f32) (Is2.add (φ := .f32) (Is2.dg_nn (φ₁ := .f32) (φ₂ := .f32) (by exact dot_S16384x256_S256x128_S16384x128_1_0_0_1_n_n.wf) hc
    (transp H.h11 transposes_S128x256_S256x128_1_0)) (rowbias (M := 16384) (by decide) H.h12 bcast_S1x128_S16384x128_0_1 bcast_S128_S1x128_1))
    (zeros2 bcast_S_S16384x128)
  have h2 := Is2.max (φ := .f32) (Is2.add (φ := .f32) (Is2.dg_nn (φ₁ := .f32) (φ₂ := .f32) (by exact dot_S16384x128_S128x128_S16384x128_1_0_0_1_n_n.wf) h1
    (transp H.h13 transposes_S128x128_S128x128_1_0)) (rowbias (M := 16384) (by decide) H.h14 bcast_S1x128_S16384x128_0_1 bcast_S128_S1x128_1))
    (zeros2 bcast_S_S16384x128)
  have hb : Is2 (M := 16384) (K := 1) (broadcastInDim S16384x1 ![0, 1] bcast_S1x1_S16384x1_0_1 (broadcastInDim S1x1 ![1] bcast_S1_S1x1_1 (V0 (Proc.devRef .tc main_arg16))))
      fun _ _ => cst := fun i k => (one_at bcast_S1x1_S16384x1_0_1 bcast_S1_S1x1_1 (V0 (Proc.devRef .tc main_arg16)) i k).trans (H.h16 0)
  have h3 := Is2.add (φ := .f32) (Is2.dg_nn (φ₁ := .f32) (φ₂ := .f32) (by exact dot_S16384x128_S128x1_S16384x1_1_0_0_1_n_n.wf) h2
    (transp H.h15 transposes_S1x128_S128x1_1_0)) hb
  refine congr1 (x := res_main_v39 V0) (flat h3 shapeCasts_S16384x1_S16384) fun t => ?_
  show _ + cst = _ + cst
  refine congrArg (fun y => y + cst) ?_
  unfold In.S score at2 at1
  refine Finset.sum_congr rfl fun j _ => ?_
  congr 3
  refine Finset.sum_congr rfl fun i _ => ?_
  congr 3
  exact halves_sum (fun k => W.a1 i k)

variable (V0) in
/-- The scores laid out by segment. -/
def bySeg : S16x16384.Idx → Ideal .f32 :=
  select (cmpi .eq (broadcastInDim S16x16384 ![0, 1] bcast_S1x16384_S16x16384_0_1 (broadcastInDim S1x16384 ![1] bcast_S16384_S1x16384_1 (V0 (Proc.devRef .tc main_arg3)))) (broadcastInDim S16x16384 ![0, 1] bcast_S16x1_S16x16384_0_1 (broadcastInDim S16x1 ![0] bcast_S16_S16x1_0 (iotaInDim S16 32 0)))) (broadcastInDim S16x16384 ![0, 1] bcast_S1x16384_S16x16384_0_1 (broadcastInDim S1x16384 ![1] bcast_S16384_S1x16384_1 (res_main_v39 V0))) (broadcastInDim S16x16384 ![] bcast_S_S16x16384 (id (constant (F := Ideal) S_ .f32 0xFF800000#32)))
variable (V0) in
/-- The segments' maxima. -/
def segmax : S16.Idx → Ideal .f32 :=
  Host.reduce (FloatOps.maximumf (F := Ideal) (φ := .f32)) (bySeg V0) (constant (F := Ideal) S_ .f32 0xFF800000#32) reducesTo_S16x16384_S16_d1 h_S_

theorem drop_row {M K : ℕ} (h : (⟨2, ![M, K]⟩ : Shape).ReducesTo [1] ⟨1, ![M]⟩) (b : Fin M) (t : Fin K) : h.drop (ix2 b t) = ix1 b := by
  funext a
  match a with
  | ⟨0, _⟩ => rfl

include H in
theorem bySeg_at (b : Fin 16) (u : Fin 16384) :
    bySeg V0 (ix2 b u) = if IntOp.cmpi .eq (a3 V0 (ix1 u)) (BitVec.ofNat 32 b.val) = 1#1 then ((H.S u + cst : ℝ) : EReal) else ⊥ := by
  have hbot : Ideal.ofBits .f32 0xFF800000#32 = ⊥ := by simp [Ideal.ofBits, Ideal.ieee]
  have e1 := row_at (M := 16) (by decide) bcast_S1x16384_S16x16384_0_1 bcast_S16384_S1x16384_1 (a3 V0) b u
  have e2 := (row_at (M := 16) (by decide) bcast_S1x16384_S16x16384_0_1 bcast_S16384_S1x16384_1 (res_main_v39 V0) b u).trans (v39_is H u)
  have e3 := (colover_at (by decide) bcast_S16x1_S16x16384_0_1 (broadcastInDim S16x1 ![0] bcast_S16_S16x1_0 (iotaInDim S16 32 0)) b u).trans
    (col_at (by decide) bcast_S16_S16x1_0 (iotaInDim S16 32 0) b 0)
  unfold bySeg
  rw [sel_at]
  show (if IntOp.cmpi .eq (broadcastInDim S16x16384 ![0, 1] bcast_S1x16384_S16x16384_0_1 (broadcastInDim S1x16384 ![1] bcast_S16384_S1x16384_1 (a3 V0)) (ix2 b u)) (broadcastInDim S16x16384 ![0, 1] bcast_S16x1_S16x16384_0_1 (broadcastInDim S16x1 ![0] bcast_S16_S16x1_0 (iotaInDim S16 32 0)) (ix2 b u)) = 1#1
    then _ else Ideal.ofBits .f32 0xFF800000#32) = _
  rw [hbot, e1, e3]
  by_cases h : IntOp.cmpi .eq (a3 V0 (ix1 u)) (BitVec.ofNat 32 b.val) = 1#1
  · rw [if_pos h]; exact (if_pos h).trans e2
  · rw [if_neg h]; exact if_neg h

include H in
/-- A segment with a token has a real maximum. -/
theorem segmax_real (t : Fin 16384) : ∃ r : ℝ, segmax V0 (ix1 (H.seg t)) = (r : EReal) := by
  have hbot : Ideal.ofBits .f32 0xFF800000#32 = ⊥ := by simp [Ideal.ofBits, Ideal.ieee]
  have hx := bySeg_at H
  unfold segmax
  generalize bySeg V0 = X at hx ⊢
  have hlt := foldl_max_lt (fun n => X (S16x16384.rowMajor.symm n))
    ((List.finRange S16x16384.numel).filter fun n => reducesTo_S16x16384_S16_d1.drop (S16x16384.rowMajor.symm n) = ix1 (H.seg t)) ⊥ bot_lt_top (fun n => by
      show X (S16x16384.rowMajor.symm n) < ⊤
      obtain ⟨b, u, hbu⟩ : ∃ (b : Fin 16) (u : Fin 16384), S16x16384.rowMajor.symm n = ix2 b u := ⟨_, _, eq_ix2 _⟩
      rw [hbu, hx]
      by_cases h : IntOp.cmpi .eq (a3 V0 (ix1 u)) (BitVec.ofNat 32 b.val) = 1#1
      · rw [if_pos h]; exact EReal.coe_lt_top _
      · rw [if_neg h]; exact bot_lt_top)
  have hge := (foldl_max_ge (fun n => X (S16x16384.rowMajor.symm n))
    ((List.finRange S16x16384.numel).filter fun n => reducesTo_S16x16384_S16_d1.drop (S16x16384.rowMajor.symm n) = ix1 (H.seg t)) ⊥).2
    (S16x16384.rowMajor (ix2 (H.seg t) t)) (by
      rw [List.mem_filter]
      refine ⟨List.mem_finRange _, ?_⟩
      rw [Equiv.symm_apply_apply, decide_eq_true_iff]
      exact drop_row _ _ _)
  rw [Equiv.symm_apply_apply, hx, if_pos (by
    have : BitVec.ofNat 32 (H.seg t).val = a3 V0 (ix1 t) := by
      show BitVec.ofNat 32 (a3 V0 (ix1 t)).toNat = _
      simp
    rw [this]; simp [IntOp.cmpi])] at hge
  have hred : Host.reduce (FloatOps.maximumf (F := Ideal) (φ := .f32)) X (constant (F := Ideal) S_ .f32 0xFF800000#32) reducesTo_S16x16384_S16_d1 h_S_ (ix1 (H.seg t))
      = ((List.finRange S16x16384.numel).filter fun n => reducesTo_S16x16384_S16_d1.drop (S16x16384.rowMajor.symm n) = ix1 (H.seg t)).foldl
        (fun r n => max r (X (S16x16384.rowMajor.symm n))) (Ideal.ofBits .f32 0xFF800000#32) := rfl
  rw [hred, hbot]
  generalize List.foldl _ _ _ = y at hlt hge ⊢
  induction y using EReal.rec with
  | bot => exact absurd hge (by simp)
  | top => exact absurd hlt (lt_irrefl _)
  | coe y => exact ⟨y, rfl⟩

include H in
theorem v51_is : ∃ m : Fin 16 → ℝ, Is1 (M := 16384) (res_main_v51 V0) fun t => Real.exp (H.S t + cst - m (H.seg t)) := by
  classical
  have hex : ∀ b : Fin 16, ∃ r : ℝ, (∃ t, H.seg t = b) → segmax V0 (ix1 b) = (r : EReal) := by
    intro b
    by_cases h : ∃ t, H.seg t = b
    · obtain ⟨t, rfl⟩ := h
      obtain ⟨r, hr⟩ := segmax_real H t
      exact ⟨r, fun _ => hr⟩
    · exact ⟨0, fun h' => absurd h' h⟩
  choose m hm using hex
  refine ⟨m, fun t => ?_⟩
  have e := take_ents (N := 16) (N' := 15) rfl (by decide) _ (a3 V0) H.r3 (c5 H) bcast_S_S16384x1
    bcast_S1x1_S16384x1_0_1 bcast_S1_S1x1_1 reducesTo_S16384x1_S16384_d1 h_S_ (by exact gather_S16_S16384x1_S16384_n_0_n_n_0_1_1.wf)
    (segmax V0) (broadcastInDim S16384 ![] bcast_S_S16384 (constant S_ .f32 0x7FC00000#32)) t
  have e' := e.trans (hm (H.seg t) ⟨t, rfl⟩)
  exact exp_sub (v39_is H t) e'

include H in
theorem div_is (dn : FVec Ideal S16 .f32) {D : Fin 16 → ℝ} {E : Fin 16384 → ℝ} (hD : Is1 (M := 16) dn D) (hE : Is1 (M := 16384) (res_main_v51 V0) E)
    (hpos : ∀ t, D (H.seg t) ≠ 0) :
    Is1 (M := 16384) (Host.divf (res_main_v51 V0) (select (Host.reduce IntOp.andi (andi (cmpi .sge (res_main_call6_v5 V0) (broadcastInDim S16384x1 ![] bcast_S_S16384x1 (constantI S_ 32 0#32))) (cmpi .sle (res_main_call6_v5 V0) (broadcastInDim S16384x1 ![0, 1] bcast_S1x1_S16384x1_0_1 (broadcastInDim S1x1 ![1] bcast_S1_S1x1_1 (constantI S1 32 15#32))))) (constantI S_ 1 1#1) reducesTo_S16384x1_S16384_d1 h_S_) (Host.gather gather_S16_S16384x1_S16384_n_0_n_n_0_1_1 dn (res_main_call6_v5 V0)) (broadcastInDim S16384 ![] bcast_S_S16384 (constant (F := Ideal) S_ .f32 0x7FC00000#32))))
      fun t => E t / D (H.seg t) := by
  intro t
  have e := (take_ents (N := 16) (N' := 15) rfl (by decide) _ (a3 V0) H.r3 (c6 H) bcast_S_S16384x1
    bcast_S1x1_S16384x1_0_1 bcast_S1_S1x1_1 reducesTo_S16384x1_S16384_d1 h_S_ (by exact gather_S16_S16384x1_S16384_n_0_n_n_0_1_1.wf)
    dn (broadcastInDim S16384 ![] bcast_S_S16384 (constant S_ .f32 0x7FC00000#32)) t).trans (hD (H.seg t))
  exact div_at (hpos t) (hE t) e

include H in
/-- The reference's result. -/
theorem out_is : Is2 (M := 16) (K := 128) (Host.scatterAdd scatter_S16x128_S16384x1_S16384x128_1_0_0_1 (broadcastInDim S16x128 ![] bcast_S_S16x128 (constant S_ .f32 0x00000000#32)) (broadcastInDim S16384x1 ![0] bcast_S16384_S16384x1_0 (V0 (Proc.devRef .tc main_arg3))) (mulf (res_main_v16 V0) (broadcastInDim S16384x128 ![0, 1] bcast_S16384x1_S16384x128_0_1 (broadcastInDim S16384x1 ![0] bcast_S16384_S16384x1_0 (Host.divf (res_main_v51 V0) (select (Host.reduce IntOp.andi (andi (cmpi .sge (res_main_call6_v5 V0) (broadcastInDim S16384x1 ![] bcast_S_S16384x1 (constantI S_ 32 0#32))) (cmpi .sle (res_main_call6_v5 V0) (broadcastInDim S16384x1 ![0, 1] bcast_S1x1_S16384x1_0_1 (broadcastInDim S1x1 ![1] bcast_S1_S1x1_1 (constantI S1 32 15#32))))) (constantI S_ 1 1#1) reducesTo_S16384x1_S16384_d1 h_S_) (Host.gather gather_S16_S16384x1_S16384_n_0_n_n_0_1_1 (Host.scatterAdd scatter_S16_S16384x1_S16384_n_0_0_1 (broadcastInDim S16 ![] bcast_S_S16 (constant S_ .f32 0x00000000#32)) (broadcastInDim S16384x1 ![0] bcast_S16384_S16384x1_0 (V0 (Proc.devRef .tc main_arg3))) (res_main_v51 V0)) (res_main_call6_v5 V0)) (broadcastInDim S16384 ![] bcast_S_S16384 (constant S_ .f32 0x7FC00000#32))))))))
      fun b k => num H.seg H.S (fun t => H.Fj t k) b / den H.seg H.S b := by
  obtain ⟨m, hm⟩ := v51_is H
  have hp : ∀ t : Fin 16384, ((broadcastInDim S16384x1 ![0] bcast_S16384_S16384x1_0 (V0 (Proc.devRef .tc main_arg3)) : S16384x1.Idx → BitVec 32) (ix2 t 0)).toInt
      = ((H.seg t).val : ℤ) := fun t =>
    (congrArg BitVec.toInt (col_at (by decide) bcast_S16384_S16384x1_0 (a3 V0) t 0)).trans (toInt_small _ 16 (by decide) (H.r3 t))
  have hden := Is1.scatter (by exact scatter_S16_S16384x1_S16384_n_0_0_1.wf) H.seg hp (zeros1 bcast_S_S16) hm
  have hdiv := div_is H _ hden hm (fun t => (den_pos H.seg (fun u => H.S u + cst - m (H.seg u)) t).ne')
  have hmul := Is2.mul (φ := .f32) (v16_is H) (colvec (C := 128) (by decide) bcast_S16384x1_S16384x128_0_1 bcast_S16384_S16384x1_0 hdiv)
  refine congr2 (Is2.scatter (by exact scatter_S16x128_S16384x1_S16384x128_1_0_0_1.wf) H.seg hp (zeros2 bcast_S_S16x128) hmul) fun b k => ?_
  exact softmax_shift H.seg H.S (fun t => H.Fj t k) m cst b

end Run

end Cert.Proof.Ref

end
-- ==== Proof.Alg.lean ====
/-
  The two programs' results agree: the kernel's run and the reference's both leave the softmax's numerator over its
  denominator, the same real numbers.
-/
module

public import proofs.«01_k».proof.Proof.Fine
public import proofs.«01_k».proof.Proof.Out3
public import proofs.«01_k».proof.Proof.RefValue

@[expose] public section

noncomputable section

namespace Cert.Proof.Run

open Cert.KernelIdeal Cert.KernelIdeal.Gen
open Idealize.ShloMosaic Idealize.ShloMosaic.ValueIdx Idealize.ShloMosaic.TcCoe
open Cert.Proof.Ops Cert.Proof.Spec Cert.Proof.Tc
open scoped BigOperators

/-- The rows a block's tokens gathered. -/
theorem pt_is {T : S100000x128.Idx → EReal} {u : S16384.Idx → BitVec 32} {U : Fin 100000 → Fin 128 → ℝ} {us : Fin 16384 → Fin 100000}
    (hT : Is2 (M := 100000) (K := 128) T U) (hu : ∀ t, u (ix1 t) = BitVec.ofNat 32 (us t).val) (b : ℕ) (hb : b ≤ 8192) :
    Is2 (M := 8192) (K := 128) (ptV (F := Ideal) T u b) fun t k => U (us ⟨b + t.val, by omega⟩) k := by
  intro t k
  have e1 : uAt (F := Ideal) u (b + t.val) = BitVec.ofNat 32 (us ⟨b + t.val, by omega⟩).val :=
    (congrArg (fun j => u (ix1 j)) (Fin.ext (Nat.mod_eq_of_lt (by omega)) : (⟨(b + t.val) % 16384, Nat.mod_lt _ (by decide)⟩ : Fin 16384) = ⟨b + t.val, by omega⟩)).trans (hu _)
  refine Eq.trans ?_ (hT (us ⟨b + t.val, by omega⟩) k)
  show tabAt (F := Ideal) T (uAt (F := Ideal) u (b + t.val)) k = _
  rw [e1]
  refine congrArg (fun j => T (ix2 j k)) (Fin.ext ?_)
  show (BitVec.ofNat 32 (us ⟨b + t.val, by omega⟩).val).toNat % 100000 = _
  have := (us ⟨b + t.val, by omega⟩).isLt
  rw [BitVec.toNat_ofNat]; omega

/-- The rows the nodes gathered. -/
theorem qj_is {T : S100000x128.Idx → EReal} {n : S16.Idx → BitVec 32} {I : Fin 100000 → Fin 128 → ℝ} {ns : Fin 16 → Fin 100000}
    (hT : Is2 (M := 100000) (K := 128) T I) (hn : ∀ b, n (ix1 b) = BitVec.ofNat 32 (ns b).val) :
    Is2 (M := 16) (K := 128) (qjV (F := Ideal) T n) fun b k => I (ns b) k := by
  intro b k
  refine Eq.trans ?_ (hT (ns b) k)
  show tabAt (F := Ideal) T (n (ix1 b)) k = _
  rw [hn]
  refine congrArg (fun j => T (ix2 j k)) (Fin.ext ?_)
  show (BitVec.ofNat 32 (ns b).val).toNat % 100000 = _
  have := (ns b).isLt
  rw [BitVec.toNat_ofNat]; omega

theorem to2 {M K : ℕ} {x y : (⟨2, ![M, K]⟩ : Shape).Idx → EReal} {X : Fin M → Fin K → ℝ} (h : Is2 y X) (e : x = y) : Is2 x X := e ▸ h
theorem to1 {M : ℕ} {x y : (⟨1, ![M]⟩ : Shape).Idx → EReal} {X : Fin M → ℝ} (h : Is1 y X) (e : x = y) : Is1 x X := e ▸ h

variable (m : (ℓ : Loc nD τ sig) → Buf (Elt Ideal) ℓ) (c : Dev nD)

/-- What the launch memory holds, over the real numbers. -/
structure Holds (W : Wt) (U I : Fin 100000 → Fin 128 → ℝ) (R : Fin 5 → Fin 128 → ℝ) (ns : Fin 16 → Fin 100000) (us : Fin 16384 → Fin 100000)
    (rs : Fin 16384 → Fin 5) (sg : Fin 16384 → Fin 16) : Prop where
  h0 : ∀ b, (m ((c : Thread nD τ).loc main_arg0) : S16.Idx → BitVec 32) (ix1 b) = BitVec.ofNat 32 (ns b).val
  h1 : ∀ t, (m ((c : Thread nD τ).loc main_arg1) : S16384.Idx → BitVec 32) (ix1 t) = BitVec.ofNat 32 (us t).val
  h2 : ∀ t, (m ((c : Thread nD τ).loc main_arg2) : S16384.Idx → BitVec 32) (ix1 t) = BitVec.ofNat 32 (rs t).val
  h3 : ∀ t, (m ((c : Thread nD τ).loc main_arg3) : S16384.Idx → BitVec 32) (ix1 t) = BitVec.ofNat 32 (sg t).val
  h4 : Is2 (M := 100000) (K := 128) (m ((c : Thread nD τ).loc main_arg4)) U
  h5 : Is2 (M := 100000) (K := 128) (m ((c : Thread nD τ).loc main_arg5)) I
  h6 : Is2 (M := 5) (K := 128) (m ((c : Thread nD τ).loc main_arg6)) R
  h7 : Is2 (M := 128) (K := 256) (m ((c : Thread nD τ).loc main_arg7)) W.g1
  h8 : Is1 (M := 128) (m ((c : Thread nD τ).loc main_arg8)) W.g1b
  h9 : Is2 (M := 128) (K := 128) (m ((c : Thread nD τ).loc main_arg9)) W.g2
  h10 : Is1 (M := 128) (m ((c : Thread nD τ).loc main_arg10)) W.g2b
  h11 : Is2 (M := 128) (K := 256) (m ((c : Thread nD τ).loc main_arg11)) W.a1
  h12 : Is1 (M := 128) (m ((c : Thread nD τ).loc main_arg12)) W.a1b
  h13 : Is2 (M := 128) (K := 128) (m ((c : Thread nD τ).loc main_arg13)) W.a2
  h14 : Is1 (M := 128) (m ((c : Thread nD τ).loc main_arg14)) W.a2b
  h15 : Is2 (M := 1) (K := 128) (m ((c : Thread nD τ).loc main_arg15)) W.a3

variable {m c} {W : Wt} {U I : Fin 100000 → Fin 128 → ℝ} {R : Fin 5 → Fin 128 → ℝ} {ns : Fin 16 → Fin 100000} {us : Fin 16384 → Fin 100000}
  {rs : Fin 16384 → Fin 5} {sg : Fin 16384 → Fin 16}

theorem wins2 (H : Holds m c W U I R ns us rs sg) :
    Wins W (fun t => U (us (fst' t))) R (fun t => rs (fst' t)) (fun b => I (ns b)) (fun t => sg (fst' t))
      (Region2.stg0 (V2 m) c) (Region2.stg1 (V2 m) c) (Region2.stg2 (V2 m) c) (Region2.stg3 (V2 m) c) (Region2.stg4 (V2 m) c) (Region2.stg5 (V2 m) c) (Region2.stg6 (V2 m) c)
      (Region2.stg7 (V2 m) c) (Region2.stg8 (V2 m) c) (Region2.stg9 (V2 m) c) (Region2.stg10 (V2 m) c) (Region2.stg11 (V2 m) c) (Region2.stg12 (V2 m) c) (Region2.stg13 (V2 m) c) := by
  refine ⟨fun t => ?_, fun t => ?_, ?_, ?_, ?_, ?_, ?_, ?_, ?_, ?_, ?_, ?_, ?_, ?_⟩
  · exact (Region2.w0 (V2 m) c t).trans (H.h2 (fst' t))
  · exact (Region2.w1 (V2 m) c t).trans (H.h3 (fst' t))
  · refine to2 ?_ (Region2.w2 (V2 m) c)
    exact Tc.congr2 (pt_is H.h4 H.h1 0 (by omega)) fun t k => congrArg (fun j => U (us j) k) (Fin.ext (Nat.zero_add _))
  · exact to2 (qj_is H.h5 H.h0) (Region2.w3 (V2 m) c)
  · exact to2 H.h6 (Region2.w4 (V2 m) c)
  · exact to2 H.h7 (Region2.w5 (V2 m) c)
  · exact to1 H.h8 (Region2.w6 (V2 m) c)
  · exact to2 H.h9 (Region2.w7 (V2 m) c)
  · exact to1 H.h10 (Region2.w8 (V2 m) c)
  · exact to2 H.h11 (Region2.w9 (V2 m) c)
  · exact to1 H.h12 (Region2.w10 (V2 m) c)
  · exact to2 H.h13 (Region2.w11 (V2 m) c)
  · exact to1 H.h14 (Region2.w12 (V2 m) c)
  · exact to2 H.h15 (Region2.w13 (V2 m) c)

theorem wins3 (H : Holds m c W U I R ns us rs sg) :
    Wins W (fun t => U (us (snd' t))) R (fun t => rs (snd' t)) (fun b => I (ns b)) (fun t => sg (snd' t))
      (Region3.stg0 (V3 m) c) (Region3.stg1 (V3 m) c) (Region3.stg2 (V3 m) c) (Region3.stg3 (V3 m) c) (Region3.stg4 (V3 m) c) (Region3.stg5 (V3 m) c) (Region3.stg6 (V3 m) c)
      (Region3.stg7 (V3 m) c) (Region3.stg8 (V3 m) c) (Region3.stg9 (V3 m) c) (Region3.stg10 (V3 m) c) (Region3.stg11 (V3 m) c) (Region3.stg12 (V3 m) c) (Region3.stg13 (V3 m) c) := by
  have hn : ∀ (b : Ref sig .tc), b ≠ main_v2_0 → b ≠ main_v2_1 → b ≠ main_v2_2 → V3 m c b = V2 m c b := fun b h0 h1 h2 => V3_ne m c b h0 h1 h2
  refine ⟨fun t => ?_, fun t => ?_, ?_, ?_, ?_, ?_, ?_, ?_, ?_, ?_, ?_, ?_, ?_, ?_⟩
  · exact (Region3.w0 (V3 m) c t).trans ((congrFun (hn main_arg2 (by decide) (by decide) (by decide)) _).trans (H.h2 (snd' t)))
  · exact (Region3.w1 (V3 m) c t).trans ((congrFun (hn main_arg3 (by decide) (by decide) (by decide)) _).trans (H.h3 (snd' t)))
  · exact to2 (pt_is H.h4 H.h1 8192 (by omega)) ((Region3.w2 (V3 m) c).trans (hn main_v1 (by decide) (by decide) (by decide)))
  · exact to2 (qj_is H.h5 H.h0) ((Region3.w3 (V3 m) c).trans (hn main_v0_1 (by decide) (by decide) (by decide)))
  · exact to2 H.h6 ((Region3.w4 (V3 m) c).trans (hn main_arg6 (by decide) (by decide) (by decide)))
  · exact to2 H.h7 ((Region3.w5 (V3 m) c).trans (hn main_arg7 (by decide) (by decide) (by decide)))
  · exact to1 H.h8 ((Region3.w6 (V3 m) c).trans (hn main_arg8 (by decide) (by decide) (by decide)))
  · exact to2 H.h9 ((Region3.w7 (V3 m) c).trans (hn main_arg9 (by decide) (by decide) (by decide)))
  · exact to1 H.h10 ((Region3.w8 (V3 m) c).trans (hn main_arg10 (by decide) (by decide) (by decide)))
  · exact to2 H.h11 ((Region3.w9 (V3 m) c).trans (hn main_arg11 (by decide) (by decide) (by decide)))
  · exact to1 H.h12 ((Region3.w10 (V3 m) c).trans (hn main_arg12 (by decide) (by decide) (by decide)))
  · exact to2 H.h13 ((Region3.w11 (V3 m) c).trans (hn main_arg13 (by decide) (by decide) (by decide)))
  · exact to1 H.h14 ((Region3.w12 (V3 m) c).trans (hn main_arg14 (by decide) (by decide) (by decide)))
  · exact to2 H.h15 ((Region3.w13 (V3 m) c).trans (hn main_arg15 (by decide) (by decide) (by decide)))

/-- The kernel's result. -/
theorem kernel_is (H : Holds m c W U I R ns us rs sg) :
    Is2 (M := 16) (K := 128) (V4 m c main_v3) fun b k =>
      num sg (fun t => score W (U (us t)) (R (rs t)) (I (ns (sg t)))) (fun t => msg W (U (us t)) (R (rs t)) k) b
        / den sg (fun t => score W (U (us t)) (R (rs t)) (I (ns (sg t)))) b := by
  have hV4 : V4 m c main_v3 = (Region3.run (V3 m) c).1 := (Function.update_self _ _ _).trans (Region3.out0_eq (V3 m) 16 c)
  have e0 : Region3.stg14 (V3 m) c = (Region2.run (V2 m) c).1.1 := (Region3.w14 (V3 m) c).trans
    (((Function.update_of_ne (by decide) _ _).trans ((Function.update_of_ne (by decide) _ _).trans (Function.update_self _ _ _))).trans (Region2.out0_eq (V2 m) 16 c))
  have e1 : Region3.stg15 (V3 m) c = (Region2.run (V2 m) c).1.2.1 := (Region3.w15 (V3 m) c).trans
    (((Function.update_of_ne (by decide) _ _).trans (Function.update_self _ _ _)).trans (Region2.out1_eq (V2 m) 16 c))
  have e2 : Region3.stg16 (V3 m) c = (Region2.run (V2 m) c).1.2.2 := (Region3.w16 (V3 m) c).trans
    ((Function.update_self _ _ _).trans (Region2.out2_eq (V2 m) 16 c))
  have hst := (Region2.state (V2 m) c (wins2 H)).eq e0 e1 e2
  have hd : ∀ b, 0 + den (fun t => sg (fst' t)) (fun t => score W (U (us (fst' t))) (R (rs (fst' t))) (I (ns (sg (fst' t))))) b
      + den (fun t => sg (snd' t)) (fun t => score W (U (us (snd' t))) (R (rs (snd' t))) (I (ns (sg (snd' t))))) b
      = den sg (fun t => score W (U (us t)) (R (rs t)) (I (ns (sg t)))) b := fun b => by rw [den_blocks, zero_add]
  have hk : ∀ b k, 0 + num (fun t => sg (fst' t)) (fun t => score W (U (us (fst' t))) (R (rs (fst' t))) (I (ns (sg (fst' t))))) (fun t => msg W (U (us (fst' t))) (R (rs (fst' t))) k) b
      + num (fun t => sg (snd' t)) (fun t => score W (U (us (snd' t))) (R (rs (snd' t))) (I (ns (sg (snd' t))))) (fun t => msg W (U (us (snd' t))) (R (rs (snd' t))) k) b
      = num sg (fun t => score W (U (us t)) (R (rs t)) (I (ns (sg t)))) (fun t => msg W (U (us t)) (R (rs t)) k) b := fun b k => by rw [num_blocks, zero_add]
  refine to2 (Tc.congr2 (Region3.quot (V3 m) c (wins3 H) hst (fun b => ?_) (fun b k h => ?_)) fun b k => ?_) hV4
  · rw [hd]; exact den_nonneg _ _ _
  · rw [hd] at h; rw [hk]; exact num_of_den _ _ _ _ h
  · rw [hd, hk]

end Cert.Proof.Run

namespace Cert.Proof

open Idealize.ShloMosaic Idealize.ShloMosaic.ValueIdx Idealize.ShloMosaic.TcCoe Idealize.SL.Sem
open Cert.Proof.Ops Cert.Proof.Spec

theorem reals2 {M K : ℕ} {x : FVec Ideal (⟨2, ![M, K]⟩ : Shape) .f32} (h : Real' x) : ∃ X : Fin M → Fin K → ℝ, Is2 x X :=
  ⟨fun i k => (h (ix2 i k)).choose, fun i k => (h (ix2 i k)).choose_spec⟩
theorem reals1 {M : ℕ} {x : FVec Ideal (⟨1, ![M]⟩ : Shape) .f32} (h : Real' x) : ∃ X : Fin M → ℝ, Is1 x X :=
  ⟨fun i => (h (ix1 i)).choose, fun i => (h (ix1 i)).choose_spec⟩

theorem word {n : ℕ} {x y : BitVec 32} (h : y.toNat < n) (e : y = x) : x = BitVec.ofNat 32 (⟨y.toNat, h⟩ : Fin n).val := by
  subst e
  show y = BitVec.ofNat 32 y.toNat
  simp

section
open Cert.ReferenceIdeal Cert.ReferenceIdeal.Value

variable {m : (ℓ : Loc Cert.KernelIdeal.nD Cert.KernelIdeal.τ Cert.KernelIdeal.sig) → Buf (Elt Ideal) ℓ} {m' : (ℓ : Loc nD τ sig) → Buf (Elt Ideal) ℓ}

/-- The two results, as the two runs leave them, are the same. -/
theorem same_result (c : Dev nD) (hpre : Cert.Pre_KernelIdeal_in_range_finite m)
    (hag : m' ((c.tc : Thread nD τ).loc main_arg0) = m ((c.tc : Thread Cert.KernelIdeal.nD Cert.KernelIdeal.τ).loc Cert.KernelIdeal.main_arg0)
      ∧ m' ((c.tc : Thread nD τ).loc main_arg1) = m ((c.tc : Thread Cert.KernelIdeal.nD Cert.KernelIdeal.τ).loc Cert.KernelIdeal.main_arg1)
      ∧ m' ((c.tc : Thread nD τ).loc main_arg2) = m ((c.tc : Thread Cert.KernelIdeal.nD Cert.KernelIdeal.τ).loc Cert.KernelIdeal.main_arg2)
      ∧ m' ((c.tc : Thread nD τ).loc main_arg3) = m ((c.tc : Thread Cert.KernelIdeal.nD Cert.KernelIdeal.τ).loc Cert.KernelIdeal.main_arg3)
      ∧ m' ((c.tc : Thread nD τ).loc main_arg4) = m ((c.tc : Thread Cert.KernelIdeal.nD Cert.KernelIdeal.τ).loc Cert.KernelIdeal.main_arg4)
      ∧ m' ((c.tc : Thread nD τ).loc main_arg5) = m ((c.tc : Thread Cert.KernelIdeal.nD Cert.KernelIdeal.τ).loc Cert.KernelIdeal.main_arg5)
      ∧ m' ((c.tc : Thread nD τ).loc main_arg6) = m ((c.tc : Thread Cert.KernelIdeal.nD Cert.KernelIdeal.τ).loc Cert.KernelIdeal.main_arg6)
      ∧ m' ((c.tc : Thread nD τ).loc main_arg7) = m ((c.tc : Thread Cert.KernelIdeal.nD Cert.KernelIdeal.τ).loc Cert.KernelIdeal.main_arg7)
      ∧ m' ((c.tc : Thread nD τ).loc main_arg8) = m ((c.tc : Thread Cert.KernelIdeal.nD Cert.KernelIdeal.τ).loc Cert.KernelIdeal.main_arg8)
      ∧ m' ((c.tc : Thread nD τ).loc main_arg9) = m ((c.tc : Thread Cert.KernelIdeal.nD Cert.KernelIdeal.τ).loc Cert.KernelIdeal.main_arg9)
      ∧ m' ((c.tc : Thread nD τ).loc main_arg10) = m ((c.tc : Thread Cert.KernelIdeal.nD Cert.KernelIdeal.τ).loc Cert.KernelIdeal.main_arg10)
      ∧ m' ((c.tc : Thread nD τ).loc main_arg11) = m ((c.tc : Thread Cert.KernelIdeal.nD Cert.KernelIdeal.τ).loc Cert.KernelIdeal.main_arg11)
      ∧ m' ((c.tc : Thread nD τ).loc main_arg12) = m ((c.tc : Thread Cert.KernelIdeal.nD Cert.KernelIdeal.τ).loc Cert.KernelIdeal.main_arg12)
      ∧ m' ((c.tc : Thread nD τ).loc main_arg13) = m ((c.tc : Thread Cert.KernelIdeal.nD Cert.KernelIdeal.τ).loc Cert.KernelIdeal.main_arg13)
      ∧ m' ((c.tc : Thread nD τ).loc main_arg14) = m ((c.tc : Thread Cert.KernelIdeal.nD Cert.KernelIdeal.τ).loc Cert.KernelIdeal.main_arg14)
      ∧ m' ((c.tc : Thread nD τ).loc main_arg15) = m ((c.tc : Thread Cert.KernelIdeal.nD Cert.KernelIdeal.τ).loc Cert.KernelIdeal.main_arg15)
      ∧ m' ((c.tc : Thread nD τ).loc main_arg16) = m ((c.tc : Thread Cert.KernelIdeal.nD Cert.KernelIdeal.τ).loc Cert.KernelIdeal.main_arg16)) (z : S16x128.Idx → EReal)
    (hz : ∀ {W U I R cst}, Ref.In (StableHlo.launchContents m' c) W U I R cst → ∀ H : Ref.In (StableHlo.launchContents m' c) W U I R cst,
      Is2 (M := 16) (K := 128) z fun b k => num H.seg H.S (fun t => H.Fj t k) b / den H.seg H.S b) :
    z = Run.V4 m c Cert.KernelIdeal.main_v3 := by
  obtain ⟨e0, e1, e2, e3, e4, e5, e6, e7, e8, e9, e10, e11, e12, e13, e14, e15, e16⟩ := hag
  have f := fine_of_pre (hpre c)
  obtain ⟨U, hU⟩ := reals2 (M := 100000) (K := 128) f.h4
  obtain ⟨I, hI⟩ := reals2 (M := 100000) (K := 128) f.h5
  obtain ⟨R, hR⟩ := reals2 (M := 5) (K := 128) f.h6
  obtain ⟨g1, hg1⟩ := reals2 (M := 128) (K := 256) f.h7
  obtain ⟨g1b, hg1b⟩ := reals1 (M := 128) f.h8
  obtain ⟨g2, hg2⟩ := reals2 (M := 128) (K := 128) f.h9
  obtain ⟨g2b, hg2b⟩ := reals1 (M := 128) f.h10
  obtain ⟨a1, ha1⟩ := reals2 (M := 128) (K := 256) f.h11
  obtain ⟨a1b, ha1b⟩ := reals1 (M := 128) f.h12
  obtain ⟨a2, ha2⟩ := reals2 (M := 128) (K := 128) f.h13
  obtain ⟨a2b, ha2b⟩ := reals1 (M := 128) f.h14
  obtain ⟨a3, ha3⟩ := reals2 (M := 1) (K := 128) f.h15
  obtain ⟨cst, hc⟩ := reals1 (M := 1) f.h16
  have H : Ref.In (StableHlo.launchContents m' c) ⟨g1, g1b, g2, g2b, a1, a1b, a2, a2b, a3⟩ U I R (cst 0) := {
    r0 := fun b => (congrArg BitVec.toNat (congrFun e0 (ix1 b))).trans_lt (f.h0 (ix1 b))
    r1 := fun b => (congrArg BitVec.toNat (congrFun e1 (ix1 b))).trans_lt (f.h1 (ix1 b))
    r2 := fun b => (congrArg BitVec.toNat (congrFun e2 (ix1 b))).trans_lt (f.h2 (ix1 b))
    r3 := fun b => (congrArg BitVec.toNat (congrFun e3 (ix1 b))).trans_lt (f.h3 (ix1 b))
    h4 := Run.to2 hU e4
    h5 := Run.to2 hI e5
    h6 := Run.to2 hR e6
    h7 := Run.to2 hg1 e7
    h8 := Run.to1 hg1b e8
    h9 := Run.to2 hg2 e9
    h10 := Run.to1 hg2b e10
    h11 := Run.to2 ha1 e11
    h12 := Run.to1 ha1b e12
    h13 := Run.to2 ha2 e13
    h14 := Run.to1 ha2b e14
    h15 := Run.to2 ha3 e15
    h16 := Run.to1 (Ref.congr1 hc fun i => congrArg cst (Subsingleton.elim i 0)) e16 }
  have K : Run.Holds m c ⟨g1, g1b, g2, g2b, a1, a1b, a2, a2b, a3⟩ U I R (fun b => ⟨_, H.r0 b⟩) (fun t => ⟨_, H.r1 t⟩) (fun t => ⟨_, H.r2 t⟩) H.seg := {
    h0 := fun b => word (H.r0 b) (congrFun e0 (ix1 b))
    h1 := fun t => word (H.r1 t) (congrFun e1 (ix1 t))
    h2 := fun t => word (H.r2 t) (congrFun e2 (ix1 t))
    h3 := fun t => word (H.r3 t) (congrFun e3 (ix1 t))
    h4 := hU
    h5 := hI
    h6 := hR
    h7 := hg1
    h8 := hg1b
    h9 := hg2
    h10 := hg2b
    h11 := ha1
    h12 := ha1b
    h13 := ha2
    h14 := ha2b
    h15 := ha3 }
  funext i
  rw [eq_ix2 i]
  exact (hz H H (i 0) (i 1)).trans (Run.kernel_is K (i 0) (i 1)).symm

end

theorem algebraic : Cert.algebraic_KernelIdeal_ReferenceIdeal_pre_in_range_finite := by
  intro m g m' g' hpre hag
  refine ⟨fun c => Run.V4 m c Cert.KernelIdeal.main_v3, ?_, ?_⟩
  · exact (θ_run Cert.KernelIdeal.defs _ _).mono (fun r h c => ⟨h.1 c Cert.KernelIdeal.main_v3 rfl, args_kept (F := Ideal) m h c⟩)
      (Run.run_main (F := Ideal) m g (ok_fine m hpre))
  · refine (θ_run Cert.ReferenceIdeal.defs _ _).mono (fun r h c => ⟨(h c).1.trans ?_, (h c).2⟩) (Cert.ReferenceIdeal.Value.run (F := Ideal) m' g')
    exact same_result c hpre (hag c) _ fun _ H => Ref.out_is H

end Cert.Proof

end
-- ==== Proof.lean ====
/-
  The claim, put together from the frames and the equality of the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_rows_in_range
public import proofs.«01_k».proof.Proof.Gen.Pre_in_range_finite
public import proofs.«01_k».proof.Proof.Gen.ReferenceIdeal.Run
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_rows_in_range.Gen.facts,
    Cert.Pre_in_range_finite.Gen.facts, frame_kernel, frame_ideal, frame_ideal_fine, frame_reference, frame_reference_fine,
    trivial, algebraic⟩

end Cert.Proof

end
